-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_Qkv1RefIdeal (m : (ℓ : Loc Cert.Qkv1RefIdeal.nD Cert.Qkv1RefIdeal.τ Cert.Qkv1RefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Qkv0 (m : (ℓ : Loc Cert.Qkv0.nD Cert.Qkv0.τ Cert.Qkv0.sig) → Buf (Elt Bits) ℓ) : Prop :=
  True

def Pre_Qkv0Ideal (m : (ℓ : Loc Cert.Qkv0Ideal.nD Cert.Qkv0Ideal.τ Cert.Qkv0Ideal.sig) → Buf (Elt Ideal) ℓ) : Prop :=
  True

def Pre_Qkv0RefIdeal (m : (ℓ : Loc Cert.Qkv0RefIdeal.nD Cert.Qkv0RefIdeal.τ Cert.Qkv0RefIdeal.sig) → Buf (Elt Ideal) ℓ) : Prop :=
  True

def Pre_Feat (m : (ℓ : Loc Cert.Feat.nD Cert.Feat.τ Cert.Feat.sig) → Buf (Elt Bits) ℓ) : Prop :=
  True

def Pre_FeatIdeal (m : (ℓ : Loc Cert.FeatIdeal.nD Cert.FeatIdeal.τ Cert.FeatIdeal.sig) → Buf (Elt Ideal) ℓ) : Prop :=
  True

def Pre_FeatRefIdeal (m : (ℓ : Loc Cert.FeatRefIdeal.nD Cert.FeatRefIdeal.τ Cert.FeatRefIdeal.sig) → Buf (Elt Ideal) ℓ) : Prop :=
  True

def Pre_GProj (m : (ℓ : Loc Cert.GProj.nD Cert.GProj.τ Cert.GProj.sig) → Buf (Elt Bits) ℓ) : Prop :=
  True

def Pre_GProjIdeal (m : (ℓ : Loc Cert.GProjIdeal.nD Cert.GProjIdeal.τ Cert.GProjIdeal.sig) → Buf (Elt Ideal) ℓ) : Prop :=
  True

def Pre_GProjRefIdeal (m : (ℓ : Loc Cert.GProjRefIdeal.nD Cert.GProjRefIdeal.τ Cert.GProjRefIdeal.sig) → Buf (Elt Ideal) ℓ) : Prop :=
  True

def Pre_OGate (m : (ℓ : Loc Cert.OGate.nD Cert.OGate.τ Cert.OGate.sig) → Buf (Elt Bits) ℓ) : Prop :=
  True

def Pre_OGateIdeal (m : (ℓ : Loc Cert.OGateIdeal.nD Cert.OGateIdeal.τ Cert.OGateIdeal.sig) → Buf (Elt Ideal) ℓ) : Prop :=
  True

def Pre_OGateRefIdeal (m : (ℓ : Loc Cert.OGateRefIdeal.nD Cert.OGateRefIdeal.τ Cert.OGateRefIdeal.sig) → Buf (Elt Ideal) ℓ) : Prop :=
  True

def Pre_Lora (m : (ℓ : Loc Cert.Lora.nD Cert.Lora.τ Cert.Lora.sig) → Buf (Elt Bits) ℓ) : Prop :=
  True

def Pre_LoraIdeal (m : (ℓ : Loc Cert.LoraIdeal.nD Cert.LoraIdeal.τ Cert.LoraIdeal.sig) → Buf (Elt Ideal) ℓ) : Prop :=
  True

def Pre_LoraRefIdeal (m : (ℓ : Loc Cert.LoraRefIdeal.nD Cert.LoraRefIdeal.τ Cert.LoraRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))) = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite_router [hPre_finite_router : Cert.Pre_finite_router.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite_router.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ r.2.sem = fun _ => 0)

def quiescent_Qkv1RefIdeal [hQkv1RefIdeal : Cert.Qkv1RefIdeal.Facts] : Prop :=
  ∀ (m : (ℓ : Loc Cert.Qkv1RefIdeal.nD Cert.Qkv1RefIdeal.τ Cert.Qkv1RefIdeal.sig) → Buf (Elt Ideal) ℓ) (g : Dev Cert.Qkv1RefIdeal.nD → PrngReg), Pre_Qkv1RefIdeal m →
    θ_run (Cert.Qkv1RefIdeal.defs (F := Ideal)) (onTc (τ := Cert.Qkv1RefIdeal.τ) (Cert.Qkv1RefIdeal.main (F := Ideal))) ⟨m, fun _ => 0, g⟩ (fun r => (∀ c : Dev Cert.Qkv1RefIdeal.nD,
      r.2.mem ((c.tc : Thread Cert.Qkv1RefIdeal.nD Cert.Qkv1RefIdeal.τ).loc Cert.Qkv1RefIdeal.main_arg0) = m ((c.tc : Thread Cert.Qkv1RefIdeal.nD Cert.Qkv1RefIdeal.τ).loc Cert.Qkv1RefIdeal.main_arg0)
      ∧ r.2.mem ((c.tc : Thread Cert.Qkv1RefIdeal.nD Cert.Qkv1RefIdeal.τ).loc Cert.Qkv1RefIdeal.main_arg1) = m ((c.tc : Thread Cert.Qkv1RefIdeal.nD Cert.Qkv1RefIdeal.τ).loc Cert.Qkv1RefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Qkv0 [hQkv0 : Cert.Qkv0.Facts] : Prop :=
  ∀ (m : (ℓ : Loc Cert.Qkv0.nD Cert.Qkv0.τ Cert.Qkv0.sig) → Buf (Elt Bits) ℓ) (g : Dev Cert.Qkv0.nD → PrngReg), Pre_Qkv0 m →
    θ_run (Cert.Qkv0.defs (F := Bits)) (onTc (τ := Cert.Qkv0.τ) (Cert.Qkv0.main (F := Bits))) ⟨m, fun _ => 0, g⟩ (fun r => (∀ c : Dev Cert.Qkv0.nD,
      r.2.mem ((c.tc : Thread Cert.Qkv0.nD Cert.Qkv0.τ).loc Cert.Qkv0.main_arg0) = m ((c.tc : Thread Cert.Qkv0.nD Cert.Qkv0.τ).loc Cert.Qkv0.main_arg0)
      ∧ r.2.mem ((c.tc : Thread Cert.Qkv0.nD Cert.Qkv0.τ).loc Cert.Qkv0.main_arg1) = m ((c.tc : Thread Cert.Qkv0.nD Cert.Qkv0.τ).loc Cert.Qkv0.main_arg1))
      ∧ r.2.sem = fun _ => 0)

def quiescent_Qkv0Ideal [hQkv0Ideal : Cert.Qkv0Ideal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg), Pre_Qkv0Ideal m →
    θ_run (Cert.Qkv0Ideal.defs (F := Ideal)) (onTc (τ := Cert.Qkv0Ideal.τ) (Cert.Qkv0Ideal.main (F := Ideal))) ⟨m, fun _ => 0, g⟩ (fun r => (∀ c : Dev Cert.Qkv0Ideal.nD,
      r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
      ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1))
      ∧ r.2.sem = fun _ => 0)

def quiescent_Qkv0RefIdeal [hQkv0RefIdeal : Cert.Qkv0RefIdeal.Facts] : Prop :=
  ∀ (m : (ℓ : Loc Cert.Qkv0RefIdeal.nD Cert.Qkv0RefIdeal.τ Cert.Qkv0RefIdeal.sig) → Buf (Elt Ideal) ℓ) (g : Dev Cert.Qkv0RefIdeal.nD → PrngReg), Pre_Qkv0RefIdeal m →
    θ_run (Cert.Qkv0RefIdeal.defs (F := Ideal)) (onTc (τ := Cert.Qkv0RefIdeal.τ) (Cert.Qkv0RefIdeal.main (F := Ideal))) ⟨m, fun _ => 0, g⟩ (fun r => (∀ c : Dev Cert.Qkv0RefIdeal.nD,
      r.2.mem ((c.tc : Thread Cert.Qkv0RefIdeal.nD Cert.Qkv0RefIdeal.τ).loc Cert.Qkv0RefIdeal.main_arg0) = m ((c.tc : Thread Cert.Qkv0RefIdeal.nD Cert.Qkv0RefIdeal.τ).loc Cert.Qkv0RefIdeal.main_arg0)
      ∧ r.2.mem ((c.tc : Thread Cert.Qkv0RefIdeal.nD Cert.Qkv0RefIdeal.τ).loc Cert.Qkv0RefIdeal.main_arg1) = m ((c.tc : Thread Cert.Qkv0RefIdeal.nD Cert.Qkv0RefIdeal.τ).loc Cert.Qkv0RefIdeal.main_arg1))
      ∧ r.2.sem = fun _ => 0)

def quiescent_Feat [hFeat : Cert.Feat.Facts] : Prop :=
  ∀ (m : (ℓ : Loc Cert.Feat.nD Cert.Feat.τ Cert.Feat.sig) → Buf (Elt Bits) ℓ) (g : Dev Cert.Feat.nD → PrngReg), Pre_Feat m →
    θ_run (Cert.Feat.defs (F := Bits)) (onTc (τ := Cert.Feat.τ) (Cert.Feat.main (F := Bits))) ⟨m, fun _ => 0, g⟩ (fun r => (∀ c : Dev Cert.Feat.nD,
      r.2.mem ((c.tc : Thread Cert.Feat.nD Cert.Feat.τ).loc Cert.Feat.main_arg0) = m ((c.tc : Thread Cert.Feat.nD Cert.Feat.τ).loc Cert.Feat.main_arg0)
      ∧ r.2.mem ((c.tc : Thread Cert.Feat.nD Cert.Feat.τ).loc Cert.Feat.main_arg1) = m ((c.tc : Thread Cert.Feat.nD Cert.Feat.τ).loc Cert.Feat.main_arg1))
      ∧ r.2.sem = fun _ => 0)

def quiescent_FeatIdeal [hFeatIdeal : Cert.FeatIdeal.Facts] : Prop :=
  ∀ (m : (ℓ : Loc Cert.FeatIdeal.nD Cert.FeatIdeal.τ Cert.FeatIdeal.sig) → Buf (Elt Ideal) ℓ) (g : Dev Cert.FeatIdeal.nD → PrngReg), Pre_FeatIdeal m →
    θ_run (Cert.FeatIdeal.defs (F := Ideal)) (onTc (τ := Cert.FeatIdeal.τ) (Cert.FeatIdeal.main (F := Ideal))) ⟨m, fun _ => 0, g⟩ (fun r => (∀ c : Dev Cert.FeatIdeal.nD,
      r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
      ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1))
      ∧ r.2.sem = fun _ => 0)

def quiescent_FeatRefIdeal [hFeatRefIdeal : Cert.FeatRefIdeal.Facts] : Prop :=
  ∀ (m : (ℓ : Loc Cert.FeatRefIdeal.nD Cert.FeatRefIdeal.τ Cert.FeatRefIdeal.sig) → Buf (Elt Ideal) ℓ) (g : Dev Cert.FeatRefIdeal.nD → PrngReg), Pre_FeatRefIdeal m →
    θ_run (Cert.FeatRefIdeal.defs (F := Ideal)) (onTc (τ := Cert.FeatRefIdeal.τ) (Cert.FeatRefIdeal.main (F := Ideal))) ⟨m, fun _ => 0, g⟩ (fun r => (∀ c : Dev Cert.FeatRefIdeal.nD,
      r.2.mem ((c.tc : Thread Cert.FeatRefIdeal.nD Cert.FeatRefIdeal.τ).loc Cert.FeatRefIdeal.main_arg0) = m ((c.tc : Thread Cert.FeatRefIdeal.nD Cert.FeatRefIdeal.τ).loc Cert.FeatRefIdeal.main_arg0)
      ∧ r.2.mem ((c.tc : Thread Cert.FeatRefIdeal.nD Cert.FeatRefIdeal.τ).loc Cert.FeatRefIdeal.main_arg1) = m ((c.tc : Thread Cert.FeatRefIdeal.nD Cert.FeatRefIdeal.τ).loc Cert.FeatRefIdeal.main_arg1))
      ∧ r.2.sem = fun _ => 0)

def quiescent_GProj [hGProj : Cert.GProj.Facts] : Prop :=
  ∀ (m : (ℓ : Loc Cert.GProj.nD Cert.GProj.τ Cert.GProj.sig) → Buf (Elt Bits) ℓ) (g : Dev Cert.GProj.nD → PrngReg), Pre_GProj m →
    θ_run (Cert.GProj.defs (F := Bits)) (onTc (τ := Cert.GProj.τ) (Cert.GProj.main (F := Bits))) ⟨m, fun _ => 0, g⟩ (fun r => (∀ c : Dev Cert.GProj.nD,
      r.2.mem ((c.tc : Thread Cert.GProj.nD Cert.GProj.τ).loc Cert.GProj.main_arg0) = m ((c.tc : Thread Cert.GProj.nD Cert.GProj.τ).loc Cert.GProj.main_arg0)
      ∧ r.2.mem ((c.tc : Thread Cert.GProj.nD Cert.GProj.τ).loc Cert.GProj.main_arg1) = m ((c.tc : Thread Cert.GProj.nD Cert.GProj.τ).loc Cert.GProj.main_arg1))
      ∧ r.2.sem = fun _ => 0)

def quiescent_GProjIdeal [hGProjIdeal : Cert.GProjIdeal.Facts] : Prop :=
  ∀ (m : (ℓ : Loc Cert.GProjIdeal.nD Cert.GProjIdeal.τ Cert.GProjIdeal.sig) → Buf (Elt Ideal) ℓ) (g : Dev Cert.GProjIdeal.nD → PrngReg), Pre_GProjIdeal m →
    θ_run (Cert.GProjIdeal.defs (F := Ideal)) (onTc (τ := Cert.GProjIdeal.τ) (Cert.GProjIdeal.main (F := Ideal))) ⟨m, fun _ => 0, g⟩ (fun r => (∀ c : Dev Cert.GProjIdeal.nD,
      r.2.mem ((c.tc : Thread Cert.GProjIdeal.nD Cert.GProjIdeal.τ).loc Cert.GProjIdeal.main_arg0) = m ((c.tc : Thread Cert.GProjIdeal.nD Cert.GProjIdeal.τ).loc Cert.GProjIdeal.main_arg0)
      ∧ r.2.mem ((c.tc : Thread Cert.GProjIdeal.nD Cert.GProjIdeal.τ).loc Cert.GProjIdeal.main_arg1) = m ((c.tc : Thread Cert.GProjIdeal.nD Cert.GProjIdeal.τ).loc Cert.GProjIdeal.main_arg1))
      ∧ r.2.sem = fun _ => 0)

def quiescent_GProjRefIdeal [hGProjRefIdeal : Cert.GProjRefIdeal.Facts] : Prop :=
  ∀ (m : (ℓ : Loc Cert.GProjRefIdeal.nD Cert.GProjRefIdeal.τ Cert.GProjRefIdeal.sig) → Buf (Elt Ideal) ℓ) (g : Dev Cert.GProjRefIdeal.nD → PrngReg), Pre_GProjRefIdeal m →
    θ_run (Cert.GProjRefIdeal.defs (F := Ideal)) (onTc (τ := Cert.GProjRefIdeal.τ) (Cert.GProjRefIdeal.main (F := Ideal))) ⟨m, fun _ => 0, g⟩ (fun r => (∀ c : Dev Cert.GProjRefIdeal.nD,
      r.2.mem ((c.tc : Thread Cert.GProjRefIdeal.nD Cert.GProjRefIdeal.τ).loc Cert.GProjRefIdeal.main_arg0) = m ((c.tc : Thread Cert.GProjRefIdeal.nD Cert.GProjRefIdeal.τ).loc Cert.GProjRefIdeal.main_arg0)
      ∧ r.2.mem ((c.tc : Thread Cert.GProjRefIdeal.nD Cert.GProjRefIdeal.τ).loc Cert.GProjRefIdeal.main_arg1) = m ((c.tc : Thread Cert.GProjRefIdeal.nD Cert.GProjRefIdeal.τ).loc Cert.GProjRefIdeal.main_arg1))
      ∧ r.2.sem = fun _ => 0)

def quiescent_OGate [hOGate : Cert.OGate.Facts] : Prop :=
  ∀ (m : (ℓ : Loc Cert.OGate.nD Cert.OGate.τ Cert.OGate.sig) → Buf (Elt Bits) ℓ) (g : Dev Cert.OGate.nD → PrngReg), Pre_OGate m →
    θ_run (Cert.OGate.defs (F := Bits)) (onTc (τ := Cert.OGate.τ) (Cert.OGate.main (F := Bits))) ⟨m, fun _ => 0, g⟩ (fun r => (∀ c : Dev Cert.OGate.nD,
      r.2.mem ((c.tc : Thread Cert.OGate.nD Cert.OGate.τ).loc Cert.OGate.main_arg0) = m ((c.tc : Thread Cert.OGate.nD Cert.OGate.τ).loc Cert.OGate.main_arg0)
      ∧ r.2.mem ((c.tc : Thread Cert.OGate.nD Cert.OGate.τ).loc Cert.OGate.main_arg1) = m ((c.tc : Thread Cert.OGate.nD Cert.OGate.τ).loc Cert.OGate.main_arg1))
      ∧ r.2.sem = fun _ => 0)

def quiescent_OGateIdeal [hOGateIdeal : Cert.OGateIdeal.Facts] : Prop :=
  ∀ (m : (ℓ : Loc Cert.OGateIdeal.nD Cert.OGateIdeal.τ Cert.OGateIdeal.sig) → Buf (Elt Ideal) ℓ) (g : Dev Cert.OGateIdeal.nD → PrngReg), Pre_OGateIdeal m →
    θ_run (Cert.OGateIdeal.defs (F := Ideal)) (onTc (τ := Cert.OGateIdeal.τ) (Cert.OGateIdeal.main (F := Ideal))) ⟨m, fun _ => 0, g⟩ (fun r => (∀ c : Dev Cert.OGateIdeal.nD,
      r.2.mem ((c.tc : Thread Cert.OGateIdeal.nD Cert.OGateIdeal.τ).loc Cert.OGateIdeal.main_arg0) = m ((c.tc : Thread Cert.OGateIdeal.nD Cert.OGateIdeal.τ).loc Cert.OGateIdeal.main_arg0)
      ∧ r.2.mem ((c.tc : Thread Cert.OGateIdeal.nD Cert.OGateIdeal.τ).loc Cert.OGateIdeal.main_arg1) = m ((c.tc : Thread Cert.OGateIdeal.nD Cert.OGateIdeal.τ).loc Cert.OGateIdeal.main_arg1))
      ∧ r.2.sem = fun _ => 0)

def quiescent_OGateRefIdeal [hOGateRefIdeal : Cert.OGateRefIdeal.Facts] : Prop :=
  ∀ (m : (ℓ : Loc Cert.OGateRefIdeal.nD Cert.OGateRefIdeal.τ Cert.OGateRefIdeal.sig) → Buf (Elt Ideal) ℓ) (g : Dev Cert.OGateRefIdeal.nD → PrngReg), Pre_OGateRefIdeal m →
    θ_run (Cert.OGateRefIdeal.defs (F := Ideal)) (onTc (τ := Cert.OGateRefIdeal.τ) (Cert.OGateRefIdeal.main (F := Ideal))) ⟨m, fun _ => 0, g⟩ (fun r => (∀ c : Dev Cert.OGateRefIdeal.nD,
      r.2.mem ((c.tc : Thread Cert.OGateRefIdeal.nD Cert.OGateRefIdeal.τ).loc Cert.OGateRefIdeal.main_arg0) = m ((c.tc : Thread Cert.OGateRefIdeal.nD Cert.OGateRefIdeal.τ).loc Cert.OGateRefIdeal.main_arg0)
      ∧ r.2.mem ((c.tc : Thread Cert.OGateRefIdeal.nD Cert.OGateRefIdeal.τ).loc Cert.OGateRefIdeal.main_arg1) = m ((c.tc : Thread Cert.OGateRefIdeal.nD Cert.OGateRefIdeal.τ).loc Cert.OGateRefIdeal.main_arg1))
      ∧ r.2.sem = fun _ => 0)

def quiescent_Lora [hLora : Cert.Lora.Facts] : Prop :=
  ∀ (m : (ℓ : Loc Cert.Lora.nD Cert.Lora.τ Cert.Lora.sig) → Buf (Elt Bits) ℓ) (g : Dev Cert.Lora.nD → PrngReg), Pre_Lora m →
    θ_run (Cert.Lora.defs (F := Bits)) (onTc (τ := Cert.Lora.τ) (Cert.Lora.main (F := Bits))) ⟨m, fun _ => 0, g⟩ (fun r => (∀ c : Dev Cert.Lora.nD,
      r.2.mem ((c.tc : Thread Cert.Lora.nD Cert.Lora.τ).loc Cert.Lora.main_arg0) = m ((c.tc : Thread Cert.Lora.nD Cert.Lora.τ).loc Cert.Lora.main_arg0)
      ∧ r.2.mem ((c.tc : Thread Cert.Lora.nD Cert.Lora.τ).loc Cert.Lora.main_arg1) = m ((c.tc : Thread Cert.Lora.nD Cert.Lora.τ).loc Cert.Lora.main_arg1))
      ∧ r.2.sem = fun _ => 0)

def quiescent_LoraIdeal [hLoraIdeal : Cert.LoraIdeal.Facts] : Prop :=
  ∀ (m : (ℓ : Loc Cert.LoraIdeal.nD Cert.LoraIdeal.τ Cert.LoraIdeal.sig) → Buf (Elt Ideal) ℓ) (g : Dev Cert.LoraIdeal.nD → PrngReg), Pre_LoraIdeal m →
    θ_run (Cert.LoraIdeal.defs (F := Ideal)) (onTc (τ := Cert.LoraIdeal.τ) (Cert.LoraIdeal.main (F := Ideal))) ⟨m, fun _ => 0, g⟩ (fun r => (∀ c : Dev Cert.LoraIdeal.nD,
      r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
      ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1))
      ∧ r.2.sem = fun _ => 0)

def quiescent_LoraRefIdeal [hLoraRefIdeal : Cert.LoraRefIdeal.Facts] : Prop :=
  ∀ (m : (ℓ : Loc Cert.LoraRefIdeal.nD Cert.LoraRefIdeal.τ Cert.LoraRefIdeal.sig) → Buf (Elt Ideal) ℓ) (g : Dev Cert.LoraRefIdeal.nD → PrngReg), Pre_LoraRefIdeal m →
    θ_run (Cert.LoraRefIdeal.defs (F := Ideal)) (onTc (τ := Cert.LoraRefIdeal.τ) (Cert.LoraRefIdeal.main (F := Ideal))) ⟨m, fun _ => 0, g⟩ (fun r => (∀ c : Dev Cert.LoraRefIdeal.nD,
      r.2.mem ((c.tc : Thread Cert.LoraRefIdeal.nD Cert.LoraRefIdeal.τ).loc Cert.LoraRefIdeal.main_arg0) = m ((c.tc : Thread Cert.LoraRefIdeal.nD Cert.LoraRefIdeal.τ).loc Cert.LoraRefIdeal.main_arg0)
      ∧ r.2.mem ((c.tc : Thread Cert.LoraRefIdeal.nD Cert.LoraRefIdeal.τ).loc Cert.LoraRefIdeal.main_arg1) = m ((c.tc : Thread Cert.LoraRefIdeal.nD Cert.LoraRefIdeal.τ).loc Cert.LoraRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7))
      ∧ r.2.sem = fun _ => 0)

def quiescent_RouterRefIdeal_pre_finite_router [hRouterRefIdeal : Cert.RouterRefIdeal.Facts] [hPre_finite_router : Cert.Pre_finite_router.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite_router m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Qkv1_Qkv1Ideal : Prop :=
  True

def algebraic_Qkv1Ideal_Qkv1RefIdeal [hQkv1Ideal : Cert.Qkv1Ideal.Facts] [hQkv1RefIdeal : Cert.Qkv1RefIdeal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.Qkv1RefIdeal.nD Cert.Qkv1RefIdeal.τ Cert.Qkv1RefIdeal.sig) → Buf (Elt Ideal) ℓ) (g' : Dev Cert.Qkv1RefIdeal.nD → PrngReg), Pre_Qkv1Ideal m →
    (∀ c : Dev Cert.Qkv1Ideal.nD,
      m' ((c.tc : Thread Cert.Qkv1RefIdeal.nD Cert.Qkv1RefIdeal.τ).loc Cert.Qkv1RefIdeal.main_arg0) = m ((c.tc : Thread Cert.Qkv1Ideal.nD Cert.Qkv1Ideal.τ).loc Cert.Qkv1Ideal.main_arg0)
      ∧ m' ((c.tc : Thread Cert.Qkv1RefIdeal.nD Cert.Qkv1RefIdeal.τ).loc Cert.Qkv1RefIdeal.main_arg1) = m ((c.tc : Thread Cert.Qkv1Ideal.nD Cert.Qkv1Ideal.τ).loc Cert.Qkv1Ideal.main_arg1)) →
    ∃ (v0 : (c : Dev Cert.Qkv1Ideal.nD) → Buf (Elt Ideal) ((c.tc : Thread Cert.Qkv1Ideal.nD Cert.Qkv1Ideal.τ).loc Cert.Qkv1Ideal.main_v0)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v0) = v0 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1))
      ∧ θ_run (Cert.Qkv1RefIdeal.defs (F := Ideal)) (onTc (τ := Cert.Qkv1RefIdeal.τ) (Cert.Qkv1RefIdeal.main (F := Ideal))) ⟨m', fun _ => 0, g'⟩ (fun r => ∀ c : Dev Cert.Qkv1RefIdeal.nD,
          r.2.mem ((c.tc : Thread Cert.Qkv1RefIdeal.nD Cert.Qkv1RefIdeal.τ).loc Cert.Qkv1RefIdeal.main_v3) = v0 c
          ∧ r.2.mem ((c.tc : Thread Cert.Qkv1RefIdeal.nD Cert.Qkv1RefIdeal.τ).loc Cert.Qkv1RefIdeal.main_arg0) = m' ((c.tc : Thread Cert.Qkv1RefIdeal.nD Cert.Qkv1RefIdeal.τ).loc Cert.Qkv1RefIdeal.main_arg0)
          ∧ r.2.mem ((c.tc : Thread Cert.Qkv1RefIdeal.nD Cert.Qkv1RefIdeal.τ).loc Cert.Qkv1RefIdeal.main_arg1) = m' ((c.tc : Thread Cert.Qkv1RefIdeal.nD Cert.Qkv1RefIdeal.τ).loc Cert.Qkv1RefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Qkv0_Qkv0Ideal : Prop :=
  True

def algebraic_Qkv0Ideal_Qkv0RefIdeal [hQkv0Ideal : Cert.Qkv0Ideal.Facts] [hQkv0RefIdeal : Cert.Qkv0RefIdeal.Facts] : Prop :=
  ∀ (m : (ℓ : Loc Cert.Qkv0Ideal.nD Cert.Qkv0Ideal.τ Cert.Qkv0Ideal.sig) → Buf (Elt Ideal) ℓ) (g : Dev Cert.Qkv0Ideal.nD → PrngReg)
    (m' : (ℓ : Loc Cert.Qkv0RefIdeal.nD Cert.Qkv0RefIdeal.τ Cert.Qkv0RefIdeal.sig) → Buf (Elt Ideal) ℓ) (g' : Dev Cert.Qkv0RefIdeal.nD → PrngReg), Pre_Qkv0Ideal m →
    (∀ c : Dev Cert.Qkv0Ideal.nD,
      m' ((c.tc : Thread Cert.Qkv0RefIdeal.nD Cert.Qkv0RefIdeal.τ).loc Cert.Qkv0RefIdeal.main_arg0) = m ((c.tc : Thread Cert.Qkv0Ideal.nD Cert.Qkv0Ideal.τ).loc Cert.Qkv0Ideal.main_arg0)
      ∧ m' ((c.tc : Thread Cert.Qkv0RefIdeal.nD Cert.Qkv0RefIdeal.τ).loc Cert.Qkv0RefIdeal.main_arg1) = m ((c.tc : Thread Cert.Qkv0Ideal.nD Cert.Qkv0Ideal.τ).loc Cert.Qkv0Ideal.main_arg1)) →
    ∃ (v0 : (c : Dev Cert.Qkv0Ideal.nD) → Buf (Elt Ideal) ((c.tc : Thread Cert.Qkv0Ideal.nD Cert.Qkv0Ideal.τ).loc Cert.Qkv0Ideal.main_v1)),
      θ_run (Cert.Qkv0Ideal.defs (F := Ideal)) (onTc (τ := Cert.Qkv0Ideal.τ) (Cert.Qkv0Ideal.main (F := Ideal))) ⟨m, fun _ => 0, g⟩ (fun r => ∀ c : Dev Cert.Qkv0Ideal.nD,
          r.2.mem ((c.tc : Thread Cert.Qkv0Ideal.nD Cert.Qkv0Ideal.τ).loc Cert.Qkv0Ideal.main_v1) = v0 c
          ∧ r.2.mem ((c.tc : Thread Cert.Qkv0Ideal.nD Cert.Qkv0Ideal.τ).loc Cert.Qkv0Ideal.main_arg0) = m ((c.tc : Thread Cert.Qkv0Ideal.nD Cert.Qkv0Ideal.τ).loc Cert.Qkv0Ideal.main_arg0)
          ∧ r.2.mem ((c.tc : Thread Cert.Qkv0Ideal.nD Cert.Qkv0Ideal.τ).loc Cert.Qkv0Ideal.main_arg1) = m ((c.tc : Thread Cert.Qkv0Ideal.nD Cert.Qkv0Ideal.τ).loc Cert.Qkv0Ideal.main_arg1))
      ∧ θ_run (Cert.Qkv0RefIdeal.defs (F := Ideal)) (onTc (τ := Cert.Qkv0RefIdeal.τ) (Cert.Qkv0RefIdeal.main (F := Ideal))) ⟨m', fun _ => 0, g'⟩ (fun r => ∀ c : Dev Cert.Qkv0RefIdeal.nD,
          r.2.mem ((c.tc : Thread Cert.Qkv0RefIdeal.nD Cert.Qkv0RefIdeal.τ).loc Cert.Qkv0RefIdeal.main_v2) = v0 c
          ∧ r.2.mem ((c.tc : Thread Cert.Qkv0RefIdeal.nD Cert.Qkv0RefIdeal.τ).loc Cert.Qkv0RefIdeal.main_arg0) = m' ((c.tc : Thread Cert.Qkv0RefIdeal.nD Cert.Qkv0RefIdeal.τ).loc Cert.Qkv0RefIdeal.main_arg0)
          ∧ r.2.mem ((c.tc : Thread Cert.Qkv0RefIdeal.nD Cert.Qkv0RefIdeal.τ).loc Cert.Qkv0RefIdeal.main_arg1) = m' ((c.tc : Thread Cert.Qkv0RefIdeal.nD Cert.Qkv0RefIdeal.τ).loc Cert.Qkv0RefIdeal.main_arg1))

def preserves_Feat_FeatIdeal : Prop :=
  True

def algebraic_FeatIdeal_FeatRefIdeal [hFeatIdeal : Cert.FeatIdeal.Facts] [hFeatRefIdeal : Cert.FeatRefIdeal.Facts] : Prop :=
  ∀ (m : (ℓ : Loc Cert.FeatIdeal.nD Cert.FeatIdeal.τ Cert.FeatIdeal.sig) → Buf (Elt Ideal) ℓ) (g : Dev Cert.FeatIdeal.nD → PrngReg)
    (m' : (ℓ : Loc Cert.FeatRefIdeal.nD Cert.FeatRefIdeal.τ Cert.FeatRefIdeal.sig) → Buf (Elt Ideal) ℓ) (g' : Dev Cert.FeatRefIdeal.nD → PrngReg), Pre_FeatIdeal m →
    (∀ c : Dev Cert.FeatIdeal.nD,
      m' ((c.tc : Thread Cert.FeatRefIdeal.nD Cert.FeatRefIdeal.τ).loc Cert.FeatRefIdeal.main_arg0) = m ((c.tc : Thread Cert.FeatIdeal.nD Cert.FeatIdeal.τ).loc Cert.FeatIdeal.main_arg0)
      ∧ m' ((c.tc : Thread Cert.FeatRefIdeal.nD Cert.FeatRefIdeal.τ).loc Cert.FeatRefIdeal.main_arg1) = m ((c.tc : Thread Cert.FeatIdeal.nD Cert.FeatIdeal.τ).loc Cert.FeatIdeal.main_arg1)) →
    ∃ (v0 : (c : Dev Cert.FeatIdeal.nD) → Buf (Elt Ideal) ((c.tc : Thread Cert.FeatIdeal.nD Cert.FeatIdeal.τ).loc Cert.FeatIdeal.main_v1)),
      θ_run (Cert.FeatIdeal.defs (F := Ideal)) (onTc (τ := Cert.FeatIdeal.τ) (Cert.FeatIdeal.main (F := Ideal))) ⟨m, fun _ => 0, g⟩ (fun r => ∀ c : Dev Cert.FeatIdeal.nD,
          r.2.mem ((c.tc : Thread Cert.FeatIdeal.nD Cert.FeatIdeal.τ).loc Cert.FeatIdeal.main_v1) = v0 c
          ∧ r.2.mem ((c.tc : Thread Cert.FeatIdeal.nD Cert.FeatIdeal.τ).loc Cert.FeatIdeal.main_arg0) = m ((c.tc : Thread Cert.FeatIdeal.nD Cert.FeatIdeal.τ).loc Cert.FeatIdeal.main_arg0)
          ∧ r.2.mem ((c.tc : Thread Cert.FeatIdeal.nD Cert.FeatIdeal.τ).loc Cert.FeatIdeal.main_arg1) = m ((c.tc : Thread Cert.FeatIdeal.nD Cert.FeatIdeal.τ).loc Cert.FeatIdeal.main_arg1))
      ∧ θ_run (Cert.FeatRefIdeal.defs (F := Ideal)) (onTc (τ := Cert.FeatRefIdeal.τ) (Cert.FeatRefIdeal.main (F := Ideal))) ⟨m', fun _ => 0, g'⟩ (fun r => ∀ c : Dev Cert.FeatRefIdeal.nD,
          r.2.mem ((c.tc : Thread Cert.FeatRefIdeal.nD Cert.FeatRefIdeal.τ).loc Cert.FeatRefIdeal.main_v1) = v0 c
          ∧ r.2.mem ((c.tc : Thread Cert.FeatRefIdeal.nD Cert.FeatRefIdeal.τ).loc Cert.FeatRefIdeal.main_arg0) = m' ((c.tc : Thread Cert.FeatRefIdeal.nD Cert.FeatRefIdeal.τ).loc Cert.FeatRefIdeal.main_arg0)
          ∧ r.2.mem ((c.tc : Thread Cert.FeatRefIdeal.nD Cert.FeatRefIdeal.τ).loc Cert.FeatRefIdeal.main_arg1) = m' ((c.tc : Thread Cert.FeatRefIdeal.nD Cert.FeatRefIdeal.τ).loc Cert.FeatRefIdeal.main_arg1))

def preserves_GProj_GProjIdeal : Prop :=
  True

def algebraic_GProjIdeal_GProjRefIdeal [hGProjIdeal : Cert.GProjIdeal.Facts] [hGProjRefIdeal : Cert.GProjRefIdeal.Facts] : Prop :=
  ∀ (m : (ℓ : Loc Cert.GProjIdeal.nD Cert.GProjIdeal.τ Cert.GProjIdeal.sig) → Buf (Elt Ideal) ℓ) (g : Dev Cert.GProjIdeal.nD → PrngReg)
    (m' : (ℓ : Loc Cert.GProjRefIdeal.nD Cert.GProjRefIdeal.τ Cert.GProjRefIdeal.sig) → Buf (Elt Ideal) ℓ) (g' : Dev Cert.GProjRefIdeal.nD → PrngReg), Pre_GProjIdeal m →
    (∀ c : Dev Cert.GProjIdeal.nD,
      m' ((c.tc : Thread Cert.GProjRefIdeal.nD Cert.GProjRefIdeal.τ).loc Cert.GProjRefIdeal.main_arg0) = m ((c.tc : Thread Cert.GProjIdeal.nD Cert.GProjIdeal.τ).loc Cert.GProjIdeal.main_arg0)
      ∧ m' ((c.tc : Thread Cert.GProjRefIdeal.nD Cert.GProjRefIdeal.τ).loc Cert.GProjRefIdeal.main_arg1) = m ((c.tc : Thread Cert.GProjIdeal.nD Cert.GProjIdeal.τ).loc Cert.GProjIdeal.main_arg1)) →
    ∃ (v0 : (c : Dev Cert.GProjIdeal.nD) → Buf (Elt Ideal) ((c.tc : Thread Cert.GProjIdeal.nD Cert.GProjIdeal.τ).loc Cert.GProjIdeal.main_v0)),
      θ_run (Cert.GProjIdeal.defs (F := Ideal)) (onTc (τ := Cert.GProjIdeal.τ) (Cert.GProjIdeal.main (F := Ideal))) ⟨m, fun _ => 0, g⟩ (fun r => ∀ c : Dev Cert.GProjIdeal.nD,
          r.2.mem ((c.tc : Thread Cert.GProjIdeal.nD Cert.GProjIdeal.τ).loc Cert.GProjIdeal.main_v0) = v0 c
          ∧ r.2.mem ((c.tc : Thread Cert.GProjIdeal.nD Cert.GProjIdeal.τ).loc Cert.GProjIdeal.main_arg0) = m ((c.tc : Thread Cert.GProjIdeal.nD Cert.GProjIdeal.τ).loc Cert.GProjIdeal.main_arg0)
          ∧ r.2.mem ((c.tc : Thread Cert.GProjIdeal.nD Cert.GProjIdeal.τ).loc Cert.GProjIdeal.main_arg1) = m ((c.tc : Thread Cert.GProjIdeal.nD Cert.GProjIdeal.τ).loc Cert.GProjIdeal.main_arg1))
      ∧ θ_run (Cert.GProjRefIdeal.defs (F := Ideal)) (onTc (τ := Cert.GProjRefIdeal.τ) (Cert.GProjRefIdeal.main (F := Ideal))) ⟨m', fun _ => 0, g'⟩ (fun r => ∀ c : Dev Cert.GProjRefIdeal.nD,
          r.2.mem ((c.tc : Thread Cert.GProjRefIdeal.nD Cert.GProjRefIdeal.τ).loc Cert.GProjRefIdeal.main_v2) = v0 c
          ∧ r.2.mem ((c.tc : Thread Cert.GProjRefIdeal.nD Cert.GProjRefIdeal.τ).loc Cert.GProjRefIdeal.main_arg0) = m' ((c.tc : Thread Cert.GProjRefIdeal.nD Cert.GProjRefIdeal.τ).loc Cert.GProjRefIdeal.main_arg0)
          ∧ r.2.mem ((c.tc : Thread Cert.GProjRefIdeal.nD Cert.GProjRefIdeal.τ).loc Cert.GProjRefIdeal.main_arg1) = m' ((c.tc : Thread Cert.GProjRefIdeal.nD Cert.GProjRefIdeal.τ).loc Cert.GProjRefIdeal.main_arg1))

def preserves_OGate_OGateIdeal : Prop :=
  True

def algebraic_OGateIdeal_OGateRefIdeal [hOGateIdeal : Cert.OGateIdeal.Facts] [hOGateRefIdeal : Cert.OGateRefIdeal.Facts] : Prop :=
  ∀ (m : (ℓ : Loc Cert.OGateIdeal.nD Cert.OGateIdeal.τ Cert.OGateIdeal.sig) → Buf (Elt Ideal) ℓ) (g : Dev Cert.OGateIdeal.nD → PrngReg)
    (m' : (ℓ : Loc Cert.OGateRefIdeal.nD Cert.OGateRefIdeal.τ Cert.OGateRefIdeal.sig) → Buf (Elt Ideal) ℓ) (g' : Dev Cert.OGateRefIdeal.nD → PrngReg), Pre_OGateIdeal m →
    (∀ c : Dev Cert.OGateIdeal.nD,
      m' ((c.tc : Thread Cert.OGateRefIdeal.nD Cert.OGateRefIdeal.τ).loc Cert.OGateRefIdeal.main_arg0) = m ((c.tc : Thread Cert.OGateIdeal.nD Cert.OGateIdeal.τ).loc Cert.OGateIdeal.main_arg0)
      ∧ m' ((c.tc : Thread Cert.OGateRefIdeal.nD Cert.OGateRefIdeal.τ).loc Cert.OGateRefIdeal.main_arg1) = m ((c.tc : Thread Cert.OGateIdeal.nD Cert.OGateIdeal.τ).loc Cert.OGateIdeal.main_arg1)) →
    ∃ (v0 : (c : Dev Cert.OGateIdeal.nD) → Buf (Elt Ideal) ((c.tc : Thread Cert.OGateIdeal.nD Cert.OGateIdeal.τ).loc Cert.OGateIdeal.main_v1)),
      θ_run (Cert.OGateIdeal.defs (F := Ideal)) (onTc (τ := Cert.OGateIdeal.τ) (Cert.OGateIdeal.main (F := Ideal))) ⟨m, fun _ => 0, g⟩ (fun r => ∀ c : Dev Cert.OGateIdeal.nD,
          r.2.mem ((c.tc : Thread Cert.OGateIdeal.nD Cert.OGateIdeal.τ).loc Cert.OGateIdeal.main_v1) = v0 c
          ∧ r.2.mem ((c.tc : Thread Cert.OGateIdeal.nD Cert.OGateIdeal.τ).loc Cert.OGateIdeal.main_arg0) = m ((c.tc : Thread Cert.OGateIdeal.nD Cert.OGateIdeal.τ).loc Cert.OGateIdeal.main_arg0)
          ∧ r.2.mem ((c.tc : Thread Cert.OGateIdeal.nD Cert.OGateIdeal.τ).loc Cert.OGateIdeal.main_arg1) = m ((c.tc : Thread Cert.OGateIdeal.nD Cert.OGateIdeal.τ).loc Cert.OGateIdeal.main_arg1))
      ∧ θ_run (Cert.OGateRefIdeal.defs (F := Ideal)) (onTc (τ := Cert.OGateRefIdeal.τ) (Cert.OGateRefIdeal.main (F := Ideal))) ⟨m', fun _ => 0, g'⟩ (fun r => ∀ c : Dev Cert.OGateRefIdeal.nD,
          r.2.mem ((c.tc : Thread Cert.OGateRefIdeal.nD Cert.OGateRefIdeal.τ).loc Cert.OGateRefIdeal.main_v2) = v0 c
          ∧ r.2.mem ((c.tc : Thread Cert.OGateRefIdeal.nD Cert.OGateRefIdeal.τ).loc Cert.OGateRefIdeal.main_arg0) = m' ((c.tc : Thread Cert.OGateRefIdeal.nD Cert.OGateRefIdeal.τ).loc Cert.OGateRefIdeal.main_arg0)
          ∧ r.2.mem ((c.tc : Thread Cert.OGateRefIdeal.nD Cert.OGateRefIdeal.τ).loc Cert.OGateRefIdeal.main_arg1) = m' ((c.tc : Thread Cert.OGateRefIdeal.nD Cert.OGateRefIdeal.τ).loc Cert.OGateRefIdeal.main_arg1))

def preserves_Lora_LoraIdeal : Prop :=
  True

def algebraic_LoraIdeal_LoraRefIdeal [hLoraIdeal : Cert.LoraIdeal.Facts] [hLoraRefIdeal : Cert.LoraRefIdeal.Facts] : Prop :=
  ∀ (m : (ℓ : Loc Cert.LoraIdeal.nD Cert.LoraIdeal.τ Cert.LoraIdeal.sig) → Buf (Elt Ideal) ℓ) (g : Dev Cert.LoraIdeal.nD → PrngReg)
    (m' : (ℓ : Loc Cert.LoraRefIdeal.nD Cert.LoraRefIdeal.τ Cert.LoraRefIdeal.sig) → Buf (Elt Ideal) ℓ) (g' : Dev Cert.LoraRefIdeal.nD → PrngReg), Pre_LoraIdeal m →
    (∀ c : Dev Cert.LoraIdeal.nD,
      m' ((c.tc : Thread Cert.LoraRefIdeal.nD Cert.LoraRefIdeal.τ).loc Cert.LoraRefIdeal.main_arg0) = m ((c.tc : Thread Cert.LoraIdeal.nD Cert.LoraIdeal.τ).loc Cert.LoraIdeal.main_arg0)
      ∧ m' ((c.tc : Thread Cert.LoraRefIdeal.nD Cert.LoraRefIdeal.τ).loc Cert.LoraRefIdeal.main_arg1) = m ((c.tc : Thread Cert.LoraIdeal.nD Cert.LoraIdeal.τ).loc Cert.LoraIdeal.main_arg1)) →
    ∃ (v0 : (c : Dev Cert.LoraIdeal.nD) → Buf (Elt Ideal) ((c.tc : Thread Cert.LoraIdeal.nD Cert.LoraIdeal.τ).loc Cert.LoraIdeal.main_v8)),
      θ_run (Cert.LoraIdeal.defs (F := Ideal)) (onTc (τ := Cert.LoraIdeal.τ) (Cert.LoraIdeal.main (F := Ideal))) ⟨m, fun _ => 0, g⟩ (fun r => ∀ c : Dev Cert.LoraIdeal.nD,
          r.2.mem ((c.tc : Thread Cert.LoraIdeal.nD Cert.LoraIdeal.τ).loc Cert.LoraIdeal.main_v8) = v0 c
          ∧ r.2.mem ((c.tc : Thread Cert.LoraIdeal.nD Cert.LoraIdeal.τ).loc Cert.LoraIdeal.main_arg0) = m ((c.tc : Thread Cert.LoraIdeal.nD Cert.LoraIdeal.τ).loc Cert.LoraIdeal.main_arg0)
          ∧ r.2.mem ((c.tc : Thread Cert.LoraIdeal.nD Cert.LoraIdeal.τ).loc Cert.LoraIdeal.main_arg1) = m ((c.tc : Thread Cert.LoraIdeal.nD Cert.LoraIdeal.τ).loc Cert.LoraIdeal.main_arg1))
      ∧ θ_run (Cert.LoraRefIdeal.defs (F := Ideal)) (onTc (τ := Cert.LoraRefIdeal.τ) (Cert.LoraRefIdeal.main (F := Ideal))) ⟨m', fun _ => 0, g'⟩ (fun r => ∀ c : Dev Cert.LoraRefIdeal.nD,
          r.2.mem ((c.tc : Thread Cert.LoraRefIdeal.nD Cert.LoraRefIdeal.τ).loc Cert.LoraRefIdeal.main_v6) = v0 c
          ∧ r.2.mem ((c.tc : Thread Cert.LoraRefIdeal.nD Cert.LoraRefIdeal.τ).loc Cert.LoraRefIdeal.main_arg0) = m' ((c.tc : Thread Cert.LoraRefIdeal.nD Cert.LoraRefIdeal.τ).loc Cert.LoraRefIdeal.main_arg0)
          ∧ r.2.mem ((c.tc : Thread Cert.LoraRefIdeal.nD Cert.LoraRefIdeal.τ).loc Cert.LoraRefIdeal.main_arg1) = m' ((c.tc : Thread Cert.LoraRefIdeal.nD Cert.LoraRefIdeal.τ).loc Cert.LoraRefIdeal.main_arg1))

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v3) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_Router_RouterIdeal : Prop :=
  True

def algebraic_RouterIdeal_RouterRefIdeal_pre_finite_router [hRouterIdeal : Cert.RouterIdeal.Facts] [hRouterRefIdeal : Cert.RouterRefIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite_router m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)
      ∧ m' ((c.tc : Thread Cert.RouterRefIdeal.nD Cert.RouterRefIdeal.τ).loc Cert.RouterRefIdeal.main_arg6) = m ((c.tc : Thread Cert.RouterIdeal.nD Cert.RouterIdeal.τ).loc Cert.RouterIdeal.main_arg6)
      ∧ m' ((c.tc : Thread Cert.RouterRefIdeal.nD Cert.RouterRefIdeal.τ).loc Cert.RouterRefIdeal.main_arg7) = m ((c.tc : Thread Cert.RouterIdeal.nD Cert.RouterIdeal.τ).loc Cert.RouterIdeal.main_arg7)) →
    ∃ (v0 : (c : Dev Cert.RouterIdeal.nD) → Buf (Elt Ideal) ((c.tc : Thread Cert.RouterIdeal.nD Cert.RouterIdeal.τ).loc Cert.RouterIdeal.main_v13_0)) (v1 : (c : Dev Cert.RouterIdeal.nD) → Buf (Elt Ideal) ((c.tc : Thread Cert.RouterIdeal.nD Cert.RouterIdeal.τ).loc Cert.RouterIdeal.main_v13_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v13_0) = v0 c
          ∧ r.2.mem ((c.tc : Thread Cert.RouterIdeal.nD Cert.RouterIdeal.τ).loc Cert.RouterIdeal.main_v13_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v27) = v0 c
          ∧ r.2.mem ((c.tc : Thread Cert.RouterRefIdeal.nD Cert.RouterRefIdeal.τ).loc Cert.RouterRefIdeal.main_v37) = v1 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5)
          ∧ r.2.mem ((c.tc : Thread Cert.RouterRefIdeal.nD Cert.RouterRefIdeal.τ).loc Cert.RouterRefIdeal.main_arg6) = m' ((c.tc : Thread Cert.RouterRefIdeal.nD Cert.RouterRefIdeal.τ).loc Cert.RouterRefIdeal.main_arg6)
          ∧ r.2.mem ((c.tc : Thread Cert.RouterRefIdeal.nD Cert.RouterRefIdeal.τ).loc Cert.RouterRefIdeal.main_arg7) = m' ((c.tc : Thread Cert.RouterRefIdeal.nD Cert.RouterRefIdeal.τ).loc Cert.RouterRefIdeal.main_arg7))

def Claim : Prop :=
  ∃ (hKernel : Cert.Kernel.Facts) (hKernelIdeal : Cert.KernelIdeal.Facts) (hReferenceIdeal : Cert.ReferenceIdeal.Facts) (hQkv1 : Cert.Qkv1.Facts) (hQkv1Ideal : Cert.Qkv1Ideal.Facts) (hQkv1RefIdeal : Cert.Qkv1RefIdeal.Facts) (hOutProj : Cert.OutProj.Facts) (hOutProjIdeal : Cert.OutProjIdeal.Facts) (hOutProjRefIdeal : Cert.OutProjRefIdeal.Facts) (hQkv0 : Cert.Qkv0.Facts) (hQkv0Ideal : Cert.Qkv0Ideal.Facts) (hQkv0RefIdeal : Cert.Qkv0RefIdeal.Facts) (hFeat : Cert.Feat.Facts) (hFeatIdeal : Cert.FeatIdeal.Facts) (hFeatRefIdeal : Cert.FeatRefIdeal.Facts) (hGProj : Cert.GProj.Facts) (hGProjIdeal : Cert.GProjIdeal.Facts) (hGProjRefIdeal : Cert.GProjRefIdeal.Facts) (hOGate : Cert.OGate.Facts) (hOGateIdeal : Cert.OGateIdeal.Facts) (hOGateRefIdeal : Cert.OGateRefIdeal.Facts) (hLora : Cert.Lora.Facts) (hLoraIdeal : Cert.LoraIdeal.Facts) (hLoraRefIdeal : Cert.LoraRefIdeal.Facts) (hGate : Cert.Gate.Facts) (hGateIdeal : Cert.GateIdeal.Facts) (hGateRefIdeal : Cert.GateRefIdeal.Facts) (hRouter : Cert.Router.Facts) (hRouterIdeal : Cert.RouterIdeal.Facts) (hRouterRefIdeal : Cert.RouterRefIdeal.Facts) (hPre_finite : Cert.Pre_finite.Facts) (hPre_finite_gate : Cert.Pre_finite_gate.Facts) (hPre_finite_router : Cert.Pre_finite_router.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Qkv1 (hQkv1 := hQkv1)
    ∧ quiescent_Qkv1Ideal (hQkv1Ideal := hQkv1Ideal)
    ∧ quiescent_Qkv1RefIdeal (hQkv1RefIdeal := hQkv1RefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Qkv0 (hQkv0 := hQkv0)
    ∧ quiescent_Qkv0Ideal (hQkv0Ideal := hQkv0Ideal)
    ∧ quiescent_Qkv0RefIdeal (hQkv0RefIdeal := hQkv0RefIdeal)
    ∧ quiescent_Feat (hFeat := hFeat)
    ∧ quiescent_FeatIdeal (hFeatIdeal := hFeatIdeal)
    ∧ quiescent_FeatRefIdeal (hFeatRefIdeal := hFeatRefIdeal)
    ∧ quiescent_GProj (hGProj := hGProj)
    ∧ quiescent_GProjIdeal (hGProjIdeal := hGProjIdeal)
    ∧ quiescent_GProjRefIdeal (hGProjRefIdeal := hGProjRefIdeal)
    ∧ quiescent_OGate (hOGate := hOGate)
    ∧ quiescent_OGateIdeal (hOGateIdeal := hOGateIdeal)
    ∧ quiescent_OGateRefIdeal (hOGateRefIdeal := hOGateRefIdeal)
    ∧ quiescent_Lora (hLora := hLora)
    ∧ quiescent_LoraIdeal (hLoraIdeal := hLoraIdeal)
    ∧ quiescent_LoraRefIdeal (hLoraRefIdeal := hLoraRefIdeal)
    ∧ quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RouterRefIdeal (hRouterRefIdeal := hRouterRefIdeal)
    ∧ quiescent_RouterRefIdeal_pre_finite_router (hRouterRefIdeal := hRouterRefIdeal) (hPre_finite_router := hPre_finite_router)
    ∧ preserves_Kernel_KernelIdeal
    ∧ algebraic_KernelIdeal_ReferenceIdeal_pre_finite (hKernelIdeal := hKernelIdeal) (hReferenceIdeal := hReferenceIdeal) (hPre_finite := hPre_finite)
    ∧ preserves_Qkv1_Qkv1Ideal
    ∧ algebraic_Qkv1Ideal_Qkv1RefIdeal (hQkv1Ideal := hQkv1Ideal) (hQkv1RefIdeal := hQkv1RefIdeal)
    ∧ preserves_OutProj_OutProjIdeal
    ∧ algebraic_OutProjIdeal_OutProjRefIdeal (hOutProjIdeal := hOutProjIdeal) (hOutProjRefIdeal := hOutProjRefIdeal)
    ∧ preserves_Qkv0_Qkv0Ideal
    ∧ algebraic_Qkv0Ideal_Qkv0RefIdeal (hQkv0Ideal := hQkv0Ideal) (hQkv0RefIdeal := hQkv0RefIdeal)
    ∧ preserves_Feat_FeatIdeal
    ∧ algebraic_FeatIdeal_FeatRefIdeal (hFeatIdeal := hFeatIdeal) (hFeatRefIdeal := hFeatRefIdeal)
    ∧ preserves_GProj_GProjIdeal
    ∧ algebraic_GProjIdeal_GProjRefIdeal (hGProjIdeal := hGProjIdeal) (hGProjRefIdeal := hGProjRefIdeal)
    ∧ preserves_OGate_OGateIdeal
    ∧ algebraic_OGateIdeal_OGateRefIdeal (hOGateIdeal := hOGateIdeal) (hOGateRefIdeal := hOGateRefIdeal)
    ∧ preserves_Lora_LoraIdeal
    ∧ algebraic_LoraIdeal_LoraRefIdeal (hLoraIdeal := hLoraIdeal) (hLoraRefIdeal := hLoraRefIdeal)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Router_RouterIdeal
    ∧ algebraic_RouterIdeal_RouterRefIdeal_pre_finite_router (hRouterIdeal := hRouterIdeal) (hRouterRefIdeal := hRouterRefIdeal) (hPre_finite_router := hPre_finite_router)
-- ==== Pre_finite.lean ====
abbrev S2x8192x6144 : Shape := ⟨3, ![2, 8192, 6144]⟩
abbrev S128 : Shape := ⟨1, ![128]⟩
abbrev S256 : Shape := ⟨1, ![256]⟩
abbrev S_ : Shape := ⟨0, ![]⟩

class Facts : Prop where
  bitsLt_bf16_f32 : FTy.bits .bf16 < FTy.bits .f32
  bcast_S_S2x8192x6144 : S_.BroadcastsInDim S2x8192x6144 (![] : Fin 0 → Fin S2x8192x6144.rank)
  reducesTo_S2x8192x6144_S_d0_1_2 : S2x8192x6144.ReducesTo [0, 1, 2] S_
  h_S_ : 0 < S_.numel
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v14 : IVec S_ 1) (main_v15 : FVec F S128 .f32) (main_v16 : FVec F S128 .f32) : IVec S_ 1 :=
  let main_v17 : IVec S128 1 := cmpf .olt main_v15 main_v16
  let main_c_5 : IVec S_ 1 := constantI S_ 1 1#1
  let main_v18 : IVec S_ 1 := (fun x v => Host.reduce IntOp.andi x v reducesTo_S128_S_d0 h_S_) main_v17 main_c_5
  let main_v19 : IVec S_ 1 := andi main_v14 main_v18
  let main_v20 : FVec F S128 .f32 := Host.absf main_arg4
  let main_cst_6 : FVec F S_ .f32 := constant S_ .f32 0x7F800000#32
  let main_v21 : FVec F S128 .f32 := broadcastInDim S128 ![] bcast_S_S128 main_cst_6
  let main_v22 : IVec S128 1 := cmpf .olt main_v20 main_v21
  let main_c_7 : IVec S_ 1 := constantI S_ 1 1#1
  let main_v23 : IVec S_ 1 := (fun x v => Host.reduce IntOp.andi x v reducesTo_S128_S_d0 h_S_) main_v22 main_c_7
  let main_v24 : IVec S_ 1 := andi main_v19 main_v23
  main_v24

def fn {F : FTy → Type} [FloatOps F] (main_arg0 : FVec F S2x8192x6144 .bf16) (main_arg1 : FVec F S128 .f32) (main_arg2 : FVec F S128 .f32) (main_arg3 : FVec F S128 .f32) (main_arg4 : FVec F S128 .f32) (main_arg5 : FVec F S256 .f32) : IVec S_ 1 :=
  let main_v0 : FVec F S2x8192x6144 .f32 := (extf .f32 · bitsLt_bf16_f32) main_arg0
  let main_v1 : FVec F S2x8192x6144 .f32 := Host.absf main_v0
  let main_cst : FVec F S_ .f32 := constant S_ .f32 0x7F800000#32
  let main_v2 : FVec F S2x8192x6144 .f32 := broadcastInDim S2x8192x6144 ![] bcast_S_S2x8192x6144 main_cst
  let main_v3 : IVec S2x8192x6144 1 := cmpf .olt main_v1 main_v2
  let main_c : IVec S_ 1 := constantI S_ 1 1#1
  let main_v4 : IVec S_ 1 := (fun x v => Host.reduce IntOp.andi x v reducesTo_S2x8192x6144_S_d0_1_2 h_S_) main_v3 main_c
  let main_v5 : FVec F S128 .f32 := Host.absf main_arg1
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_c_1 : IVec S_ 1 := constantI S_ 1 1#1
  let main_v8 : IVec S_ 1 := (fun x v => Host.reduce IntOp.andi x v reducesTo_S128_S_d0 h_S_) main_v7 main_c_1
  let main_v9 : IVec S_ 1 := andi main_v4 main_v8
  let main_v10 : FVec F S128 .f32 := Host.absf main_arg2
  let main_cst_2 : FVec F S_ .f32 := constant S_ .f32 0x7F800000#32
  let main_v11 : FVec F S128 .f32 := broadcastInDim S128 ![] bcast_S_S128 main_cst_2
  let main_v12 : IVec S128 1 := cmpf .olt main_v10 main_v11
  let main_c_3 : IVec S_ 1 := constantI S_ 1 1#1
  let main_v13 : IVec S_ 1 := (fun x v => Host.reduce IntOp.andi x v reducesTo_S128_S_d0 h_S_) main_v12 main_c_3
  let main_v14 : IVec S_ 1 := andi main_v9 main_v13
  let main_v15 : FVec F S128 .f32 := Host.absf main_arg3
  let main_cst_4 : FVec F S_ .f32 := constant S_ .f32 0x7F800000#32
  let main_v16 : FVec F S128 .f32 := broadcastInDim S128 ![] bcast_S_S128 main_cst_4
  fn_part1 (F := F) main_arg4 main_v14 main_v15 main_v16
-- ==== Pre_finite_gate.lean ====
abbrev S16384x4096 : Shape := ⟨2, ![16384, 4096]⟩
abbrev S4096x12304 : Shape := ⟨2, ![4096, 12304]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x12304 : S_.BroadcastsInDim S4096x12304 (![] : Fin 0 → Fin S4096x12304.rank)
  reducesTo_S4096x12304_S_d0_1 : S4096x12304.ReducesTo [0, 1] S_

variable [Facts]

def fn {F : FTy → Type} [FloatOps F] (main_arg0 : FVec F S16384x4096 .f32) (main_arg1 : FVec F S4096x12304 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x12304 .f32 := Host.absf main_arg1
  let main_cst_0 : FVec F S_ .f32 := constant S_ .f32 0x7F800000#32
  let main_v5 : FVec F S4096x12304 .f32 := broadcastInDim S4096x12304 ![] bcast_S_S4096x12304 main_cst_0
  let main_v6 : IVec S4096x12304 1 := cmpf .olt main_v4 main_v5
  let main_c_1 : IVec S_ 1 := constantI S_ 1 1#1
  let main_v7 : IVec S_ 1 := (fun x v => Host.reduce IntOp.andi x v reducesTo_S4096x12304_S_d0_1 h_S_) main_v6 main_c_1
  let main_v8 : IVec S_ 1 := andi main_v3 main_v7
  main_v8
-- ==== Pre_finite_router.lean ====
abbrev S16384x4096 : Shape := ⟨2, ![16384, 4096]⟩
abbrev S4096 : Shape := ⟨1, ![4096]⟩
abbrev S4096x4 : Shape := ⟨2, ![4096, 4]⟩
abbrev S4 : Shape := ⟨1, ![4]⟩
abbrev S4096x32 : Shape := ⟨2, ![4096, 32]⟩
abbrev S32 : Shape := ⟨1, ![32]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x4 : S_.BroadcastsInDim S4096x4 (![] : Fin 0 → Fin S4096x4.rank)
  reducesTo_S4096x4_S_d0_1 : S4096x4.ReducesTo [0, 1] S_
  bcast_S_S4096x32 : S_.BroadcastsInDim S4096x32 (![] : Fin 0 → Fin S4096x32.rank)
  reducesTo_S4096x32_S_d0_1 : S4096x32.ReducesTo [0, 1] S_

variable [Facts]

def fn_part1 {F : FTy → Type} [FloatOps F] (main_v13 : IVec S_ 1) (main_v16 : IVec S4096x32 1) : IVec S_ 1 :=
  let main_c_5 : IVec S_ 1 := constantI S_ 1 1#1
  let main_v17 : IVec S_ 1 := (fun x v => Host.reduce IntOp.andi x v reducesTo_S4096x32_S_d0_1 h_S_) main_v16 main_c_5
  let main_v18 : IVec S_ 1 := andi main_v13 main_v17
  main_v18

def fn {F : FTy → Type} [FloatOps F] (main_arg0 : FVec F S16384x4096 .f32) (main_arg1 : FVec F S16384x4096 .bf16) (main_arg2 : FVec F S4096 .f32) (main_arg3 : FVec F S4096 .f32) (main_arg4 : FVec F S4096x4 .f32) (main_arg5 : FVec F S4 .f32) (main_arg6 : FVec F S4096x32 .f32) (main_arg7 : FVec F S32 .f32) : IVec S_ 1 :=
  let main_v0 : FVec F S4096 .f32 := Host.absf main_arg2
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096 .f32 := Host.absf main_arg3
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x4 .f32 := Host.absf main_arg4
  let main_cst_2 : FVec F S_ .f32 := constant S_ .f32 0x7F800000#32
  let main_v10 : FVec F S4096x4 .f32 := broadcastInDim S4096x4 ![] bcast_S_S4096x4 main_cst_2
  let main_v11 : IVec S4096x4 1 := cmpf .olt main_v9 main_v10
  let main_c_3 : IVec S_ 1 := constantI S_ 1 1#1
  let main_v12 : IVec S_ 1 := (fun x v => Host.reduce IntOp.andi x v reducesTo_S4096x4_S_d0_1 h_S_) main_v11 main_c_3
  let main_v13 : IVec S_ 1 := andi main_v8 main_v12
  let main_v14 : FVec F S4096x32 .f32 := Host.absf main_arg6
  let main_cst_4 : FVec F S_ .f32 := constant S_ .f32 0x7F800000#32
  let main_v15 : FVec F S4096x32 .f32 := broadcastInDim S4096x32 ![] bcast_S_S4096x32 main_cst_4
  let main_v16 : IVec S4096x32 1 := cmpf .olt main_v14 main_v15
  fn_part1 (F := F) main_v13 main_v16
-- ==== Kernel.lean ====
abbrev S2x8192x6144 : Shape := ⟨3, ![2, 8192, 6144]⟩
abbrev S128 : Shape := ⟨1, ![128]⟩
abbrev S256 : Shape := ⟨1, ![256]⟩
abbrev S_ : Shape := ⟨0, ![]⟩
abbrev S1 : Shape := ⟨1, ![1]⟩
abbrev S1x256 : Shape := ⟨2, ![1, 256]⟩
abbrev S2x8192x2048 : Shape := ⟨3, ![2, 8192, 2048]⟩
abbrev S1x512x512 : Shape := ⟨3, ![1, 512, 512]⟩
abbrev S1x8192x512 : Shape := ⟨3, ![1, 8192, 512]⟩
abbrev S4x512x128 : Shape := ⟨3, ![4, 512, 128]⟩
abbrev S4x512x256 : Shape := ⟨3, ![4, 512, 256]⟩
abbrev S1x512x128 : Shape := ⟨3, ![1, 512, 128]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S1x512x256 : Shape := ⟨3, ![1, 512, 256]⟩
abbrev S512x256 : Shape := ⟨2, ![512, 256]⟩

abbrev nBuf : Space → Nat
  | .hbm => 20
  | .vmem => 12
  | .smem => 1
  | _ => 0

abbrev bufTy : (tb : Table) → Fin (tcTables nBuf tb) → BufTy
  | .hbm, ⟨0, _⟩ => ⟨S2x8192x6144, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S128, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S1x256, .f32⟩
  | .hbm, ⟨19, _⟩ => ⟨S2x8192x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S1x256, .f32⟩
  | .local _ .vmem, ⟨7, _⟩ => ⟨S1x512x512, .bf16⟩
  | .local _ .vmem, ⟨8, _⟩ => ⟨S1x512x512, .bf16⟩
  | .local _ .vmem, ⟨9, _⟩ => ⟨S4x512x128, .f32⟩
  | .local _ .vmem, ⟨10, _⟩ => ⟨S4x512x128, .f32⟩
  | .local _ .vmem, ⟨11, _⟩ => ⟨S4x512x256, .f32⟩
  | .local _ .smem, ⟨0, _⟩ => ⟨S1, .f32⟩
  | _, _ => ⟨S2x8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_23 : BitVec 32 := 0#32
  let arg2 : BitVec 32 := BitVec.ofNat 32 (i 2).val
  let v36 : BitVec 32 := Scalar.subi arg2 c0_i32_23
  let c1_i32 : BitVec 32 := 1#32
  let v38 : BitVec 32 := Scalar.divsi v36 c1_i32
  let v39 : BitVec 32 := Scalar.muli v38 c1_i32
  let v40 : BitVec 32 := Scalar.addi c0_i32_23 v39
  let c1_i32_24 : BitVec 32 := 1#32
  ⟨c0_i32_23, v40, c1_i32_24⟩
def k0_mult1 (i : grid0.Coords) (k0_t1 : Fin (k0_t1_loop i).trips) : BitVec 32 :=
  let c0_i32_23 : BitVec 32 := 0#32
  let c1_i32_24 : BitVec 32 := 1#32
  let arg12 : BitVec 32 := Scf.iv c0_i32_23 c1_i32_24 k0_t1
  let c512_i32_191 : BitVec 32 := 512#32
  let v348 : BitVec 32 := Scalar.muli arg12 c512_i32_191
  v348
def k0_off1 (i : grid0.Coords) (k0_t1 : Fin (k0_t1_loop i).trips) : Fin 3 → Nat :=
  let c0_192 : Index := 0#32
  let c0_i32_23 : BitVec 32 := 0#32
  let c1_i32_24 : BitVec 32 := 1#32
  let arg12 : BitVec 32 := Scf.iv c0_i32_23 c1_i32_24 k0_t1
  let c512_i32_191 : BitVec 32 := 512#32
  let v348 : BitVec 32 := Scalar.muli arg12 c512_i32_191
  let v349 : BitVec 32 := v348
  let v350 : Index := Scalar.indexCast v349
  let c0_193 : Index := 0#32
  ![0, v350.toNat, 0]
def k0_off2 (i : grid0.Coords) (k0_t1 : Fin (k0_t1_loop i).trips) : Fin 3 → Nat :=
  let c0_195 : Index := 0#32
  let c0_i32_23 : BitVec 32 := 0#32
  let c1_i32_24 : BitVec 32 := 1#32
  let arg12 : BitVec 32 := Scf.iv c0_i32_23 c1_i32_24 k0_t1
  let c512_i32_191 : BitVec 32 := 512#32
  let v348 : BitVec 32 := Scalar.muli arg12 c512_i32_191
  let v349 : BitVec 32 := v348
  let v354 : Index := Scalar.indexCast v349
  let c128_196 : Index := 128#32
  ![0, v354.toNat, 128]
def k0_off3 (i : grid0.Coords) (k0_t1 : Fin (k0_t1_loop i).trips) : Fin 3 → Nat :=
  let c0_198 : Index := 0#32
  let c0_i32_23 : BitVec 32 := 0#32
  let c1_i32_24 : BitVec 32 := 1#32
  let arg12 : BitVec 32 := Scf.iv c0_i32_23 c1_i32_24 k0_t1
  let c512_i32_191 : BitVec 32 := 512#32
  let v348 : BitVec 32 := Scalar.muli arg12 c512_i32_191
  let v349 : BitVec 32 := v348
  let v358 : Index := Scalar.indexCast v349
  let c256_199 : Index := 256#32
  ![0, v358.toNat, 256]
def k0_off4 (i : grid0.Coords) (k0_t1 : Fin (k0_t1_loop i).trips) : Fin 3 → Nat :=
  let c0_201 : Index := 0#32
  let c0_i32_23 : BitVec 32 := 0#32
  let c1_i32_24 : BitVec 32 := 1#32
  let arg12 : BitVec 32 := Scf.iv c0_i32_23 c1_i32_24 k0_t1
  let c512_i32_191 : BitVec 32 := 512#32
  let v348 : BitVec 32 := Scalar.muli arg12 c512_i32_191
  let v349 : BitVec 32 := v348
  let v362 : Index := Scalar.indexCast v349
  let c384_202 : Index := 384#32
  ![0, v362.toNat, 384]
def k0_off5 (i : grid0.Coords) (k0_t1 : Fin (k0_t1_loop i).trips) : Fin 3 → Nat :=
  let c0_236 : Index := 0#32
  let c0_i32_23 : BitVec 32 := 0#32
  let c1_i32_24 : BitVec 32 := 1#32
  let arg12 : BitVec 32 := Scf.iv c0_i32_23 c1_i32_24 k0_t1
  let c512_i32_191 : BitVec 32 := 512#32
  let v348 : BitVec 32 := Scalar.muli arg12 c512_i32_191
  let v349 : BitVec 32 := v348
  let v438 : Index := Scalar.indexCast v349
  let c0_237 : Index := 0#32
  ![0, v438.toNat, 0]
def k0_off6 (i : grid0.Coords) (k0_t1 : Fin (k0_t1_loop i).trips) : Fin 3 → Nat :=
  let c0_242 : Index := 0#32
  let c0_i32_23 : BitVec 32 := 0#32
  let c1_i32_24 : BitVec 32 := 1#32
  let arg12 : BitVec 32 := Scf.iv c0_i32_23 c1_i32_24 k0_t1
  let c512_i32_191 : BitVec 32 := 512#32
  let v348 : BitVec 32 := Scalar.muli arg12 c512_i32_191
  let v349 : BitVec 32 := v348
  let v448 : Index := Scalar.indexCast v349
  let c256_243 : Index := 256#32
  ![0, v448.toNat, 256]
@[reducible] def k0_t2_loop (i : grid0.Coords) : Scf.Loop 32 :=
  let c0_i32_23 : BitVec 32 := 0#32
  let arg2 : BitVec 32 := BitVec.ofNat 32 (i 2).val
  let v36 : BitVec 32 := Scalar.subi arg2 c0_i32_23
  let c1_i32 : BitVec 32 := 1#32
  let v38 : BitVec 32 := Scalar.divsi v36 c1_i32
  let v39 : BitVec 32 := Scalar.muli v38 c1_i32
  let v40 : BitVec 32 := Scalar.addi c0_i32_23 v39
  let v37 : BitVec 32 := Scalar.addi c0_i32_23 v36
  let c1_i32_25 : BitVec 32 := 1#32
  ⟨v40, v37, c1_i32_25⟩
def k0_mult2 (i : grid0.Coords) (k0_t2 : Fin (k0_t2_loop i).trips) : BitVec 32 :=
  let c0_i32_23 : BitVec 32 := 0#32
  let arg2 : BitVec 32 := BitVec.ofNat 32 (i 2).val
  let v36 : BitVec 32 := Scalar.subi arg2 c0_i32_23
  let c1_i32 : BitVec 32 := 1#32
  let v38 : BitVec 32 := Scalar.divsi v36 c1_i32
  let v39 : BitVec 32 := Scalar.muli v38 c1_i32
  let v40 : BitVec 32 := Scalar.addi c0_i32_23 v39
  let c1_i32_25 : BitVec 32 := 1#32
  let arg12 : BitVec 32 := Scf.iv v40 c1_i32_25 k0_t2
  let c512_i32_191 : BitVec 32 := 512#32
  let v348 : BitVec 32 := Scalar.muli arg12 c512_i32_191
  v348
def k0_off7 (i : grid0.Coords) (k0_t2 : Fin (k0_t2_loop i).trips) : Fin 3 → Nat :=
  let c0_192 : Index := 0#32
  let c0_i32_23 : BitVec 32 := 0#32
  let arg2 : BitVec 32 := BitVec.ofNat 32 (i 2).val
  let v36 : BitVec 32 := Scalar.subi arg2 c0_i32_23
  let c1_i32 : BitVec 32 := 1#32
  let v38 : BitVec 32 := Scalar.divsi v36 c1_i32
  let v39 : BitVec 32 := Scalar.muli v38 c1_i32
  let v40 : BitVec 32 := Scalar.addi c0_i32_23 v39
  let c1_i32_25 : BitVec 32 := 1#32
  let arg12 : BitVec 32 := Scf.iv v40 c1_i32_25 k0_t2
  let c512_i32_191 : BitVec 32 := 512#32
  let v348 : BitVec 32 := Scalar.muli arg12 c512_i32_191
  let v349 : BitVec 32 := v348
  let v350 : Index := Scalar.indexCast v349
  let c0_193 : Index := 0#32
  ![0, v350.toNat, 0]
def k0_off8 (i : grid0.Coords) (k0_t2 : Fin (k0_t2_loop i).trips) : Fin 3 → Nat :=
  let c0_195 : Index := 0#32
  let c0_i32_23 : BitVec 32 := 0#32
  let arg2 : BitVec 32 := BitVec.ofNat 32 (i 2).val
  let v36 : BitVec 32 := Scalar.subi arg2 c0_i32_23
  let c1_i32 : BitVec 32 := 1#32
  let v38 : BitVec 32 := Scalar.divsi v36 c1_i32
  let v39 : BitVec 32 := Scalar.muli v38 c1_i32
  let v40 : BitVec 32 := Scalar.addi c0_i32_23 v39
  let c1_i32_25 : BitVec 32 := 1#32
  let arg12 : BitVec 32 := Scf.iv v40 c1_i32_25 k0_t2
  let c512_i32_191 : BitVec 32 := 512#32
  let v348 : BitVec 32 := Scalar.muli arg12 c512_i32_191
  let v349 : BitVec 32 := v348
  let v354 : Index := Scalar.indexCast v349
  let c128_196 : Index := 128#32
  ![0, v354.toNat, 128]
def k0_off9 (i : grid0.Coords) (k0_t2 : Fin (k0_t2_loop i).trips) : Fin 3 → Nat :=
  let c0_198 : Index := 0#32
  let c0_i32_23 : BitVec 32 := 0#32
  let arg2 : BitVec 32 := BitVec.ofNat 32 (i 2).val
  let v36 : BitVec 32 := Scalar.subi arg2 c0_i32_23
  let c1_i32 : BitVec 32 := 1#32
  let v38 : BitVec 32 := Scalar.divsi v36 c1_i32
  let v39 : BitVec 32 := Scalar.muli v38 c1_i32
  let v40 : BitVec 32 := Scalar.addi c0_i32_23 v39
  let c1_i32_25 : BitVec 32 := 1#32
  let arg12 : BitVec 32 := Scf.iv v40 c1_i32_25 k0_t2
  let c512_i32_191 : BitVec 32 := 512#32
  let v348 : BitVec 32 := Scalar.muli arg12 c512_i32_191
  let v349 : BitVec 32 := v348
  let v358 : Index := Scalar.indexCast v349
  let c256_199 : Index := 256#32
  ![0, v358.toNat, 256]
def k0_off10 (i : grid0.Coords) (k0_t2 : Fin (k0_t2_loop i).trips) : Fin 3 → Nat :=
  let c0_201 : Index := 0#32
  let c0_i32_23 : BitVec 32 := 0#32
  let arg2 : BitVec 32 := BitVec.ofNat 32 (i 2).val
  let v36 : BitVec 32 := Scalar.subi arg2 c0_i32_23
  let c1_i32 : BitVec 32 := 1#32
  let v38 : BitVec 32 := Scalar.divsi v36 c1_i32
  let v39 : BitVec 32 := Scalar.muli v38 c1_i32
  let v40 : BitVec 32 := Scalar.addi c0_i32_23 v39
  let c1_i32_25 : BitVec 32 := 1#32
  let arg12 : BitVec 32 := Scf.iv v40 c1_i32_25 k0_t2
  let c512_i32_191 : BitVec 32 := 512#32
  let v348 : BitVec 32 := Scalar.muli arg12 c512_i32_191
  let v349 : BitVec 32 := v348
  let v362 : Index := Scalar.indexCast v349
  let c384_202 : Index := 384#32
  ![0, v362.toNat, 384]
def k0_off11 (i : grid0.Coords) (k0_t2 : Fin (k0_t2_loop i).trips) : Fin 3 → Nat :=
  let c0_236 : Index := 0#32
  let c0_i32_23 : BitVec 32 := 0#32
  let arg2 : BitVec 32 := BitVec.ofNat 32 (i 2).val
  let v36 : BitVec 32 := Scalar.subi arg2 c0_i32_23
  let c1_i32 : BitVec 32 := 1#32
  let v38 : BitVec 32 := Scalar.divsi v36 c1_i32
  let v39 : BitVec 32 := Scalar.muli v38 c1_i32
  let v40 : BitVec 32 := Scalar.addi c0_i32_23 v39
  let c1_i32_25 : BitVec 32 := 1#32
  let arg12 : BitVec 32 := Scf.iv v40 c1_i32_25 k0_t2
  let c512_i32_191 : BitVec 32 := 512#32
  let v348 : BitVec 32 := Scalar.muli arg12 c512_i32_191
  let v349 : BitVec 32 := v348
  let v438 : Index := Scalar.indexCast v349
  let c0_237 : Index := 0#32
  ![0, v438.toNat, 0]
def k0_off12 (i : grid0.Coords) (k0_t2 : Fin (k0_t2_loop i).trips) : Fin 3 → Nat :=
  let c0_242 : Index := 0#32
  let c0_i32_23 : BitVec 32 := 0#32
  let arg2 : BitVec 32 := BitVec.ofNat 32 (i 2).val
  let v36 : BitVec 32 := Scalar.subi arg2 c0_i32_23
  let c1_i32 : BitVec 32 := 1#32
  let v38 : BitVec 32 := Scalar.divsi v36 c1_i32
  let v39 : BitVec 32 := Scalar.muli v38 c1_i32
  let v40 : BitVec 32 := Scalar.addi c0_i32_23 v39
  let c1_i32_25 : BitVec 32 := 1#32
  let arg12 : BitVec 32 := Scf.iv v40 c1_i32_25 k0_t2
  let c512_i32_191 : BitVec 32 := 512#32
  let v348 : BitVec 32 := Scalar.muli arg12 c512_i32_191
  let v349 : BitVec 32 := v348
  let v448 : Index := Scalar.indexCast v349
  let c256_243 : Index := 256#32
  ![0, v448.toNat, 256]
def k0_mult3 (i : grid0.Coords) : BitVec 32 :=
  let arg2 : BitVec 32 := BitVec.ofNat 32 (i 2).val
  let c512_i32 : BitVec 32 := 512#32
  let v41 : BitVec 32 := Scalar.muli arg2 c512_i32
  v41
def k0_off13 (i : grid0.Coords) : Fin 3 → Nat :=
  let c0_26 : Index := 0#32
  let arg2 : BitVec 32 := BitVec.ofNat 32 (i 2).val
  let c512_i32 : BitVec 32 := 512#32
  let v41 : BitVec 32 := Scalar.muli arg2 c512_i32
  let v42 : BitVec 32 := v41
  let v43 : Index := Scalar.indexCast v42
  let c0_27 : Index := 0#32
  ![0, v43.toNat, 0]
def k0_off14 (i : grid0.Coords) : Fin 3 → Nat :=
  let c0_29 : Index := 0#32
  let arg2 : BitVec 32 := BitVec.ofNat 32 (i 2).val
  let c512_i32 : BitVec 32 := 512#32
  let v41 : BitVec 32 := Scalar.muli arg2 c512_i32
  let v42 : BitVec 32 := v41
  let v47 : Index := Scalar.indexCast v42
  let c128_30 : Index := 128#32
  ![0, v47.toNat, 128]
def k0_off15 (i : grid0.Coords) : Fin 3 → Nat :=
  let c0_32 : Index := 0#32
  let arg2 : BitVec 32 := BitVec.ofNat 32 (i 2).val
  let c512_i32 : BitVec 32 := 512#32
  let v41 : BitVec 32 := Scalar.muli arg2 c512_i32
  let v42 : BitVec 32 := v41
  let v51 : Index := Scalar.indexCast v42
  let c256_33 : Index := 256#32
  ![0, v51.toNat, 256]
def k0_off16 (i : grid0.Coords) : Fin 3 → Nat :=
  let c0_35 : Index := 0#32
  let arg2 : BitVec 32 := BitVec.ofNat 32 (i 2).val
  let c512_i32 : BitVec 32 := 512#32
  let v41 : BitVec 32 := Scalar.muli arg2 c512_i32
  let v42 : BitVec 32 := v41
  let v55 : Index := Scalar.indexCast v42
  let c384_36 : Index := 384#32
  ![0, v55.toNat, 384]
def k0_off17 (i : grid0.Coords) : Fin 3 → Nat :=
  let c0_84 : Index := 0#32
  let arg2 : BitVec 32 := BitVec.ofNat 32 (i 2).val
  let c512_i32 : BitVec 32 := 512#32
  let v41 : BitVec 32 := Scalar.muli arg2 c512_i32
  let v42 : BitVec 32 := v41
  let v193 : Index := Scalar.indexCast v42
  let c0_85 : Index := 0#32
  ![0, v193.toNat, 0]
def k0_off18 (i : grid0.Coords) : Fin 3 → Nat :=
  let c0_90 : Index := 0#32
  let arg2 : BitVec 32 := BitVec.ofNat 32 (i 2).val
  let c512_i32 : BitVec 32 := 512#32
  let v41 : BitVec 32 := Scalar.muli arg2 c512_i32
  let v42 : BitVec 32 := v41
  let v203 : Index := Scalar.indexCast v42
  let c256_91 : Index := 256#32
  ![0, v203.toNat, 256]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x8192x6144 : Shape := ⟨3, ![2, 8192, 6144]⟩
abbrev S128 : Shape := ⟨1, ![128]⟩
abbrev S256 : Shape := ⟨1, ![256]⟩
abbrev S2x8192x2048 : Shape := ⟨3, ![2, 8192, 2048]⟩
abbrev S2x8192x8x2x128 : Shape := ⟨5, ![2, 8192, 8, 2, 128]⟩
abbrev S2x8x2x8192x128 : Shape := ⟨5, ![2, 8, 2, 8192, 128]⟩
abbrev S2x8192x8x256 : Shape := ⟨4, ![2, 8192, 8, 256]⟩
abbrev S2x8x8192x256 : Shape := ⟨4, ![2, 8, 8192, 256]⟩
abbrev S_ : Shape := ⟨0, ![]⟩
abbrev S8192 : Shape := ⟨1, ![8192]⟩
abbrev S2x8x2x8192x8192 : Shape := ⟨5, ![2, 8, 2, 8192, 8192]⟩
abbrev S1x8192 : Shape := ⟨2, ![1, 8192]⟩
abbrev S8192x1 : Shape := ⟨2, ![8192, 1]⟩
abbrev S8192x8192 : Shape := ⟨2, ![8192, 8192]⟩
abbrev S2x8x2x8192 : Shape := ⟨4, ![2, 8, 2, 8192]⟩
abbrev S2x8x2x8192x1 : Shape := ⟨5, ![2, 8, 2, 8192, 1]⟩
abbrev S2x8x1x8192x8192 : Shape := ⟨5, ![2, 8, 1, 8192, 8192]⟩
abbrev S2x8x8192x8192 : Shape := ⟨4, ![2, 8, 8192, 8192]⟩
abbrev S2x8192x8 : Shape := ⟨3, ![2, 8192, 8]⟩
abbrev S2x8192x8x1 : Shape := ⟨4, ![2, 8192, 8, 1]⟩
abbrev S1x1x1x256 : Shape := ⟨4, ![1, 1, 1, 256]⟩

abbrev nBuf : Space → Nat
  | .hbm => 106
  | .vmem => 0
  | .smem => 0
  | _ => 0

abbrev bufTy : (tb : Table) → Fin (tcTables nBuf tb) → BufTy
  | .hbm, ⟨0, _⟩ => ⟨S2x8192x6144, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S256, .f32⟩
  | .hbm, ⟨6, _⟩ => ⟨S2x8192x2048, .bf16⟩
  | .hbm, ⟨7, _⟩ => ⟨S2x8192x2048, .bf16⟩
  | .hbm, ⟨8, _⟩ => ⟨S2x8192x2048, .bf16⟩
  | .hbm, ⟨9, _⟩ => ⟨S2x8192x8x2x128, .bf16⟩
  | .hbm, ⟨10, _⟩ => ⟨S2x8x2x8192x128, .bf16⟩
  | .hbm, ⟨11, _⟩ => ⟨S2x8192x8x2x128, .bf16⟩
  | .hbm, ⟨12, _⟩ => ⟨S2x8x2x8192x128, .bf16⟩
  | .hbm, ⟨13, _⟩ => ⟨S2x8192x8x256, .bf16⟩
  | .hbm, ⟨14, _⟩ => ⟨S2x8x8192x256, .bf16⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x8x2x8192x128, .f32⟩
  | .hbm, ⟨27, _⟩ => ⟨S2x8x2x8192x128, .f32⟩
  | .hbm, ⟨28, _⟩ => ⟨S2x8x8192x256, .f32⟩
  | .hbm, ⟨29, _⟩ => ⟨S8192, .i32⟩
  | .hbm, ⟨30, _⟩ => ⟨S_, .i32⟩
  | .hbm, ⟨31, _⟩ => ⟨S_, .i32⟩
  | .hbm, ⟨32, _⟩ => ⟨S8192, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i1⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S8192, .i1⟩
  | .hbm, ⟨44, _⟩ => ⟨S_, .i32⟩
  | .hbm, ⟨45, _⟩ => ⟨S8192, .i32⟩
  | .hbm, ⟨46, _⟩ => ⟨S8192, .i32⟩
  | .hbm, ⟨47, _⟩ => ⟨S8192, .i32⟩
  | .hbm, ⟨48, _⟩ => ⟨S2x8x2x8192x8192, .f32⟩
  | .hbm, ⟨49, _⟩ => ⟨S_, .f32⟩
  | .hbm, ⟨50, _⟩ => ⟨S2x8x2x8192x8192, .f32⟩
  | .hbm, ⟨51, _⟩ => ⟨S2x8x2x8192x8192, .f32⟩
  | .hbm, ⟨52, _⟩ => ⟨S1x8192, .i32⟩
  | .hbm, ⟨53, _⟩ => ⟨S8192x1, .i32⟩
  | .hbm, ⟨54, _⟩ => ⟨S8192x8192, .i32⟩
  | .hbm, ⟨55, _⟩ => ⟨S8192x8192, .i32⟩
  | .hbm, ⟨56, _⟩ => ⟨S8192x8192, .i1⟩
  | .hbm, ⟨57, _⟩ => ⟨S_, .f32⟩
  | .hbm, ⟨58, _⟩ => ⟨S_, .f32⟩
  | .hbm, ⟨59, _⟩ => ⟨S2x8x2x8192x8192, .i1⟩
  | .hbm, ⟨60, _⟩ => ⟨S2x8x2x8192x8192, .f32⟩
  | .hbm, ⟨61, _⟩ => ⟨S2x8x2x8192x8192, .f32⟩
  | .hbm, ⟨62, _⟩ => ⟨S_, .f32⟩
  | .hbm, ⟨63, _⟩ => ⟨S2x8x2x8192, .f32⟩
  | .hbm, ⟨64, _⟩ => ⟨S_, .f32⟩
  | .hbm, ⟨65, _⟩ => ⟨S2x8x2x8192, .f32⟩
  | .hbm, ⟨66, _⟩ => ⟨S2x8x2x8192, .f32⟩
  | .hbm, ⟨67, _⟩ => ⟨S2x8x2x8192x1, .f32⟩
  | .hbm, ⟨68, _⟩ => ⟨S2x8x2x8192x8192, .f32⟩
  | .hbm, ⟨69, _⟩ => ⟨S2x8x2x8192x8192, .f32⟩
  | .hbm, ⟨70, _⟩ => ⟨S2x8x2x8192x8192, .f32⟩
  | .hbm, ⟨71, _⟩ => ⟨S_, .f32⟩
  | .hbm, ⟨72, _⟩ => ⟨S2x8x2x8192, .f32⟩
  | .hbm, ⟨73, _⟩ => ⟨S2x8x2x8192x1, .f32⟩
  | .hbm, ⟨74, _⟩ => ⟨S2x8x2x8192x8192, .f32⟩
  | .hbm, ⟨75, _⟩ => ⟨S2x8x2x8192x8192, .f32⟩
  | .hbm, ⟨76, _⟩ => ⟨S2x8x1x8192x8192, .f32⟩
  | .hbm, ⟨77, _⟩ => ⟨S2x8x8192x8192, .f32⟩
  | .hbm, ⟨78, _⟩ => ⟨S2x8x1x8192x8192, .f32⟩
  | .hbm, ⟨79, _⟩ => ⟨S2x8x8192x8192, .f32⟩
  | .hbm, ⟨80, _⟩ => ⟨S2x8x8192x8192, .f32⟩
  | .hbm, ⟨81, _⟩ => ⟨S2x8x8192x8192, .f32⟩
  | .hbm, ⟨82, _⟩ => ⟨S2x8x8192x8192, .f32⟩
  | .hbm, ⟨83, _⟩ => ⟨S2x8x8192x256, .f32⟩
  | .hbm, ⟨84, _⟩ => ⟨S2x8192x8x256, .f32⟩
  | .hbm, ⟨85, _⟩ => ⟨S2x8192x8x256, .f32⟩
  | .hbm, ⟨86, _⟩ => ⟨S_, .f32⟩
  | .hbm, ⟨87, _⟩ => ⟨S2x8192x8, .f32⟩
  | .hbm, ⟨88, _⟩ => ⟨S2x8192x8x1, .f32⟩
  | .hbm, ⟨89, _⟩ => ⟨S_, .f32⟩
  | .hbm, ⟨90, _⟩ => ⟨S2x8192x8x1, .f32⟩
  | .hbm, ⟨91, _⟩ => ⟨S2x8192x8x1, .f32⟩
  | .hbm, ⟨92, _⟩ => ⟨S_, .f32⟩
  | .hbm, ⟨93, _⟩ => ⟨S2x8192x8x1, .f32⟩
  | .hbm, ⟨94, _⟩ => ⟨S2x8192x8x1, .f32⟩
  | .hbm, ⟨95, _⟩ => ⟨S2x8192x8x1, .f32⟩
  | .hbm, ⟨96, _⟩ => ⟨S2x8192x8x256, .f32⟩
  | .hbm, ⟨97, _⟩ => ⟨S2x8192x8x256, .f32⟩
  | .hbm, ⟨98, _⟩ => ⟨S1x1x1x256, .f32⟩
  | .hbm, ⟨99, _⟩ => ⟨S2x8192x8x256, .f32⟩
  | .hbm, ⟨100, _⟩ => ⟨S2x8192x8x256, .f32⟩
  | .hbm, ⟨101, _⟩ => ⟨S_, .f32⟩
  | .hbm, ⟨102, _⟩ => ⟨S2x8192x8x256, .f32⟩
  | .hbm, ⟨103, _⟩ => ⟨S2x8192x8x256, .f32⟩
  | .hbm, ⟨104, _⟩ => ⟨S2x8192x2048, .f32⟩
  | .hbm, ⟨105, _⟩ => ⟨S2x8192x2048, .bf16⟩
  | _, _ => ⟨S2x8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v21 : Ref sig .tc := ⟨.hbm, 47, rfl⟩
abbrev main_v22 : Ref sig .tc := ⟨.hbm, 48, rfl⟩
abbrev main_cst_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_3 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v30 : Ref sig .tc := ⟨.hbm, 61, rfl⟩
abbrev main_cst_4 : Ref sig .tc := ⟨.hbm, 62, rfl⟩
abbrev main_v31 : Ref sig .tc := ⟨.hbm, 63, rfl⟩
abbrev main_cst_5 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_cst_6 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_7 : Ref sig .tc := ⟨.hbm, 86, rfl⟩
abbrev main_v52 : Ref sig .tc := ⟨.hbm, 87, rfl⟩
abbrev main_v53 : Ref sig .tc := ⟨.hbm, 88, rfl⟩
abbrev main_cst_8 : Ref sig .tc := ⟨.hbm, 89, rfl⟩
abbrev main_v54 : Ref sig .tc := ⟨.hbm, 90, rfl⟩
abbrev main_v55 : Ref sig .tc := ⟨.hbm, 91, rfl⟩
abbrev main_cst_9 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_10 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩

abbrev nD : Nat := 1
abbrev τ : Topo := Topo.v7x

variable {F : FTy → Type} [FloatOps F]
-- ==== Qkv1.lean ====
abbrev S16384x4096 : Shape := ⟨2, ![16384, 4096]⟩
abbrev S4096x12304 : Shape := ⟨2, ![4096, 12304]⟩
abbrev S16384x6144 : Shape := ⟨2, ![16384, 6144]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x12304, .f32⟩
  | .hbm, ⟨2, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Qkv1RefIdeal.lean ====
abbrev S16384x4096 : Shape := ⟨2, ![16384, 4096]⟩
abbrev S4096x12304 : Shape := ⟨2, ![4096, 12304]⟩
abbrev S16384x12304 : Shape := ⟨2, ![16384, 12304]⟩
abbrev S16384x6144 : Shape := ⟨2, ![16384, 6144]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12304, .f32⟩
  | .hbm, ⟨2, _⟩ => ⟨S16384x4096, .f32⟩
  | .hbm, ⟨3, _⟩ => ⟨S16384x12304, .f32⟩
  | .hbm, ⟨4, _⟩ => ⟨S16384x6144, .f32⟩
  | .hbm, ⟨5, _⟩ => ⟨S16384x6144, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProj.lean ====
abbrev S16384x2048 : Shape := ⟨2, ![16384, 2048]⟩
abbrev S4096x4096 : Shape := ⟨2, ![4096, 4096]⟩
abbrev S16384x4096 : Shape := ⟨2, ![16384, 4096]⟩
abbrev S1024x2048 : Shape := ⟨2, ![1024, 2048]⟩
abbrev S4096x512 : Shape := ⟨2, ![4096, 512]⟩
abbrev S1024x512 : Shape := ⟨2, ![1024, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .f32⟩
  | .local _ .vmem, ⟨5, _⟩ => ⟨S4096x512, .f32⟩
  | .local _ .vmem, ⟨6, _⟩ => ⟨S1024x512, .bf16⟩
  | .local _ .vmem, ⟨7, _⟩ => ⟨S1024x512, .bf16⟩
  | .local _ .vmem, ⟨8, _⟩ => ⟨S4096x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S16384x2048 : Shape := ⟨2, ![16384, 2048]⟩
abbrev S4096x4096 : Shape := ⟨2, ![4096, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S4096x4096, .f32⟩
  | .hbm, ⟨3, _⟩ => ⟨S16384x4096, .bf16⟩
  | .hbm, ⟨4, _⟩ => ⟨S16384x4096, .f32⟩
  | .hbm, ⟨5, _⟩ => ⟨S16384x4096, .f32⟩
  | .hbm, ⟨6, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Qkv0.lean ====
abbrev S16384x4096 : Shape := ⟨2, ![16384, 4096]⟩
abbrev S4096x12736 : Shape := ⟨2, ![4096, 12736]⟩
abbrev S16384x6144 : Shape := ⟨2, ![16384, 6144]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x12736, .f32⟩
  | .hbm, ⟨2, _⟩ => ⟨S16384x4096, .bf16⟩
  | .hbm, ⟨3, _⟩ => ⟨S16384x6144, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | .local _ .vmem, ⟨6, _⟩ => ⟨S4096x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Qkv0RefIdeal.lean ====
abbrev S16384x4096 : Shape := ⟨2, ![16384, 4096]⟩
abbrev S4096x12736 : Shape := ⟨2, ![4096, 12736]⟩
abbrev S16384x12736 : Shape := ⟨2, ![16384, 12736]⟩
abbrev S16384x6144 : Shape := ⟨2, ![16384, 6144]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x12736, .f32⟩
  | .hbm, ⟨2, _⟩ => ⟨S16384x12736, .f32⟩
  | .hbm, ⟨3, _⟩ => ⟨S16384x6144, .f32⟩
  | .hbm, ⟨4, _⟩ => ⟨S16384x6144, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Feat.lean ====
abbrev S16384x4096 : Shape := ⟨2, ![16384, 4096]⟩
abbrev S4096x12736 : Shape := ⟨2, ![4096, 12736]⟩
abbrev S16384x6144 : Shape := ⟨2, ![16384, 6144]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096x12736, .f32⟩
  | .hbm, ⟨2, _⟩ => ⟨S16384x4096, .bf16⟩
  | .hbm, ⟨3, _⟩ => ⟨S16384x6144, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FeatRefIdeal.lean ====
abbrev S16384x4096 : Shape := ⟨2, ![16384, 4096]⟩
abbrev S4096x12736 : Shape := ⟨2, ![4096, 12736]⟩
abbrev S16384x12736 : Shape := ⟨2, ![16384, 12736]⟩
abbrev S16384x6144 : Shape := ⟨2, ![16384, 6144]⟩

abbrev nBuf : Space → Nat
  | .hbm => 4
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x12736, .f32⟩
  | .hbm, ⟨2, _⟩ => ⟨S16384x12736, .f32⟩
  | .hbm, ⟨3, _⟩ => ⟨S16384x6144, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GProj.lean ====
abbrev S16384x4096 : Shape := ⟨2, ![16384, 4096]⟩
abbrev S4096x12304 : Shape := ⟨2, ![4096, 12304]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x12304, .f32⟩
  | .hbm, ⟨2, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GProjRefIdeal.lean ====
abbrev S16384x4096 : Shape := ⟨2, ![16384, 4096]⟩
abbrev S4096x12304 : Shape := ⟨2, ![4096, 12304]⟩
abbrev S16384x12304 : Shape := ⟨2, ![16384, 12304]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12304, .f32⟩
  | .hbm, ⟨2, _⟩ => ⟨S16384x4096, .f32⟩
  | .hbm, ⟨3, _⟩ => ⟨S16384x12304, .f32⟩
  | .hbm, ⟨4, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OGate.lean ====
abbrev S16384x4096 : Shape := ⟨2, ![16384, 4096]⟩
abbrev S4096x12304 : Shape := ⟨2, ![4096, 12304]⟩
abbrev S4096x2048 : Shape := ⟨2, ![4096, 2048]⟩
abbrev S16384x2048 : Shape := ⟨2, ![16384, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x12304, .f32⟩
  | .hbm, ⟨2, _⟩ => ⟨S4096x2048, .f32⟩
  | .hbm, ⟨3, _⟩ => ⟨S16384x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OGateRefIdeal.lean ====
abbrev S16384x4096 : Shape := ⟨2, ![16384, 4096]⟩
abbrev S4096x12304 : Shape := ⟨2, ![4096, 12304]⟩
abbrev S16384x12304 : Shape := ⟨2, ![16384, 12304]⟩
abbrev S16384x2048 : Shape := ⟨2, ![16384, 2048]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x12304, .f32⟩
  | .hbm, ⟨2, _⟩ => ⟨S16384x4096, .f32⟩
  | .hbm, ⟨3, _⟩ => ⟨S16384x12304, .f32⟩
  | .hbm, ⟨4, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Lora.lean ====
abbrev S16384x4096 : Shape := ⟨2, ![16384, 4096]⟩
abbrev S4096x12736 : Shape := ⟨2, ![4096, 12736]⟩
abbrev S4096x6592 : Shape := ⟨2, ![4096, 6592]⟩
abbrev S4096x96 : Shape := ⟨2, ![4096, 96]⟩
abbrev S4096x256 : Shape := ⟨2, ![4096, 256]⟩
abbrev S_ : Shape := ⟨0, ![]⟩
abbrev S4096x128 : Shape := ⟨2, ![4096, 128]⟩
abbrev S4096x512 : Shape := ⟨2, ![4096, 512]⟩
abbrev S16384x512 : Shape := ⟨2, ![16384, 512]⟩
abbrev S1024x4096 : Shape := ⟨2, ![1024, 4096]⟩
abbrev S1024x512 : Shape := ⟨2, ![1024, 512]⟩

abbrev nBuf : Space → Nat
  | .hbm => 15
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S4096x12736, .f32⟩
  | .hbm, ⟨2, _⟩ => ⟨S16384x4096, .bf16⟩
  | .hbm, ⟨3, _⟩ => ⟨S4096x6592, .f32⟩
  | .hbm, ⟨4, _⟩ => ⟨S4096x96, .f32⟩
  | .hbm, ⟨5, _⟩ => ⟨S4096x96, .f32⟩
  | .hbm, ⟨6, _⟩ => ⟨S4096x256, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S4096x512, .f32⟩
  | .hbm, ⟨14, _⟩ => ⟨S16384x512, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | .local _ .vmem, ⟨5, _⟩ => ⟨S4096x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== LoraRefIdeal.lean ====
abbrev S16384x4096 : Shape := ⟨2, ![16384, 4096]⟩
abbrev S4096x12736 : Shape := ⟨2, ![4096, 12736]⟩
abbrev S16384x12736 : Shape := ⟨2, ![16384, 12736]⟩
abbrev S16384x448 : Shape := ⟨2, ![16384, 448]⟩
abbrev S16384x96 : Shape := ⟨2, ![16384, 96]⟩
abbrev S16384x256 : Shape := ⟨2, ![16384, 256]⟩
abbrev S_ : Shape := ⟨0, ![]⟩
abbrev S16384x32 : Shape := ⟨2, ![16384, 32]⟩
abbrev S16384x512 : Shape := ⟨2, ![16384, 512]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x12736, .f32⟩
  | .hbm, ⟨2, _⟩ => ⟨S16384x12736, .f32⟩
  | .hbm, ⟨3, _⟩ => ⟨S16384x448, .f32⟩
  | .hbm, ⟨4, _⟩ => ⟨S16384x96, .f32⟩
  | .hbm, ⟨5, _⟩ => ⟨S16384x96, .f32⟩
  | .hbm, ⟨6, _⟩ => ⟨S16384x256, .f32⟩
  | .hbm, ⟨7, _⟩ => ⟨S_, .f32⟩
  | .hbm, ⟨8, _⟩ => ⟨S16384x32, .f32⟩
  | .hbm, ⟨9, _⟩ => ⟨S16384x512, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Gate.lean ====
abbrev S16384x4096 : Shape := ⟨2, ![16384, 4096]⟩
abbrev S4096x12304 : Shape := ⟨2, ![4096, 12304]⟩
abbrev S4096x16 : Shape := ⟨2, ![4096, 16]⟩
abbrev S_ : Shape := ⟨0, ![]⟩
abbrev S4096x128 : Shape := ⟨2, ![4096, 128]⟩
abbrev S16384x128 : Shape := ⟨2, ![16384, 128]⟩
abbrev S512x4096 : Shape := ⟨2, ![512, 4096]⟩
abbrev S512x128 : Shape := ⟨2, ![512, 128]⟩

abbrev nBuf : Space → Nat
  | .hbm => 7
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096x12304, .f32⟩
  | .hbm, ⟨2, _⟩ => ⟨S4096x16, .f32⟩
  | .hbm, ⟨3, _⟩ => ⟨S_, .i32⟩
  | .hbm, ⟨4, _⟩ => ⟨S_, .f32⟩
  | .hbm, ⟨5, _⟩ => ⟨S4096x128, .f32⟩
  | .hbm, ⟨6, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S512x128, .f32⟩
  | .local _ .vmem, ⟨4, _⟩ => ⟨S512x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== GateRefIdeal.lean ====
abbrev S16384x4096 : Shape := ⟨2, ![16384, 4096]⟩
abbrev S4096x12304 : Shape := ⟨2, ![4096, 12304]⟩
abbrev S16384x12304 : Shape := ⟨2, ![16384, 12304]⟩
abbrev S16384x16 : Shape := ⟨2, ![16384, 16]⟩
abbrev S_ : Shape := ⟨0, ![]⟩
abbrev S16384x112 : Shape := ⟨2, ![16384, 112]⟩
abbrev S16384x128 : Shape := ⟨2, ![16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x12304, .f32⟩
  | .hbm, ⟨2, _⟩ => ⟨S16384x12304, .f32⟩
  | .hbm, ⟨3, _⟩ => ⟨S16384x16, .f32⟩
  | .hbm, ⟨4, _⟩ => ⟨S_, .f32⟩
  | .hbm, ⟨5, _⟩ => ⟨S16384x112, .f32⟩
  | .hbm, ⟨6, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Router.lean ====
abbrev S16384x4096 : Shape := ⟨2, ![16384, 4096]⟩
abbrev S4096 : Shape := ⟨1, ![4096]⟩
abbrev S4096x4 : Shape := ⟨2, ![4096, 4]⟩
abbrev S4 : Shape := ⟨1, ![4]⟩
abbrev S4096x32 : Shape := ⟨2, ![4096, 32]⟩
abbrev S32 : Shape := ⟨1, ![32]⟩
abbrev S_ : Shape := ⟨0, ![]⟩
abbrev S4096x128 : Shape := ⟨2, ![4096, 128]⟩
abbrev S1 : Shape := ⟨1, ![1]⟩
abbrev S128 : Shape := ⟨1, ![128]⟩
abbrev S1x4096 : Shape := ⟨2, ![1, 4096]⟩
abbrev S1x128 : Shape := ⟨2, ![1, 128]⟩
abbrev S16384x128 : Shape := ⟨2, ![16384, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩

abbrev nBuf : Space → Nat
  | .hbm => 29
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S4096x4, .f32⟩
  | .hbm, ⟨5, _⟩ => ⟨S4, .f32⟩
  | .hbm, ⟨6, _⟩ => ⟨S4096x32, .f32⟩
  | .hbm, ⟨7, _⟩ => ⟨S32, .f32⟩
  | .hbm, ⟨8, _⟩ => ⟨S_, .f32⟩
  | .hbm, ⟨9, _⟩ => ⟨S4096x128, .f32⟩
  | .hbm, ⟨10, _⟩ => ⟨S_, .i32⟩
  | .hbm, ⟨11, _⟩ => ⟨S1, .i32⟩
  | .hbm, ⟨12, _⟩ => ⟨S4096x128, .f32⟩
  | .hbm, ⟨13, _⟩ => ⟨S_, .i32⟩
  | .hbm, ⟨14, _⟩ => ⟨S1, .i32⟩
  | .hbm, ⟨15, _⟩ => ⟨S4096x128, .f32⟩
  | .hbm, ⟨16, _⟩ => ⟨S_, .f32⟩
  | .hbm, ⟨17, _⟩ => ⟨S128, .f32⟩
  | .hbm, ⟨18, _⟩ => ⟨S_, .i32⟩
  | .hbm, ⟨19, _⟩ => ⟨S1, .i32⟩
  | .hbm, ⟨20, _⟩ => ⟨S128, .f32⟩
  | .hbm, ⟨21, _⟩ => ⟨S_, .i32⟩
  | .hbm, ⟨22, _⟩ => ⟨S1, .i32⟩
  | .hbm, ⟨23, _⟩ => ⟨S128, .f32⟩
  | .hbm, ⟨24, _⟩ => ⟨S1x4096, .f32⟩
  | .hbm, ⟨25, _⟩ => ⟨S1x4096, .f32⟩
  | .hbm, ⟨26, _⟩ => ⟨S1x128, .f32⟩
  | .hbm, ⟨27, _⟩ => ⟨S16384x4096, .f32⟩
  | .hbm, ⟨28, _⟩ => ⟨S16384x128, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x4096, .f32⟩
  | .local _ .vmem, ⟨6, _⟩ => ⟨S4096x128, .f32⟩
  | .local _ .vmem, ⟨7, _⟩ => ⟨S1x128, .f32⟩
  | .local _ .vmem, ⟨8, _⟩ => ⟨S256x4096, .f32⟩
  | .local _ .vmem, ⟨9, _⟩ => ⟨S256x4096, .f32⟩
  | .local _ .vmem, ⟨10, _⟩ => ⟨S256x128, .f32⟩
  | .local _ .vmem, ⟨11, _⟩ => ⟨S256x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RouterRefIdeal.lean ====
abbrev S16384x4096 : Shape := ⟨2, ![16384, 4096]⟩
abbrev S4096 : Shape := ⟨1, ![4096]⟩
abbrev S4096x4 : Shape := ⟨2, ![4096, 4]⟩
abbrev S4 : Shape := ⟨1, ![4]⟩
abbrev S4096x32 : Shape := ⟨2, ![4096, 32]⟩
abbrev S32 : Shape := ⟨1, ![32]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x4 : Shape := ⟨2, ![16384, 4]⟩
abbrev S1x4 : Shape := ⟨2, ![1, 4]⟩
abbrev S16384x32 : Shape := ⟨2, ![16384, 32]⟩
abbrev S1x32 : Shape := ⟨2, ![1, 32]⟩
abbrev S16384x92 : Shape := ⟨2, ![16384, 92]⟩
abbrev S16384x128 : Shape := ⟨2, ![16384, 128]⟩

abbrev nBuf : Space → Nat
  | .hbm => 53
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S4096, .f32⟩
  | .hbm, ⟨3, _⟩ => ⟨S4096, .f32⟩
  | .hbm, ⟨4, _⟩ => ⟨S4096x4, .f32⟩
  | .hbm, ⟨5, _⟩ => ⟨S4, .f32⟩
  | .hbm, ⟨6, _⟩ => ⟨S4096x32, .f32⟩
  | .hbm, ⟨7, _⟩ => ⟨S32, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x4096, .f32⟩
  | .hbm, ⟨20, _⟩ => ⟨S16384x4096, .f32⟩
  | .hbm, ⟨21, _⟩ => ⟨S16384x4096, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x4096, .f32⟩
  | .hbm, ⟨29, _⟩ => ⟨S16384x4096, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x4096, .f32⟩
  | .hbm, ⟨35, _⟩ => ⟨S16384x4096, .f32⟩
  | .hbm, ⟨36, _⟩ => ⟨S1x4096, .f32⟩
  | .hbm, ⟨37, _⟩ => ⟨S16384x4096, .f32⟩
  | .hbm, ⟨38, _⟩ => ⟨S16384x4096, .f32⟩
  | .hbm, ⟨39, _⟩ => ⟨S1x4096, .f32⟩
  | .hbm, ⟨40, _⟩ => ⟨S16384x4096, .f32⟩
  | .hbm, ⟨41, _⟩ => ⟨S16384x4096, .f32⟩
  | .hbm, ⟨42, _⟩ => ⟨S16384x4, .f32⟩
  | .hbm, ⟨43, _⟩ => ⟨S1x4, .f32⟩
  | .hbm, ⟨44, _⟩ => ⟨S16384x4, .f32⟩
  | .hbm, ⟨45, _⟩ => ⟨S16384x4, .f32⟩
  | .hbm, ⟨46, _⟩ => ⟨S16384x32, .f32⟩
  | .hbm, ⟨47, _⟩ => ⟨S1x32, .f32⟩
  | .hbm, ⟨48, _⟩ => ⟨S16384x32, .f32⟩
  | .hbm, ⟨49, _⟩ => ⟨S16384x32, .f32⟩
  | .hbm, ⟨50, _⟩ => ⟨S_, .f32⟩
  | .hbm, ⟨51, _⟩ => ⟨S16384x92, .f32⟩
  | .hbm, ⟨52, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Proof.Columns.lean ====
module
public import Idealize.ShloMosaic.Lib.Pointwise
@[expose] public section
noncomputable section
namespace Cert.Columns
open Idealize.ShloMosaic

/-- A table of `a` rows and `b` columns. -/
abbrev Table (a b : ℕ) : Type := (⟨2, ![a, b]⟩ : Shape).Idx → EReal

/-- Every index of a table is a row and a column. -/
theorem table_idx {a b : ℕ} (i : (⟨2, ![a, b]⟩ : Shape).Idx) : ∃ (r : Fin a) (c : Fin b), i = ix2 r c :=
  ⟨i 0, i 1, funext fun x => match x with | ⟨0, _⟩ => rfl | ⟨1, _⟩ => rfl⟩

/-- The product of a block of rows with a block of columns. -/
def products (x : Table 1024 4096) (w : Table 4096 512) : Table 1024 512 :=
  fun i => ∑ k : Fin 4096, x (ix2 (i 0) k) * w (ix2 k (i 1))

theorem products_apply (x : Table 1024 4096) (w : Table 4096 512) (r : Fin 1024) (j : Fin 512) :
    products x w (ix2 r j) = ∑ k : Fin 4096, x (ix2 r k) * w (ix2 k j) := rfl

/-- An entry of a whole product: a row of `X` with a column of `W`. -/
def entry {n : ℕ} (X : Table 16384 4096) (W : Table 4096 n) (R : Fin 16384) (C : Fin n) : EReal :=
  ∑ k : Fin 4096, X (ix2 R k) * W (ix2 k C)

section Walk
variable {N n p c0 : ℕ} (o : (n : ℕ) → n < N → Table 1024 512 × Table 4096 512) (x : Fin N → Table 1024 4096) (w : Fin N → Table 4096 512)

/-- A walk over blocks of columns, sixteen blocks of rows for each. It keeps the columns' weights at the first of the
    sixteen and multiplies with what it kept. So at every point it writes the product with the point's own weights. -/
theorem walk (hA : ∀ t : Fin N, t.val % 16 = 0 → o t.val t.isLt = (products (x t) (w t), w t))
    (hB : ∀ t : Fin N, ¬t.val % 16 = 0 → o t.val t.isLt
      = (products (x t) (o (t.val - 1) (Nat.lt_of_le_of_lt (Nat.sub_le _ _) t.isLt)).2, (o (t.val - 1) (Nat.lt_of_le_of_lt (Nat.sub_le _ _) t.isLt)).2))
    (hw : ∀ t t' : Fin N, t.val / 16 = t'.val / 16 → w t = w t') (t : Fin N) :
    (o t.val t.isLt).1 = products (x t) (w t) := by
  have key : ∀ (n : ℕ) (h : n < N), (o n h).2 = w ⟨n, h⟩ := by
    intro n
    induction n with
    | zero => intro h; rw [hA ⟨0, h⟩ rfl]
    | succ n ih =>
      intro h
      by_cases h0 : (n + 1) % 16 = 0
      · rw [hA ⟨n + 1, h⟩ h0]
      · rw [hB ⟨n + 1, h⟩ h0]
        exact (ih (Nat.lt_of_succ_lt h)).trans (hw _ _ (by show n / 16 = (n + 1) / 16; omega))
  by_cases h0 : t.val % 16 = 0
  · rw [hA t h0]
  · rw [hB t h0, key]
    rw [hw ⟨t.val - 1, Nat.lt_of_le_of_lt (Nat.sub_le _ _) t.isLt⟩ t (by show (t.val - 1) / 16 = t.val / 16; omega)]

/-- The array such a walk fills block by block, when its blocks are those of the rows `X` and of the columns of `W` from
    `c0` on: it holds the whole product's entries. -/
theorem walk_array (hA : ∀ t : Fin N, t.val % 16 = 0 → o t.val t.isLt = (products (x t) (w t), w t))
    (hB : ∀ t : Fin N, ¬t.val % 16 = 0 → o t.val t.isLt
      = (products (x t) (o (t.val - 1) (Nat.lt_of_le_of_lt (Nat.sub_le _ _) t.isLt)).2, (o (t.val - 1) (Nat.lt_of_le_of_lt (Nat.sub_le _ _) t.isLt)).2))
    (X : Table 16384 4096) (W : Table 4096 n)
    (hx : ∀ (t : Fin N) (r : Fin 1024) (k : Fin 4096) (R : Fin 16384), R.val = 1024 * (t.val % 16) + r.val → x t (ix2 r k) = X (ix2 R k))
    (hw : ∀ (t : Fin N) (k : Fin 4096) (j : Fin 512) (C : Fin n), C.val = c0 + 512 * (t.val / 16) + j.val → w t (ix2 k j) = W (ix2 k C))
    (out : Table 16384 p)
    (hout : ∀ (t : Fin N) (r : Fin 1024) (j : Fin 512) (R : Fin 16384) (C : Fin p), R.val = 1024 * (t.val % 16) + r.val →
      C.val = 512 * (t.val / 16) + j.val → out (ix2 R C) = (o t.val t.isLt).1 (ix2 r j))
    (hN : 32 * N = p) (hd : N % 16 = 0) (hp : c0 + p ≤ n) (R : Fin 16384) (C : Fin p) :
    out (ix2 R C) = entry X W R ⟨c0 + C.val, by omega⟩ := by
  have hC := C.isLt
  have hR := R.isLt
  let t : Fin N := ⟨16 * (C.val / 512) + R.val / 1024, by omega⟩
  have ht : t.val = 16 * (C.val / 512) + R.val / 1024 := rfl
  let r : Fin 1024 := ⟨R.val % 1024, by omega⟩
  let j : Fin 512 := ⟨C.val % 512, by omega⟩
  have hr : R.val = 1024 * (t.val % 16) + r.val := by show R.val = 1024 * (t.val % 16) + R.val % 1024; omega
  have hj : C.val = 512 * (t.val / 16) + j.val := by show C.val = 512 * (t.val / 16) + C.val % 512; omega
  have hsame : ∀ t t' : Fin N, t.val / 16 = t'.val / 16 → w t = w t' := by
    intro t t' h
    funext i
    obtain ⟨k, j, rfl⟩ := table_idx i
    have := t.isLt
    let C : Fin n := ⟨c0 + 512 * (t.val / 16) + j.val, by omega⟩
    exact (hw t k j C rfl).trans (hw t' k j C (congrArg (c0 + 512 * · + j.val) h)).symm
  rw [hout t r j R C hr hj, walk o x w hA hB hsame t, products_apply]
  exact Finset.sum_congr rfl fun k _ => congrArg₂ (· * ·) (hx t r k R hr) (hw t k j _ (by show c0 + C.val = _; omega))

end Walk

end Cert.Columns
-- ==== Proof.QkvCall.lean ====
module
public import proofs.«01_k».proof.Proof.Gen.Qkv1Ideal.Value
public import proofs.«01_k».proof.Proof.Gen.Qkv1RefIdeal.Read
public import proofs.«01_k».proof.Defs
public import Idealize.ShloMosaic.Lib.VecWindow
public import proofs.«01_k».proof.Proof.Columns
@[expose] public section
set_option maxRecDepth 16384
noncomputable section
namespace Cert.Qkv1Ideal.DA
open Cert.Columns Cert.Qkv1Ideal Cert.Qkv1Ideal.Gen
open Idealize.ShloMosaic Idealize.ShloMosaic.TcCoe Idealize.SL.Sem Idealize.ShloMosaic.Tactic

/-- Casting the weights to the narrow type leaves them as they are. -/
theorem cast_read (w : Vec Ideal S4096x512 .f32) : k0_pay1 (F := Ideal) w = w := by
  funext i
  unfold k0_pay1
  pointwise
/-- The product stored at a point. -/
theorem product_read (x : Vec Ideal S1024x4096 .bf16) (w : Vec Ideal S4096x512 .bf16) : k0_pay2 (F := Ideal) x w = products x w := by
  funext i
  unfold k0_pay2 products
  pointwise

section Body
variable (c : Dev nD) (i : grid0.Coords) (arg2 : Memref sig .tc .vmem S1024x4096 .bf16) (harg2 : arg2.IsWhole) (arg3 : Memref sig .tc .vmem S4096x512 .f32) (harg3 : arg3.IsWhole)
  (arg4 : Memref sig .tc .vmem S1024x512 .bf16) (harg4 : arg4.IsWhole) (arg5 : Memref sig .tc .vmem S4096x512 .bf16) (harg5 : arg5.IsWhole)
  (x0 : Vec Ideal S1024x4096 .bf16) (x1 : Vec Ideal S4096x512 .f32)

/-- What the body keeps at the first block of rows: the cast weights. -/
theorem first_kept (hc0 : cond0_0 i) : sout0_A_0 c i arg2 harg2 arg3 harg3 arg4 harg4 arg5 harg5 hc0 x0 x1 = x1 := by
  refine (View.read_writes_full VS0_0 _ inb_S4096x512_S4096x512_0_0 _ []).trans ((cast_read _).trans ?_)
  exact ((View.readAt_full _ _ _).trans (harg3.read_unread _))
/-- What the body writes at the first block of rows: the product with the weights just kept. -/
theorem first_out (hc0 : cond0_0 i) : out0_A_2 c i arg2 harg2 arg3 harg3 arg4 harg4 arg5 harg5 hc0 x0 x1 = products x0 x1 := by
  refine (View.read_writes_full VO0_2 _ inb_S1024x512_S1024x512_0_0 _ []).trans ((product_read _ _).trans ?_)
  refine congrArg₂ products ((View.readAt_full _ _ _).trans (harg2.read_unread _)) ?_
  refine (View.readCov_full arg5.view inb_S4096x512_S4096x512_0_0 inb_S4096x512_S4096x512_0_0 _ []).trans ((cast_read _).trans ?_)
  exact (View.readAt_full _ _ _).trans (harg3.read_unread _)
/-- What it writes at a later block: the product with the weights kept before. -/
theorem later_out (hc0 : ¬cond0_0 i) (xs : Vec Ideal S4096x512 .bf16) :
    out0_B_2 c i arg2 harg2 arg3 harg3 arg4 harg4 arg5 harg5 hc0 x0 x1 xs = products x0 xs := by
  refine (View.read_writes_full VO0_2 _ inb_S1024x512_S1024x512_0_0 _ []).trans ((product_read _ _).trans ?_)
  exact congrArg₂ products ((View.readAt_full _ _ _).trans (harg2.read_unread _)) ((View.readAt_full _ _ _).trans (harg5.read_unread _))
end Body

variable (m : (ℓ : Loc nD τ sig) → Buf (Elt Ideal) ℓ)

/-- The rows that come in. -/
abbrev rowsIn (c : Dev nD) : Vec Ideal S16384x4096 .bf16 := m ((c : Thread nD τ).loc main_arg0)
/-- The weights. -/
abbrev weightsIn (c : Dev nD) : Vec Ideal S4096x12304 .f32 := m ((c : Thread nD τ).loc main_arg1)

/-- The block of rows at a point. -/
def rowsAt (c : Dev nD) (t : Fin cfg0.N) : Vec Ideal S1024x4096 .bf16 := iblk m c 0 t
/-- The block of columns at a point. -/
def weightsAt (c : Dev nD) (t : Fin cfg0.N) : Vec Ideal S4096x512 .f32 := X0_1 m c t

theorem index0 : ∀ t : Fin grid0.N, win0_0.index t 0 = t.val % 16 ∧ win0_0.index t 1 = 0 := by decide +kernel
theorem index1 : ∀ t : Fin grid0.N, win0_1.index t 0 = 0 ∧ win0_1.index t 1 = t.val / 16 := by decide +kernel
theorem index2 : ∀ t : Fin grid0.N, win0_2.index t 0 = t.val % 16 ∧ win0_2.index t 1 = t.val / 16 := by decide +kernel

/-- The rows at a point. -/
theorem rows_read (c : Dev nD) (t : Fin cfg0.N) (r : Fin 1024) (k : Fin 4096) (R : Fin 16384) (hR : R.val = 1024 * (t.val % 16) + r.val) :
    rowsAt m c t (ix2 r k) = rowsIn m c (ix2 R k) := by
  obtain ⟨h0, h1⟩ := index0 t
  unfold rowsAt iblk
  rw [View.read_apply]
  show V m c main_arg0 _ = _
  rw [V_main_arg0]
  refine congrArg _ (funext fun a => Fin.ext ?_)
  match a with
  | ⟨0, _⟩ => show win0_0.index t 0 * 1024 + 1 * r.val = R.val; rw [h0]; omega
  | ⟨1, _⟩ => show win0_0.index t 1 * 4096 + 1 * k.val = k.val; rw [h1]; omega

/-- The weights at a point. -/
theorem weights_read (c : Dev nD) (t : Fin cfg0.N) (k : Fin 4096) (j : Fin 512) (C : Fin 12304) (hC : C.val = 0 + 512 * (t.val / 16) + j.val) :
    weightsAt m c t (ix2 k j) = weightsIn m c (ix2 k C) := by
  obtain ⟨h0, h1⟩ := index1 t
  unfold weightsAt X0_1 Pipeline.Window.fill
  rw [dif_pos (moved0_1 t _)]
  unfold iblk
  rw [View.read_apply]
  show V m c main_arg1 _ = _
  rw [V_main_arg1]
  refine congrArg _ (funext fun a => Fin.ext ?_)
  match a with
  | ⟨0, _⟩ => show win0_1.index t 0 * 4096 + 1 * k.val = k.val; rw [h0]; omega
  | ⟨1, _⟩ => show win0_1.index t 1 * 512 + 1 * j.val = C.val; rw [h1]; omega

/-- The output array's block of a point is what the point wrote. -/
theorem block_read (c : Dev nD) (t : Fin cfg0.N) (r : Fin 1024) (j : Fin 512) (R : Fin 16384) (C : Fin 6144) (hR : R.val = 1024 * (t.val % 16) + r.val)
    (hC : C.val = 512 * (t.val / 16) + j.val) :
    ((dats m 0 c).arrAt 2 cfg0.N : Vec Ideal S16384x6144 .bf16) (ix2 R C) = (outsAt0 m c t.val t.isLt).1 (ix2 r j) := by
  have hb := congrFun (Value.blocks2 m c t (flush0_2 _)) (ix2 r j)
  rw [View.read_apply, Value.flushed2] at hb
  have hc : ∀ (o : Vec Ideal S1024x512 .bf16) (t : Fin grid0.N) (j : S1024x512.Idx), ((cfg0.win 2).cut (grid0.coords t) o : Vec Ideal S1024x512 .bf16) j = o j := fun _ _ _ => rfl
  refine Eq.trans ?_ (hb.trans (hc _ _ _))
  obtain ⟨h0, h1⟩ := index2 t
  refine congrArg _ (funext fun a => Fin.ext ?_)
  match a with
  | ⟨0, _⟩ => show R.val = win0_2.index t 0 * 1024 + 1 * r.val; rw [h0]; omega
  | ⟨1, _⟩ => show C.val = win0_2.index t 1 * 512 + 1 * j.val; rw [h1]; omega

/-- The output array's entries. -/
theorem array_read (c : Dev nD) (R : Fin 16384) (C : Fin 6144) :
    ((dats m 0 c).arrAt 2 cfg0.N : Vec Ideal S16384x6144 .bf16) (ix2 R C) = entry (rowsIn m c) (weightsIn m c) R ⟨0 + C.val, by omega⟩ := by
  refine walk_array (N := cfg0.N) (outsAt0 m c) (rowsAt m c) (weightsAt m c) (fun t h0 => ?_) (fun t h0 => ?_) (rowsIn m c) (weightsIn m c)
    (rows_read m c) (weights_read m c) _ (block_read m c) (by rw [show cfg0.N = 192 from N_0]) (by rw [show cfg0.N = 192 from N_0]) (by omega) R C
  · rw [outsAt0_A m c t h0, first_out, first_kept]; rfl
  · rw [outsAt0_B m c t h0, later_out]; rfl

/-- The output array is the reference's result of the same arguments. -/
theorem results_eq (c : Dev nD) :
    Cert.Qkv1RefIdeal.Read.val_main_v3 (F := Ideal) (rowsIn m c) (weightsIn m c) = (dats m 0 c).arrAt 2 cfg0.N := by
  funext i
  obtain ⟨R, C, rfl⟩ := table_idx i
  refine Eq.trans ?_ (array_read m c R C).symm
  rw [Cert.Qkv1RefIdeal.Read.val_main_v3_apply, Cert.Qkv1RefIdeal.Read.val_main_v2_apply]
  refine (Cert.Qkv1RefIdeal.Read.val_main_v1_apply _ _ _).trans (Finset.sum_congr rfl fun k _ => ?_)
  refine congrArg₂ (· * ·) (congrArg (rowsIn m c) ?_) (congrArg (weightsIn m c) ?_)
  all_goals
    refine funext fun a => Fin.ext ?_
    match a with
    | ⟨0, _⟩ => rfl
    | ⟨1, _⟩ => first | rfl | exact (Nat.zero_add _).symm

/-- Over the reals, the kernel computes what its reference computes. -/
theorem algebraic : Cert.algebraic_Qkv1Ideal_Qkv1RefIdeal := by
  intro m ρ m' ρ' _ hagree
  refine ⟨fun c => (dats m 0 c).arrAt 2 cfg0.N, Value.run_blocks (F := Ideal) m ρ, ?_⟩
  refine (θ_run _ _ _).mono (fun _ h c => ⟨(h c).1.trans ?_, (h c).2⟩) (Cert.Qkv1RefIdeal.Value.run (F := Ideal) m' ρ')
  obtain ⟨e0, e1⟩ := hagree c
  rw [Cert.Qkv1RefIdeal.Read.val_main_v3_eq, e0, e1]
  exact results_eq m c

/-- The reference runs to the end and leaves its arguments as they were; it declares no semaphore. -/
theorem frame_reference : Cert.quiescent_Qkv1RefIdeal := fun m ρ _ =>
  (θ_run Cert.Qkv1RefIdeal.defs _ _).mono (fun r h => ⟨fun c => (h c).2,
      Idealize.ShloMosaic.sem_eq_zero_of_no_sems (by decide) r.2⟩)
    (Cert.Qkv1RefIdeal.Value.run (F := Ideal) m ρ)

end Cert.Qkv1Ideal.DA
-- ==== Proof.OutCall.lean ====
module
public import proofs.«01_k».proof.Proof.Gen.OutProjIdeal.Value
public import proofs.«01_k».proof.Proof.Gen.OutProjRefIdeal.Read
public import proofs.«01_k».proof.Defs
public import Idealize.ShloMosaic.Lib.VecWindow
public import Idealize.ShloMosaic.Lib.Pointwise
@[expose] public section
set_option maxRecDepth 16384
noncomputable section
namespace Cert.OutProjIdeal.DA
open Cert.OutProjIdeal Cert.OutProjIdeal.Gen
open Idealize.ShloMosaic Idealize.ShloMosaic.TcCoe Idealize.SL.Sem Idealize.ShloMosaic.Tactic

/-- The upper half of the kept weights: the rows that meet the first part. -/
def upper (w : Vec Ideal S4096x512 .bf16) : Vec Ideal S2048x512 .bf16 := View.ld w (Rect.unit (s := S4096x512) ![0, 0] S2048x512.size inb_S4096x512_S2048x512_0_0)
/-- The lower half: the rows that meet the second part. -/
def lower (w : Vec Ideal S4096x512 .bf16) : Vec Ideal S2048x512 .bf16 := View.ld w (Rect.unit (s := S4096x512) ![2048, 0] S2048x512.size inb_S4096x512_S2048x512_2048_0)

theorem upper_read (w : Vec Ideal S4096x512 .bf16) (k : Fin 2048) (j : Fin 512) : upper w (ix2 k j) = w (ix2 ⟨k.val, by omega⟩ j) := by
  refine congrArg w (funext fun a => Fin.ext ?_)
  match a with
  | ⟨0, _⟩ => show 0 + 1 * k.val = k.val; omega
  | ⟨1, _⟩ => show 0 + 1 * j.val = j.val; omega
theorem lower_read (w : Vec Ideal S4096x512 .bf16) (k : Fin 2048) (j : Fin 512) : lower w (ix2 k j) = w (ix2 ⟨2048 + k.val, by omega⟩ j) := by
  refine congrArg w (funext fun a => Fin.ext ?_)
  match a with
  | ⟨0, _⟩ => show 2048 + 1 * k.val = 2048 + k.val; omega
  | ⟨1, _⟩ => show 0 + 1 * j.val = j.val; omega

/-- Casting the weights to the narrow type leaves them as they are. -/
theorem cast_read (w : Vec Ideal S4096x512 .f32) : k0_pay1 (F := Ideal) w = w := by
  funext i
  unfold k0_pay1
  pointwise
/-- The sum of the two products stored at a point, at an entry. -/
theorem product_read (x y : Vec Ideal S1024x2048 .bf16) (u v : Vec Ideal S2048x512 .bf16) (r : Fin 1024) (j : Fin 512) :
    k0_pay2 (F := Ideal) x u y v (ix2 r j) = (∑ k : Fin 2048, x (ix2 r k) * u (ix2 k j)) + ∑ k : Fin 2048, y (ix2 r k) * v (ix2 k j) := by
  unfold k0_pay2
  pointwise

section Body
variable (c : Dev nD) (i : grid0.Coords) (arg2 : Memref sig .tc .vmem S1024x2048 .bf16) (harg2 : arg2.IsWhole) (arg3 : Memref sig .tc .vmem S1024x2048 .bf16) (harg3 : arg3.IsWhole)
  (arg4 : Memref sig .tc .vmem S4096x512 .f32) (harg4 : arg4.IsWhole) (arg5 : Memref sig .tc .vmem S1024x512 .bf16) (harg5 : arg5.IsWhole) (arg6 : Memref sig .tc .vmem S4096x512 .bf16) (harg6 : arg6.IsWhole)
  (x0 x1 : Vec Ideal S1024x2048 .bf16) (x2 : Vec Ideal S4096x512 .f32)

/-- What the body keeps at the first block of rows: the cast weights. -/
theorem first_kept (hc0 : cond0_0 i) : sout0_A_0 c i arg2 harg2 arg3 harg3 arg4 harg4 arg5 harg5 arg6 harg6 hc0 x0 x1 x2 = k0_pay1 x2 := by
  refine (View.read_writes_full VS0_0 _ inb_S4096x512_S4096x512_0_0 _ []).trans ?_
  exact congrArg k0_pay1 ((View.readAt_full _ _ _).trans (harg4.read_unread _))
/-- What the body writes at the first block of rows: the products with the weights just kept. -/
theorem first_out (hc0 : cond0_0 i) :
    out0_A_3 c i arg2 harg2 arg3 harg3 arg4 harg4 arg5 harg5 arg6 harg6 hc0 x0 x1 x2 = k0_pay2 x0 (upper (k0_pay1 x2)) x1 (lower (k0_pay1 x2)) := by
  refine (View.read_writes_full VO0_3 _ inb_S1024x512_S1024x512_0_0 _ []).trans ?_
  have hk : arg6.view.read (Elt Ideal) (arg6.view.writes (Elt Ideal) arg6.view.junk (kernelRun0_A.sl.HS0_1 (F := Ideal) c arg4 harg4 x2)) = k0_pay1 x2 := by
    refine (View.read_writes_full arg6.view _ inb_S4096x512_S4096x512_0_0 _ []).trans ?_
    exact congrArg k0_pay1 ((View.readAt_full _ _ _).trans (harg4.read_unread _))
  have hu : kernelRun0_A.sl.v4 (F := Ideal) c arg4 harg4 arg6 x2 = upper (k0_pay1 x2) := congrArg upper hk
  have hl : kernelRun0_A.sl.v7 (F := Ideal) c arg4 harg4 arg6 x2 = lower (k0_pay1 x2) := congrArg lower hk
  rw [hu, hl]
  exact congrArg₂ (fun a b => k0_pay2 a (upper (k0_pay1 x2)) b (lower (k0_pay1 x2))) ((View.readAt_full _ _ _).trans (harg2.read_unread _))
    ((View.readAt_full _ _ _).trans (harg3.read_unread _))
/-- What it writes at a later block: the products with the weights kept before. -/
theorem later_out (hc0 : ¬cond0_0 i) (xs : Vec Ideal S4096x512 .bf16) :
    out0_B_3 c i arg2 harg2 arg3 harg3 arg4 harg4 arg5 harg5 arg6 harg6 hc0 x0 x1 x2 xs = k0_pay2 x0 (upper xs) x1 (lower xs) := by
  refine (View.read_writes_full VO0_3 _ inb_S1024x512_S1024x512_0_0 _ []).trans ?_
  refine (congrArg₂ (fun a b => k0_pay2 a _ b _) ((View.readAt_full _ _ _).trans (harg2.read_unread _))
    ((View.readAt_full _ _ _).trans (harg3.read_unread _))).trans ?_
  exact congrArg₂ (fun a b => k0_pay2 x0 a x1 b) (congrArg upper (harg6.read_unread _)) (congrArg lower (harg6.read_unread _))
end Body

variable (m : (ℓ : Loc nD τ sig) → Buf (Elt Ideal) ℓ)

/-- The first mixer's rows. -/
abbrev firstIn (c : Dev nD) : Vec Ideal S16384x2048 .bf16 := m ((c : Thread nD τ).loc main_arg0)
/-- The second mixer's rows. -/
abbrev secondIn (c : Dev nD) : Vec Ideal S16384x2048 .bf16 := m ((c : Thread nD τ).loc main_arg1)
/-- The weights. -/
abbrev weightsIn (c : Dev nD) : Vec Ideal S4096x4096 .f32 := m ((c : Thread nD τ).loc main_arg2)

theorem index0 : ∀ t : Fin grid0.N, win0_0.index t 0 = t.val % 16 ∧ win0_0.index t 1 = 0 := by decide +kernel
theorem index1 : ∀ t : Fin grid0.N, win0_1.index t 0 = t.val % 16 ∧ win0_1.index t 1 = 0 := by decide +kernel
theorem index2 : ∀ t : Fin grid0.N, win0_2.index t 0 = 0 ∧ win0_2.index t 1 = t.val / 16 := by decide +kernel
theorem index3 : ∀ t : Fin grid0.N, win0_3.index t 0 = t.val % 16 ∧ win0_3.index t 1 = t.val / 16 := by decide +kernel

/-- The first mixer's rows at a point. -/
theorem first_read (c : Dev nD) (t : Fin cfg0.N) (r : Fin 1024) (k : Fin 2048) (R : Fin 16384) (hR : R.val = 1024 * (t.val % 16) + r.val) :
    (iblk m c 0 t : Vec Ideal S1024x2048 .bf16) (ix2 r k) = firstIn m c (ix2 R k) := by
  obtain ⟨h0, h1⟩ := index0 t
  unfold iblk
  rw [View.read_apply]
  show V m c main_arg0 _ = _
  rw [V_main_arg0]
  refine congrArg _ (funext fun a => Fin.ext ?_)
  match a with
  | ⟨0, _⟩ => show win0_0.index t 0 * 1024 + 1 * r.val = R.val; rw [h0]; omega
  | ⟨1, _⟩ => show win0_0.index t 1 * 2048 + 1 * k.val = k.val; rw [h1]; omega

/-- The second mixer's rows at a point. -/
theorem second_read (c : Dev nD) (t : Fin cfg0.N) (r : Fin 1024) (k : Fin 2048) (R : Fin 16384) (hR : R.val = 1024 * (t.val % 16) + r.val) :
    (iblk m c 1 t : Vec Ideal S1024x2048 .bf16) (ix2 r k) = secondIn m c (ix2 R k) := by
  obtain ⟨h0, h1⟩ := index1 t
  unfold iblk
  rw [View.read_apply]
  show V m c main_arg1 _ = _
  rw [V_main_arg1]
  refine congrArg _ (funext fun a => Fin.ext ?_)
  match a with
  | ⟨0, _⟩ => show win0_1.index t 0 * 1024 + 1 * r.val = R.val; rw [h0]; omega
  | ⟨1, _⟩ => show win0_1.index t 1 * 2048 + 1 * k.val = k.val; rw [h1]; omega

/-- The weights at a point. -/
theorem weights_read (c : Dev nD) (t : Fin cfg0.N) (k : Fin 4096) (j : Fin 512) (C : Fin 4096) (hC : C.val = 512 * (t.val / 16) + j.val) :
    (iblk m c 2 t : Vec Ideal S4096x512 .f32) (ix2 k j) = weightsIn m c (ix2 k C) := by
  obtain ⟨h0, h1⟩ := index2 t
  unfold iblk
  rw [View.read_apply]
  show V m c main_arg2 _ = _
  rw [V_main_arg2]
  refine congrArg _ (funext fun a => Fin.ext ?_)
  match a with
  | ⟨0, _⟩ => show win0_2.index t 0 * 4096 + 1 * k.val = k.val; rw [h0]; omega
  | ⟨1, _⟩ => show win0_2.index t 1 * 512 + 1 * j.val = C.val; rw [h1]; omega

/-- The weights kept after a point are those of the point's block of columns. -/
theorem kept (c : Dev nD) : ∀ (n : ℕ) (h : n < cfg0.N) (k : Fin 4096) (j : Fin 512) (C : Fin 4096), C.val = 512 * (n / 16) + j.val →
    (outsAt0 m c n h).2 (ix2 k j) = weightsIn m c (ix2 k C) := by
  intro n
  induction n with
  | zero =>
    intro h k j C hC
    rw [outsAt0_A m c ⟨0, h⟩ rfl]
    dsimp only
    rw [first_kept, cast_read]
    exact weights_read m c ⟨0, h⟩ k j C hC
  | succ n ih =>
    intro h k j C hC
    by_cases h0 : (n + 1) % 16 = 0
    · rw [outsAt0_A m c ⟨n + 1, h⟩ h0]
      dsimp only
      rw [first_kept, cast_read]
      exact weights_read m c ⟨n + 1, h⟩ k j C hC
    · rw [outsAt0_B m c ⟨n + 1, h⟩ h0]
      exact ih (Nat.lt_of_succ_lt h) k j C (by omega)

/-- The output's entry at a row and a column: the two parts' products with their rows of the weights. -/
def entry (c : Dev nD) (R : Fin 16384) (C : Fin 4096) : EReal :=
  (∑ k : Fin 2048, firstIn m c (ix2 R k) * weightsIn m c (ix2 ⟨k.val, by omega⟩ C))
    + ∑ k : Fin 2048, secondIn m c (ix2 R k) * weightsIn m c (ix2 ⟨2048 + k.val, by omega⟩ C)

/-- The products of a point's rows with weights that are the point's columns. -/
theorem product_entry (c : Dev nD) (t : Fin cfg0.N) (r : Fin 1024) (j : Fin 512) (R : Fin 16384) (hR : R.val = 1024 * (t.val % 16) + r.val)
    (C : Fin 4096) (w : Vec Ideal S4096x512 .bf16) (hw : ∀ k, w (ix2 k j) = weightsIn m c (ix2 k C)) :
    k0_pay2 (F := Ideal) (iblk m c 0 t) (upper w) (iblk m c 1 t) (lower w) (ix2 r j) = entry m c R C := by
  rw [product_read]
  refine congrArg₂ (· + ·) (Finset.sum_congr rfl fun k _ => congrArg₂ (· * ·) (first_read m c t r k R hR) ?_)
    (Finset.sum_congr rfl fun k _ => congrArg₂ (· * ·) (second_read m c t r k R hR) ?_)
  · rw [upper_read, hw]
  · rw [lower_read, hw]

/-- The block written at a point. -/
theorem wrote (c : Dev nD) (t : Fin cfg0.N) (r : Fin 1024) (j : Fin 512) (R : Fin 16384) (hR : R.val = 1024 * (t.val % 16) + r.val)
    (C : Fin 4096) (hC : C.val = 512 * (t.val / 16) + j.val) :
    (outsAt0 m c t.val t.isLt).1 (ix2 r j) = entry m c R C := by
  by_cases h0 : t.val % 16 = 0
  · rw [outsAt0_A m c t h0]
    dsimp only
    rw [first_out, cast_read]
    exact product_entry m c t r j R hR C _ fun k => weights_read m c t k j C hC
  · rw [outsAt0_B m c t h0]
    dsimp only
    rw [later_out]
    exact product_entry m c t r j R hR C _ fun k => kept m c _ _ k j C (by omega)

/-- The output array's entries. -/
theorem array_read (c : Dev nD) (R : Fin 16384) (C : Fin 4096) :
    ((dats m 0 c).arrAt 3 cfg0.N : Vec Ideal S16384x4096 .bf16) (ix2 R C) = entry m c R C := by
  let t : Fin cfg0.N := ⟨16 * (C.val / 512) + R.val / 1024, by rw [show cfg0.N = 128 from N_0]; omega⟩
  have ht : t.val = 16 * (C.val / 512) + R.val / 1024 := rfl
  have hw := wrote m c t ⟨R.val % 1024, by omega⟩ ⟨C.val % 512, by omega⟩ R (by show R.val = 1024 * _ + R.val % 1024; omega)
    C (by show C.val = 512 * _ + C.val % 512; omega)
  have hb := congrFun (Value.blocks3 m c t (flush0_3 _)) (ix2 ⟨R.val % 1024, by omega⟩ ⟨C.val % 512, by omega⟩)
  rw [View.read_apply, Value.flushed3] at hb
  have hc : ∀ (o : Vec Ideal S1024x512 .bf16) (t : Fin grid0.N) (j : S1024x512.Idx), ((cfg0.win 3).cut (grid0.coords t) o : Vec Ideal S1024x512 .bf16) j = o j := fun _ _ _ => rfl
  refine Eq.trans ?_ (hb.trans ((hc _ _ _).trans hw))
  obtain ⟨h0, h1⟩ := index3 t
  refine congrArg _ (funext fun a => Fin.ext ?_)
  match a with
  | ⟨0, _⟩ => show R.val = win0_3.index t 0 * 1024 + 1 * (R.val % 1024); rw [h0, ht]; omega
  | ⟨1, _⟩ => show C.val = win0_3.index t 1 * 512 + 1 * (C.val % 512); rw [h1, ht]; omega

/-- Side by side, the first part's columns come first. -/
theorem beside_left (x y : Vec Ideal S16384x2048 .bf16) (R : Fin 16384) (k : Fin 2048) :
    Cert.OutProjRefIdeal.Read.val_main_v0 (F := Ideal) x y (ix2 R ⟨k.val, by show _ < 4096; omega⟩) = x (ix2 R k) := by
  unfold Cert.OutProjRefIdeal.Read.val_main_v0
  refine concatenate_pair_apply_left (t := Cert.OutProjRefIdeal.S16384x4096) (1 : Fin 2) x y _ _ rfl (ix2 R k) fun b => ?_
  match b with
  | ⟨0, _⟩ => rfl
  | ⟨1, _⟩ => rfl
/-- The second part's columns come after them. -/
theorem beside_right (x y : Vec Ideal S16384x2048 .bf16) (R : Fin 16384) (k : Fin 2048) :
    Cert.OutProjRefIdeal.Read.val_main_v0 (F := Ideal) x y (ix2 R ⟨2048 + k.val, by show _ < 4096; omega⟩) = y (ix2 R k) := by
  unfold Cert.OutProjRefIdeal.Read.val_main_v0
  refine concatenate_pair_apply_right (t := Cert.OutProjRefIdeal.S16384x4096) (1 : Fin 2) x y _ _ rfl rfl (ix2 R k) (fun b hb => ?_) ?_
  · match b, hb with
    | ⟨0, _⟩, _ => rfl
    | ⟨1, _⟩, hb => exact absurd rfl hb
  · show k.val + 2048 = 2048 + k.val; omega

/-- The output array is the reference's result of the same arguments. -/
theorem results_eq (c : Dev nD) :
    Cert.OutProjRefIdeal.Read.val_main_v3 (F := Ideal) (firstIn m c) (secondIn m c) (weightsIn m c) = (dats m 0 c).arrAt 3 cfg0.N := by
  funext i
  obtain ⟨R, C, rfl⟩ : ∃ (R : Fin 16384) (C : Fin 4096), i = ix2 R C :=
    ⟨⟨(i 0).val, (i 0).isLt⟩, ⟨(i 1).val, (i 1).isLt⟩, funext fun a => match a with | ⟨0, _⟩ => rfl | ⟨1, _⟩ => rfl⟩
  refine Eq.trans ?_ (array_read m c R C).symm
  rw [Cert.OutProjRefIdeal.Read.val_main_v3_apply]
  refine (Cert.OutProjRefIdeal.Read.val_main_v2_apply _ _ _ _).trans ((Fin.sum_univ_add (a := 2048) (b := 2048) _).trans ?_)
  refine congrArg₂ (· + ·) (Finset.sum_congr rfl fun k _ => congrArg₂ (· * ·) ((congrArg _ ?_).trans (beside_left _ _ R k)) (congrArg (weightsIn m c) ?_))
    (Finset.sum_congr rfl fun k _ => congrArg₂ (· * ·) ((congrArg _ ?_).trans (beside_right _ _ R k)) (congrArg (weightsIn m c) ?_))
  all_goals
    funext a
    match a with
    | ⟨0, _⟩ => rfl
    | ⟨1, _⟩ => rfl

/-- Over the reals, the kernel computes what its reference computes. -/
theorem algebraic : Cert.algebraic_OutProjIdeal_OutProjRefIdeal := by
  intro m ρ m' ρ' _ hagree
  refine ⟨fun c => (dats m 0 c).arrAt 3 cfg0.N, Value.run_blocks (F := Ideal) m ρ, ?_⟩
  refine (θ_run _ _ _).mono (fun _ h c => ⟨(h c).1.trans ?_, (h c).2⟩) (Cert.OutProjRefIdeal.Value.run (F := Ideal) m' ρ')
  obtain ⟨e0, e1, e2⟩ := hagree c
  rw [Cert.OutProjRefIdeal.Read.val_main_v3_eq, e0, e1, e2]
  exact results_eq m c

/-- The reference runs to the end and leaves its arguments as they were; it declares no semaphore. -/
theorem frame_reference : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

end Cert.OutProjIdeal.DA
-- ==== Proof.Qkv0Call.lean ====
module
public import proofs.«01_k».proof.Proof.Gen.Qkv0Ideal.Value
public import proofs.«01_k».proof.Proof.Gen.Qkv0RefIdeal.Read
public import proofs.«01_k».proof.Defs
public import Idealize.ShloMosaic.Lib.VecWindow
public import proofs.«01_k».proof.Proof.Columns
@[expose] public section
set_option maxRecDepth 16384
noncomputable section
namespace Cert.Qkv0Ideal.DA
open Cert.Columns Cert.Qkv0Ideal Cert.Qkv0Ideal.Gen
open Idealize.ShloMosaic Idealize.ShloMosaic.TcCoe Idealize.SL.Sem Idealize.ShloMosaic.Tactic

/-- Casting the weights to the narrow type leaves them as they are. -/
theorem cast_read (w : Vec Ideal S4096x512 .f32) : k0_pay1 (F := Ideal) w = w := by
  funext i
  unfold k0_pay1
  pointwise
/-- The product stored at a point. -/
theorem product_read (x : Vec Ideal S1024x4096 .bf16) (w : Vec Ideal S4096x512 .bf16) : k0_pay2 (F := Ideal) x w = products x w := by
  funext i
  unfold k0_pay2 products
  pointwise

section Body
variable (c : Dev nD) (i : grid0.Coords) (arg2 : Memref sig .tc .vmem S1024x4096 .bf16) (harg2 : arg2.IsWhole) (arg3 : Memref sig .tc .vmem S4096x512 .f32) (harg3 : arg3.IsWhole)
  (arg4 : Memref sig .tc .vmem S1024x512 .bf16) (harg4 : arg4.IsWhole) (arg5 : Memref sig .tc .vmem S4096x512 .bf16) (harg5 : arg5.IsWhole)
  (x0 : Vec Ideal S1024x4096 .bf16) (x1 : Vec Ideal S4096x512 .f32)

/-- What the body keeps at the first block of rows: the cast weights. -/
theorem first_kept (hc0 : cond0_0 i) : sout0_A_0 c i arg2 harg2 arg3 harg3 arg4 harg4 arg5 harg5 hc0 x0 x1 = x1 := by
  refine (View.read_writes_full VS0_0 _ inb_S4096x512_S4096x512_0_0 _ []).trans ((cast_read _).trans ?_)
  exact ((View.readAt_full _ _ _).trans (harg3.read_unread _))
/-- What the body writes at the first block of rows: the product with the weights just kept. -/
theorem first_out (hc0 : cond0_0 i) : out0_A_2 c i arg2 harg2 arg3 harg3 arg4 harg4 arg5 harg5 hc0 x0 x1 = products x0 x1 := by
  refine (View.read_writes_full VO0_2 _ inb_S1024x512_S1024x512_0_0 _ []).trans ((product_read _ _).trans ?_)
  refine congrArg₂ products ((View.readAt_full _ _ _).trans (harg2.read_unread _)) ?_
  refine (View.readCov_full arg5.view inb_S4096x512_S4096x512_0_0 inb_S4096x512_S4096x512_0_0 _ []).trans ((cast_read _).trans ?_)
  exact (View.readAt_full _ _ _).trans (harg3.read_unread _)
/-- What it writes at a later block: the product with the weights kept before. -/
theorem later_out (hc0 : ¬cond0_0 i) (xs : Vec Ideal S4096x512 .bf16) :
    out0_B_2 c i arg2 harg2 arg3 harg3 arg4 harg4 arg5 harg5 hc0 x0 x1 xs = products x0 xs := by
  refine (View.read_writes_full VO0_2 _ inb_S1024x512_S1024x512_0_0 _ []).trans ((product_read _ _).trans ?_)
  exact congrArg₂ products ((View.readAt_full _ _ _).trans (harg2.read_unread _)) ((View.readAt_full _ _ _).trans (harg5.read_unread _))
end Body

variable (m : (ℓ : Loc nD τ sig) → Buf (Elt Ideal) ℓ)

/-- The rows that come in. -/
abbrev rowsIn (c : Dev nD) : Vec Ideal S16384x4096 .f32 := m ((c : Thread nD τ).loc main_arg0)
/-- The weights. -/
abbrev weightsIn (c : Dev nD) : Vec Ideal S4096x12736 .f32 := m ((c : Thread nD τ).loc main_arg1)

/-- The block of rows at a point. -/
def rowsAt (c : Dev nD) (t : Fin cfg0.N) : Vec Ideal S1024x4096 .bf16 := iblk m c 0 t
/-- The block of columns at a point. -/
def weightsAt (c : Dev nD) (t : Fin cfg0.N) : Vec Ideal S4096x512 .f32 := X0_1 m c t

theorem index0 : ∀ t : Fin grid0.N, win0_0.index t 0 = t.val % 16 ∧ win0_0.index t 1 = 0 := by decide +kernel
theorem index1 : ∀ t : Fin grid0.N, win0_1.index t 0 = 0 ∧ win0_1.index t 1 = t.val / 16 := by decide +kernel
theorem index2 : ∀ t : Fin grid0.N, win0_2.index t 0 = t.val % 16 ∧ win0_2.index t 1 = t.val / 16 := by decide +kernel

/-- The rows the call is given: those that come in, cast to the narrow type. -/
theorem rows_host (c : Dev nD) : (V m c main_v0 : Table 16384 4096) = rowsIn m c := by
  have h : (V m c main_v0 : Vec Ideal S16384x4096 .bf16) = (truncf .bf16 (rowsIn m c : FVec Ideal S16384x4096 .f32) bitsLt_bf16_f32 : FVec Ideal S16384x4096 .bf16) := by
    dsimp only [V, hostOps0]
    after_results
  exact h

/-- The rows at a point. -/
theorem rows_read (c : Dev nD) (t : Fin cfg0.N) (r : Fin 1024) (k : Fin 4096) (R : Fin 16384) (hR : R.val = 1024 * (t.val % 16) + r.val) :
    rowsAt m c t (ix2 r k) = rowsIn m c (ix2 R k) := by
  obtain ⟨h0, h1⟩ := index0 t
  unfold rowsAt iblk
  rw [View.read_apply]
  rw [← rows_host m c]
  show V m c main_v0 _ = V m c main_v0 _
  refine congrArg _ (funext fun a => Fin.ext ?_)
  match a with
  | ⟨0, _⟩ => show win0_0.index t 0 * 1024 + 1 * r.val = R.val; rw [h0]; omega
  | ⟨1, _⟩ => show win0_0.index t 1 * 4096 + 1 * k.val = k.val; rw [h1]; omega

/-- The weights at a point. -/
theorem weights_read (c : Dev nD) (t : Fin cfg0.N) (k : Fin 4096) (j : Fin 512) (C : Fin 12736) (hC : C.val = 0 + 512 * (t.val / 16) + j.val) :
    weightsAt m c t (ix2 k j) = weightsIn m c (ix2 k C) := by
  obtain ⟨h0, h1⟩ := index1 t
  unfold weightsAt X0_1 Pipeline.Window.fill
  rw [dif_pos (moved0_1 t _)]
  unfold iblk
  rw [View.read_apply]
  show V m c main_arg1 _ = _
  rw [V_main_arg1]
  refine congrArg _ (funext fun a => Fin.ext ?_)
  match a with
  | ⟨0, _⟩ => show win0_1.index t 0 * 4096 + 1 * k.val = k.val; rw [h0]; omega
  | ⟨1, _⟩ => show win0_1.index t 1 * 512 + 1 * j.val = C.val; rw [h1]; omega

/-- The output array's block of a point is what the point wrote. -/
theorem block_read (c : Dev nD) (t : Fin cfg0.N) (r : Fin 1024) (j : Fin 512) (R : Fin 16384) (C : Fin 6144) (hR : R.val = 1024 * (t.val % 16) + r.val)
    (hC : C.val = 512 * (t.val / 16) + j.val) :
    ((dats m 0 c).arrAt 2 cfg0.N : Vec Ideal S16384x6144 .bf16) (ix2 R C) = (outsAt0 m c t.val t.isLt).1 (ix2 r j) := by
  have hb := congrFun (Value.blocks2 m c t (flush0_2 _)) (ix2 r j)
  rw [View.read_apply, Value.flushed2] at hb
  have hc : ∀ (o : Vec Ideal S1024x512 .bf16) (t : Fin grid0.N) (j : S1024x512.Idx), ((cfg0.win 2).cut (grid0.coords t) o : Vec Ideal S1024x512 .bf16) j = o j := fun _ _ _ => rfl
  refine Eq.trans ?_ (hb.trans (hc _ _ _))
  obtain ⟨h0, h1⟩ := index2 t
  refine congrArg _ (funext fun a => Fin.ext ?_)
  match a with
  | ⟨0, _⟩ => show R.val = win0_2.index t 0 * 1024 + 1 * r.val; rw [h0]; omega
  | ⟨1, _⟩ => show C.val = win0_2.index t 1 * 512 + 1 * j.val; rw [h1]; omega

/-- The output array's entries. -/
theorem array_read (c : Dev nD) (R : Fin 16384) (C : Fin 6144) :
    ((dats m 0 c).arrAt 2 cfg0.N : Vec Ideal S16384x6144 .bf16) (ix2 R C) = entry (rowsIn m c) (weightsIn m c) R ⟨0 + C.val, by omega⟩ := by
  refine walk_array (N := cfg0.N) (outsAt0 m c) (rowsAt m c) (weightsAt m c) (fun t h0 => ?_) (fun t h0 => ?_) (rowsIn m c) (weightsIn m c)
    (rows_read m c) (weights_read m c) _ (block_read m c) (by rw [show cfg0.N = 192 from N_0]) (by rw [show cfg0.N = 192 from N_0]) (by omega) R C
  · rw [outsAt0_A m c t h0, first_out, first_kept]; rfl
  · rw [outsAt0_B m c t h0, later_out]; rfl

/-- The output array is the reference's result of the same arguments. -/
theorem results_eq (c : Dev nD) :
    Cert.Qkv0RefIdeal.Read.val_main_v2 (F := Ideal) (rowsIn m c) (weightsIn m c) = (dats m 0 c).arrAt 2 cfg0.N := by
  funext i
  obtain ⟨R, C, rfl⟩ := table_idx i
  refine Eq.trans ?_ (array_read m c R C).symm
  rw [Cert.Qkv0RefIdeal.Read.val_main_v2_apply, Cert.Qkv0RefIdeal.Read.val_main_v1_apply]
  refine (Cert.Qkv0RefIdeal.Read.val_main_v0_apply _ _ _).trans (Finset.sum_congr rfl fun k _ => ?_)
  refine congrArg₂ (· * ·) (congrArg (rowsIn m c) ?_) (congrArg (weightsIn m c) ?_)
  all_goals
    refine funext fun a => Fin.ext ?_
    match a with
    | ⟨0, _⟩ => rfl
    | ⟨1, _⟩ => first | rfl | exact (Nat.zero_add _).symm

/-- Over the reals, the kernel computes what its reference computes. -/
theorem algebraic : Cert.algebraic_Qkv0Ideal_Qkv0RefIdeal := by
  intro m ρ m' ρ' _ hagree
  refine ⟨fun c => (dats m 0 c).arrAt 2 cfg0.N, Value.run_blocks (F := Ideal) m ρ, ?_⟩
  refine (θ_run _ _ _).mono (fun _ h c => ⟨(h c).1.trans ?_, (h c).2⟩) (Cert.Qkv0RefIdeal.Value.run (F := Ideal) m' ρ')
  obtain ⟨e0, e1⟩ := hagree c
  rw [Cert.Qkv0RefIdeal.Read.val_main_v2_eq, e0, e1]
  exact results_eq m c

/-- The reference runs to the end and leaves its arguments as they were; it declares no semaphore. -/
theorem frame_reference : Cert.quiescent_Qkv0RefIdeal := fun m ρ _ =>
  (θ_run Cert.Qkv0RefIdeal.defs _ _).mono (fun r h => ⟨fun c => (h c).2,
      Idealize.ShloMosaic.sem_eq_zero_of_no_sems (by decide) r.2⟩)
    (Cert.Qkv0RefIdeal.Value.run (F := Ideal) m ρ)

end Cert.Qkv0Ideal.DA
-- ==== Proof.FeatCall.lean ====
module
public import proofs.«01_k».proof.Proof.Gen.FeatIdeal.Value
public import proofs.«01_k».proof.Proof.Gen.FeatRefIdeal.Read
public import proofs.«01_k».proof.Defs
public import Idealize.ShloMosaic.Lib.VecWindow
public import proofs.«01_k».proof.Proof.Columns
@[expose] public section
set_option maxRecDepth 16384
noncomputable section
namespace Cert.FeatIdeal.DA
open Cert.Columns Cert.FeatIdeal Cert.FeatIdeal.Gen
open Idealize.ShloMosaic Idealize.ShloMosaic.TcCoe Idealize.SL.Sem Idealize.ShloMosaic.Tactic

/-- Casting the weights to the narrow type leaves them as they are. -/
theorem cast_read (w : Vec Ideal S4096x512 .f32) : k0_pay1 (F := Ideal) w = w := by
  funext i
  unfold k0_pay1
  pointwise
/-- The product stored at a point. -/
theorem product_read (x : Vec Ideal S1024x4096 .bf16) (w : Vec Ideal S4096x512 .bf16) : k0_pay2 (F := Ideal) x w = products x w := by
  funext i
  unfold k0_pay2 products
  pointwise

section Body
variable (c : Dev nD) (i : grid0.Coords) (arg2 : Memref sig .tc .vmem S1024x4096 .bf16) (harg2 : arg2.IsWhole) (arg3 : Memref sig .tc .vmem S4096x512 .f32) (harg3 : arg3.IsWhole)
  (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32)

/-- What the body keeps at the first block of rows: the cast weights. -/
theorem first_kept (hc0 : cond0_0 i) : sout0_A_0 c i arg2 harg2 arg3 harg3 arg4 harg4 arg5 harg5 hc0 x0 x1 = x1 := by
  refine (View.read_writes_full VS0_0 _ inb_S4096x512_S4096x512_0_0 _ []).trans ((cast_read _).trans ?_)
  exact ((View.readAt_full _ _ _).trans (harg3.read_unread _))
/-- What the body writes at the first block of rows: the product with the weights just kept. -/
theorem first_out (hc0 : cond0_0 i) : out0_A_2 c i arg2 harg2 arg3 harg3 arg4 harg4 arg5 harg5 hc0 x0 x1 = products x0 x1 := by
  refine (View.read_writes_full VO0_2 _ inb_S1024x512_S1024x512_0_0 _ []).trans ((product_read _ _).trans ?_)
  refine congrArg₂ products ((View.readAt_full _ _ _).trans (harg2.read_unread _)) ?_
  refine (View.readCov_full arg5.view inb_S4096x512_S4096x512_0_0 inb_S4096x512_S4096x512_0_0 _ []).trans ((cast_read _).trans ?_)
  exact (View.readAt_full _ _ _).trans (harg3.read_unread _)
/-- What it writes at a later block: the product with the weights kept before. -/
theorem later_out (hc0 : ¬cond0_0 i) (xs : Vec Ideal S4096x512 .bf16) :
    out0_B_2 c i arg2 harg2 arg3 harg3 arg4 harg4 arg5 harg5 hc0 x0 x1 xs = products x0 xs := by
  refine (View.read_writes_full VO0_2 _ inb_S1024x512_S1024x512_0_0 _ []).trans ((product_read _ _).trans ?_)
  exact congrArg₂ products ((View.readAt_full _ _ _).trans (harg2.read_unread _)) ((View.readAt_full _ _ _).trans (harg5.read_unread _))
end Body

variable (m : (ℓ : Loc nD τ sig) → Buf (Elt Ideal) ℓ)

/-- The rows that come in. -/
abbrev rowsIn (c : Dev nD) : Vec Ideal S16384x4096 .f32 := m ((c : Thread nD τ).loc main_arg0)
/-- The weights. -/
abbrev weightsIn (c : Dev nD) : Vec Ideal S4096x12736 .f32 := m ((c : Thread nD τ).loc main_arg1)

/-- The block of rows at a point. -/
def rowsAt (c : Dev nD) (t : Fin cfg0.N) : Vec Ideal S1024x4096 .bf16 := iblk m c 0 t
/-- The block of columns at a point. -/
def weightsAt (c : Dev nD) (t : Fin cfg0.N) : Vec Ideal S4096x512 .f32 := X0_1 m c t

theorem index0 : ∀ t : Fin grid0.N, win0_0.index t 0 = t.val % 16 ∧ win0_0.index t 1 = 0 := by decide +kernel
theorem index1 : ∀ t : Fin grid0.N, win0_1.index t 0 = 0 ∧ win0_1.index t 1 = 12 + t.val / 16 := by decide +kernel
theorem index2 : ∀ t : Fin grid0.N, win0_2.index t 0 = t.val % 16 ∧ win0_2.index t 1 = t.val / 16 := by decide +kernel

/-- The rows the call is given: those that come in, cast to the narrow type. -/
theorem rows_host (c : Dev nD) : (V m c main_v0 : Table 16384 4096) = rowsIn m c := by
  have h : (V m c main_v0 : Vec Ideal S16384x4096 .bf16) = (truncf .bf16 (rowsIn m c : FVec Ideal S16384x4096 .f32) bitsLt_bf16_f32 : FVec Ideal S16384x4096 .bf16) := by
    dsimp only [V, hostOps0]
    after_results
  exact h

/-- The rows at a point. -/
theorem rows_read (c : Dev nD) (t : Fin cfg0.N) (r : Fin 1024) (k : Fin 4096) (R : Fin 16384) (hR : R.val = 1024 * (t.val % 16) + r.val) :
    rowsAt m c t (ix2 r k) = rowsIn m c (ix2 R k) := by
  obtain ⟨h0, h1⟩ := index0 t
  unfold rowsAt iblk
  rw [View.read_apply]
  rw [← rows_host m c]
  show V m c main_v0 _ = V m c main_v0 _
  refine congrArg _ (funext fun a => Fin.ext ?_)
  match a with
  | ⟨0, _⟩ => show win0_0.index t 0 * 1024 + 1 * r.val = R.val; rw [h0]; omega
  | ⟨1, _⟩ => show win0_0.index t 1 * 4096 + 1 * k.val = k.val; rw [h1]; omega

/-- The weights at a point. -/
theorem weights_read (c : Dev nD) (t : Fin cfg0.N) (k : Fin 4096) (j : Fin 512) (C : Fin 12736) (hC : C.val = 6144 + 512 * (t.val / 16) + j.val) :
    weightsAt m c t (ix2 k j) = weightsIn m c (ix2 k C) := by
  obtain ⟨h0, h1⟩ := index1 t
  unfold weightsAt X0_1 Pipeline.Window.fill
  rw [dif_pos (moved0_1 t _)]
  unfold iblk
  rw [View.read_apply]
  show V m c main_arg1 _ = _
  rw [V_main_arg1]
  refine congrArg _ (funext fun a => Fin.ext ?_)
  match a with
  | ⟨0, _⟩ => show win0_1.index t 0 * 4096 + 1 * k.val = k.val; rw [h0]; omega
  | ⟨1, _⟩ => show win0_1.index t 1 * 512 + 1 * j.val = C.val; rw [h1]; omega

/-- The output array's block of a point is what the point wrote. -/
theorem block_read (c : Dev nD) (t : Fin cfg0.N) (r : Fin 1024) (j : Fin 512) (R : Fin 16384) (C : Fin 6144) (hR : R.val = 1024 * (t.val % 16) + r.val)
    (hC : C.val = 512 * (t.val / 16) + j.val) :
    ((dats m 0 c).arrAt 2 cfg0.N : Vec Ideal S16384x6144 .f32) (ix2 R C) = (outsAt0 m c t.val t.isLt).1 (ix2 r j) := by
  have hb := congrFun (Value.blocks2 m c t (flush0_2 _)) (ix2 r j)
  rw [View.read_apply, Value.flushed2] at hb
  have hc : ∀ (o : Vec Ideal S1024x512 .f32) (t : Fin grid0.N) (j : S1024x512.Idx), ((cfg0.win 2).cut (grid0.coords t) o : Vec Ideal S1024x512 .f32) j = o j := fun _ _ _ => rfl
  refine Eq.trans ?_ (hb.trans (hc _ _ _))
  obtain ⟨h0, h1⟩ := index2 t
  refine congrArg _ (funext fun a => Fin.ext ?_)
  match a with
  | ⟨0, _⟩ => show R.val = win0_2.index t 0 * 1024 + 1 * r.val; rw [h0]; omega
  | ⟨1, _⟩ => show C.val = win0_2.index t 1 * 512 + 1 * j.val; rw [h1]; omega

/-- The output array's entries. -/
theorem array_read (c : Dev nD) (R : Fin 16384) (C : Fin 6144) :
    ((dats m 0 c).arrAt 2 cfg0.N : Vec Ideal S16384x6144 .f32) (ix2 R C) = entry (rowsIn m c) (weightsIn m c) R ⟨6144 + C.val, by omega⟩ := by
  refine walk_array (N := cfg0.N) (outsAt0 m c) (rowsAt m c) (weightsAt m c) (fun t h0 => ?_) (fun t h0 => ?_) (rowsIn m c) (weightsIn m c)
    (rows_read m c) (weights_read m c) _ (block_read m c) (by rw [show cfg0.N = 192 from N_0]) (by rw [show cfg0.N = 192 from N_0]) (by omega) R C
  · rw [outsAt0_A m c t h0, first_out, first_kept]; rfl
  · rw [outsAt0_B m c t h0, later_out]; rfl

/-- The output array is the reference's result of the same arguments. -/
theorem results_eq (c : Dev nD) :
    Cert.FeatRefIdeal.Read.val_main_v1 (F := Ideal) (rowsIn m c) (weightsIn m c) = (dats m 0 c).arrAt 2 cfg0.N := by
  funext i
  obtain ⟨R, C, rfl⟩ := table_idx i
  refine Eq.trans ?_ (array_read m c R C).symm
  rw [Cert.FeatRefIdeal.Read.val_main_v1_apply]
  refine (Cert.FeatRefIdeal.Read.val_main_v0_apply _ _ _).trans (Finset.sum_congr rfl fun k _ => ?_)
  refine congrArg₂ (· * ·) (congrArg (rowsIn m c) ?_) (congrArg (weightsIn m c) ?_)
  all_goals
    refine funext fun a => Fin.ext ?_
    match a with
    | ⟨0, _⟩ => rfl
    | ⟨1, _⟩ => first | rfl | exact Nat.add_comm _ _

/-- Over the reals, the kernel computes what its reference computes. -/
theorem algebraic : Cert.algebraic_FeatIdeal_FeatRefIdeal := by
  intro m ρ m' ρ' _ hagree
  refine ⟨fun c => (dats m 0 c).arrAt 2 cfg0.N, Value.run_blocks (F := Ideal) m ρ, ?_⟩
  refine (θ_run _ _ _).mono (fun _ h c => ⟨(h c).1.trans ?_, (h c).2⟩) (Cert.FeatRefIdeal.Value.run (F := Ideal) m' ρ')
  obtain ⟨e0, e1⟩ := hagree c
  rw [Cert.FeatRefIdeal.Read.val_main_v1_eq, e0, e1]
  exact results_eq m c

/-- The reference runs to the end and leaves its arguments as they were; it declares no semaphore. -/
theorem frame_reference : Cert.quiescent_FeatRefIdeal := fun m ρ _ =>
  (θ_run Cert.FeatRefIdeal.defs _ _).mono (fun r h => ⟨fun c => (h c).2,
      Idealize.ShloMosaic.sem_eq_zero_of_no_sems (by decide) r.2⟩)
    (Cert.FeatRefIdeal.Value.run (F := Ideal) m ρ)

end Cert.FeatIdeal.DA
-- ==== Proof.GProjCall.lean ====
module
public import proofs.«01_k».proof.Proof.Gen.GProjIdeal.Value
public import proofs.«01_k».proof.Proof.Gen.GProjRefIdeal.Read
public import proofs.«01_k».proof.Defs
public import Idealize.ShloMosaic.Lib.VecWindow
public import proofs.«01_k».proof.Proof.Columns
@[expose] public section
set_option maxRecDepth 16384
noncomputable section
namespace Cert.GProjIdeal.DA
open Cert.Columns Cert.GProjIdeal Cert.GProjIdeal.Gen
open Idealize.ShloMosaic Idealize.ShloMosaic.TcCoe Idealize.SL.Sem Idealize.ShloMosaic.Tactic

/-- Casting the weights to the narrow type leaves them as they are. -/
theorem cast_read (w : Vec Ideal S4096x512 .f32) : k0_pay1 (F := Ideal) w = w := by
  funext i
  unfold k0_pay1
  pointwise
/-- The product stored at a point. -/
theorem product_read (x : Vec Ideal S1024x4096 .bf16) (w : Vec Ideal S4096x512 .bf16) : k0_pay2 (F := Ideal) x w = products x w := by
  funext i
  unfold k0_pay2 products
  pointwise

section Body
variable (c : Dev nD) (i : grid0.Coords) (arg2 : Memref sig .tc .vmem S1024x4096 .bf16) (harg2 : arg2.IsWhole) (arg3 : Memref sig .tc .vmem S4096x512 .f32) (harg3 : arg3.IsWhole)
  (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32)

/-- What the body keeps at the first block of rows: the cast weights. -/
theorem first_kept (hc0 : cond0_0 i) : sout0_A_0 c i arg2 harg2 arg3 harg3 arg4 harg4 arg5 harg5 hc0 x0 x1 = x1 := by
  refine (View.read_writes_full VS0_0 _ inb_S4096x512_S4096x512_0_0 _ []).trans ((cast_read _).trans ?_)
  exact ((View.readAt_full _ _ _).trans (harg3.read_unread _))
/-- What the body writes at the first block of rows: the product with the weights just kept. -/
theorem first_out (hc0 : cond0_0 i) : out0_A_2 c i arg2 harg2 arg3 harg3 arg4 harg4 arg5 harg5 hc0 x0 x1 = products x0 x1 := by
  refine (View.read_writes_full VO0_2 _ inb_S1024x512_S1024x512_0_0 _ []).trans ((product_read _ _).trans ?_)
  refine congrArg₂ products ((View.readAt_full _ _ _).trans (harg2.read_unread _)) ?_
  refine (View.readCov_full arg5.view inb_S4096x512_S4096x512_0_0 inb_S4096x512_S4096x512_0_0 _ []).trans ((cast_read _).trans ?_)
  exact (View.readAt_full _ _ _).trans (harg3.read_unread _)
/-- What it writes at a later block: the product with the weights kept before. -/
theorem later_out (hc0 : ¬cond0_0 i) (xs : Vec Ideal S4096x512 .bf16) :
    out0_B_2 c i arg2 harg2 arg3 harg3 arg4 harg4 arg5 harg5 hc0 x0 x1 xs = products x0 xs := by
  refine (View.read_writes_full VO0_2 _ inb_S1024x512_S1024x512_0_0 _ []).trans ((product_read _ _).trans ?_)
  exact congrArg₂ products ((View.readAt_full _ _ _).trans (harg2.read_unread _)) ((View.readAt_full _ _ _).trans (harg5.read_unread _))
end Body

variable (m : (ℓ : Loc nD τ sig) → Buf (Elt Ideal) ℓ)

/-- The rows that come in. -/
abbrev rowsIn (c : Dev nD) : Vec Ideal S16384x4096 .bf16 := m ((c : Thread nD τ).loc main_arg0)
/-- The weights. -/
abbrev weightsIn (c : Dev nD) : Vec Ideal S4096x12304 .f32 := m ((c : Thread nD τ).loc main_arg1)

/-- The block of rows at a point. -/
def rowsAt (c : Dev nD) (t : Fin cfg0.N) : Vec Ideal S1024x4096 .bf16 := iblk m c 0 t
/-- The block of columns at a point. -/
def weightsAt (c : Dev nD) (t : Fin cfg0.N) : Vec Ideal S4096x512 .f32 := X0_1 m c t

theorem index0 : ∀ t : Fin grid0.N, win0_0.index t 0 = t.val % 16 ∧ win0_0.index t 1 = 0 := by decide +kernel
theorem index1 : ∀ t : Fin grid0.N, win0_1.index t 0 = 0 ∧ win0_1.index t 1 = 12 + t.val / 16 := by decide +kernel
theorem index2 : ∀ t : Fin grid0.N, win0_2.index t 0 = t.val % 16 ∧ win0_2.index t 1 = t.val / 16 := by decide +kernel

/-- The rows at a point. -/
theorem rows_read (c : Dev nD) (t : Fin cfg0.N) (r : Fin 1024) (k : Fin 4096) (R : Fin 16384) (hR : R.val = 1024 * (t.val % 16) + r.val) :
    rowsAt m c t (ix2 r k) = rowsIn m c (ix2 R k) := by
  obtain ⟨h0, h1⟩ := index0 t
  unfold rowsAt iblk
  rw [View.read_apply]
  show V m c main_arg0 _ = _
  rw [V_main_arg0]
  refine congrArg _ (funext fun a => Fin.ext ?_)
  match a with
  | ⟨0, _⟩ => show win0_0.index t 0 * 1024 + 1 * r.val = R.val; rw [h0]; omega
  | ⟨1, _⟩ => show win0_0.index t 1 * 4096 + 1 * k.val = k.val; rw [h1]; omega

/-- The weights at a point. -/
theorem weights_read (c : Dev nD) (t : Fin cfg0.N) (k : Fin 4096) (j : Fin 512) (C : Fin 12304) (hC : C.val = 6144 + 512 * (t.val / 16) + j.val) :
    weightsAt m c t (ix2 k j) = weightsIn m c (ix2 k C) := by
  obtain ⟨h0, h1⟩ := index1 t
  unfold weightsAt X0_1 Pipeline.Window.fill
  rw [dif_pos (moved0_1 t _)]
  unfold iblk
  rw [View.read_apply]
  show V m c main_arg1 _ = _
  rw [V_main_arg1]
  refine congrArg _ (funext fun a => Fin.ext ?_)
  match a with
  | ⟨0, _⟩ => show win0_1.index t 0 * 4096 + 1 * k.val = k.val; rw [h0]; omega
  | ⟨1, _⟩ => show win0_1.index t 1 * 512 + 1 * j.val = C.val; rw [h1]; omega

/-- The output array's block of a point is what the point wrote. -/
theorem block_read (c : Dev nD) (t : Fin cfg0.N) (r : Fin 1024) (j : Fin 512) (R : Fin 16384) (C : Fin 4096) (hR : R.val = 1024 * (t.val % 16) + r.val)
    (hC : C.val = 512 * (t.val / 16) + j.val) :
    ((dats m 0 c).arrAt 2 cfg0.N : Vec Ideal S16384x4096 .f32) (ix2 R C) = (outsAt0 m c t.val t.isLt).1 (ix2 r j) := by
  have hb := congrFun (Value.blocks2 m c t (flush0_2 _)) (ix2 r j)
  rw [View.read_apply, Value.flushed2] at hb
  have hc : ∀ (o : Vec Ideal S1024x512 .f32) (t : Fin grid0.N) (j : S1024x512.Idx), ((cfg0.win 2).cut (grid0.coords t) o : Vec Ideal S1024x512 .f32) j = o j := fun _ _ _ => rfl
  refine Eq.trans ?_ (hb.trans (hc _ _ _))
  obtain ⟨h0, h1⟩ := index2 t
  refine congrArg _ (funext fun a => Fin.ext ?_)
  match a with
  | ⟨0, _⟩ => show R.val = win0_2.index t 0 * 1024 + 1 * r.val; rw [h0]; omega
  | ⟨1, _⟩ => show C.val = win0_2.index t 1 * 512 + 1 * j.val; rw [h1]; omega

/-- The output array's entries. -/
theorem array_read (c : Dev nD) (R : Fin 16384) (C : Fin 4096) :
    ((dats m 0 c).arrAt 2 cfg0.N : Vec Ideal S16384x4096 .f32) (ix2 R C) = entry (rowsIn m c) (weightsIn m c) R ⟨6144 + C.val, by omega⟩ := by
  refine walk_array (N := cfg0.N) (outsAt0 m c) (rowsAt m c) (weightsAt m c) (fun t h0 => ?_) (fun t h0 => ?_) (rowsIn m c) (weightsIn m c)
    (rows_read m c) (weights_read m c) _ (block_read m c) (by rw [show cfg0.N = 128 from N_0]) (by rw [show cfg0.N = 128 from N_0]) (by omega) R C
  · rw [outsAt0_A m c t h0, first_out, first_kept]; rfl
  · rw [outsAt0_B m c t h0, later_out]; rfl

/-- The output array is the reference's result of the same arguments. -/
theorem results_eq (c : Dev nD) :
    Cert.GProjRefIdeal.Read.val_main_v2 (F := Ideal) (rowsIn m c) (weightsIn m c) = (dats m 0 c).arrAt 2 cfg0.N := by
  funext i
  obtain ⟨R, C, rfl⟩ := table_idx i
  refine Eq.trans ?_ (array_read m c R C).symm
  rw [Cert.GProjRefIdeal.Read.val_main_v2_apply]
  refine (Cert.GProjRefIdeal.Read.val_main_v1_apply _ _ _).trans (Finset.sum_congr rfl fun k _ => ?_)
  refine congrArg₂ (· * ·) (congrArg (rowsIn m c) ?_) (congrArg (weightsIn m c) ?_)
  all_goals
    refine funext fun a => Fin.ext ?_
    match a with
    | ⟨0, _⟩ => rfl
    | ⟨1, _⟩ => first | rfl | exact Nat.add_comm _ _

/-- Over the reals, the kernel computes what its reference computes. -/
theorem algebraic : Cert.algebraic_GProjIdeal_GProjRefIdeal := by
  intro m ρ m' ρ' _ hagree
  refine ⟨fun c => (dats m 0 c).arrAt 2 cfg0.N, Value.run_blocks (F := Ideal) m ρ, ?_⟩
  refine (θ_run _ _ _).mono (fun _ h c => ⟨(h c).1.trans ?_, (h c).2⟩) (Cert.GProjRefIdeal.Value.run (F := Ideal) m' ρ')
  obtain ⟨e0, e1⟩ := hagree c
  rw [Cert.GProjRefIdeal.Read.val_main_v2_eq, e0, e1]
  exact results_eq m c

/-- The reference runs to the end and leaves its arguments as they were; it declares no semaphore. -/
theorem frame_reference : Cert.quiescent_GProjRefIdeal := fun m ρ _ =>
  (θ_run Cert.GProjRefIdeal.defs _ _).mono (fun r h => ⟨fun c => (h c).2,
      Idealize.ShloMosaic.sem_eq_zero_of_no_sems (by decide) r.2⟩)
    (Cert.GProjRefIdeal.Value.run (F := Ideal) m ρ)

end Cert.GProjIdeal.DA
-- ==== Proof.OGateCall.lean ====
module
public import proofs.«01_k».proof.Proof.Gen.OGateIdeal.Value
public import proofs.«01_k».proof.Proof.Gen.OGateRefIdeal.Read
public import proofs.«01_k».proof.Defs
public import Idealize.ShloMosaic.Lib.VecWindow
public import proofs.«01_k».proof.Proof.Columns
@[expose] public section
set_option maxRecDepth 16384
noncomputable section
namespace Cert.OGateIdeal.DA
open Cert.Columns Cert.OGateIdeal Cert.OGateIdeal.Gen
open Idealize.ShloMosaic Idealize.ShloMosaic.TcCoe Idealize.SL.Sem Idealize.ShloMosaic.Tactic

/-- Casting the weights to the narrow type leaves them as they are. -/
theorem cast_read (w : Vec Ideal S4096x512 .f32) : k0_pay1 (F := Ideal) w = w := by
  funext i
  unfold k0_pay1
  pointwise
/-- The product stored at a point. -/
theorem product_read (x : Vec Ideal S1024x4096 .bf16) (w : Vec Ideal S4096x512 .bf16) : k0_pay2 (F := Ideal) x w = products x w := by
  funext i
  unfold k0_pay2 products
  pointwise

section Body
variable (c : Dev nD) (i : grid0.Coords) (arg2 : Memref sig .tc .vmem S1024x4096 .bf16) (harg2 : arg2.IsWhole) (arg3 : Memref sig .tc .vmem S4096x512 .f32) (harg3 : arg3.IsWhole)
  (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32)

/-- What the body keeps at the first block of rows: the cast weights. -/
theorem first_kept (hc0 : cond0_0 i) : sout0_A_0 c i arg2 harg2 arg3 harg3 arg4 harg4 arg5 harg5 hc0 x0 x1 = x1 := by
  refine (View.read_writes_full VS0_0 _ inb_S4096x512_S4096x512_0_0 _ []).trans ((cast_read _).trans ?_)
  exact ((View.readAt_full _ _ _).trans (harg3.read_unread _))
/-- What the body writes at the first block of rows: the product with the weights just kept. -/
theorem first_out (hc0 : cond0_0 i) : out0_A_2 c i arg2 harg2 arg3 harg3 arg4 harg4 arg5 harg5 hc0 x0 x1 = products x0 x1 := by
  refine (View.read_writes_full VO0_2 _ inb_S1024x512_S1024x512_0_0 _ []).trans ((product_read _ _).trans ?_)
  refine congrArg₂ products ((View.readAt_full _ _ _).trans (harg2.read_unread _)) ?_
  refine (View.readCov_full arg5.view inb_S4096x512_S4096x512_0_0 inb_S4096x512_S4096x512_0_0 _ []).trans ((cast_read _).trans ?_)
  exact (View.readAt_full _ _ _).trans (harg3.read_unread _)
/-- What it writes at a later block: the product with the weights kept before. -/
theorem later_out (hc0 : ¬cond0_0 i) (xs : Vec Ideal S4096x512 .bf16) :
    out0_B_2 c i arg2 harg2 arg3 harg3 arg4 harg4 arg5 harg5 hc0 x0 x1 xs = products x0 xs := by
  refine (View.read_writes_full VO0_2 _ inb_S1024x512_S1024x512_0_0 _ []).trans ((product_read _ _).trans ?_)
  exact congrArg₂ products ((View.readAt_full _ _ _).trans (harg2.read_unread _)) ((View.readAt_full _ _ _).trans (harg5.read_unread _))
end Body

variable (m : (ℓ : Loc nD τ sig) → Buf (Elt Ideal) ℓ)

/-- The rows that come in. -/
abbrev rowsIn (c : Dev nD) : Vec Ideal S16384x4096 .bf16 := m ((c : Thread nD τ).loc main_arg0)
/-- The weights. -/
abbrev weightsIn (c : Dev nD) : Vec Ideal S4096x12304 .f32 := m ((c : Thread nD τ).loc main_arg1)

/-- The block of rows at a point. -/
def rowsAt (c : Dev nD) (t : Fin cfg0.N) : Vec Ideal S1024x4096 .bf16 := iblk m c 0 t
/-- The block of columns at a point. -/
def weightsAt (c : Dev nD) (t : Fin cfg0.N) : Vec Ideal S4096x512 .f32 := iblk m c 1 t

theorem index0 : ∀ t : Fin grid0.N, win0_0.index t 0 = t.val % 16 ∧ win0_0.index t 1 = 0 := by decide +kernel
theorem index1 : ∀ t : Fin grid0.N, win0_1.index t 0 = 0 ∧ win0_1.index t 1 = t.val / 16 := by decide +kernel
theorem index2 : ∀ t : Fin grid0.N, win0_2.index t 0 = t.val % 16 ∧ win0_2.index t 1 = t.val / 16 := by decide +kernel

/-- The rows at a point. -/
theorem rows_read (c : Dev nD) (t : Fin cfg0.N) (r : Fin 1024) (k : Fin 4096) (R : Fin 16384) (hR : R.val = 1024 * (t.val % 16) + r.val) :
    rowsAt m c t (ix2 r k) = rowsIn m c (ix2 R k) := by
  obtain ⟨h0, h1⟩ := index0 t
  unfold rowsAt iblk
  rw [View.read_apply]
  show V m c main_arg0 _ = _
  rw [V_main_arg0]
  refine congrArg _ (funext fun a => Fin.ext ?_)
  match a with
  | ⟨0, _⟩ => show win0_0.index t 0 * 1024 + 1 * r.val = R.val; rw [h0]; omega
  | ⟨1, _⟩ => show win0_0.index t 1 * 4096 + 1 * k.val = k.val; rw [h1]; omega

/-- The weights the call is given: the gate's columns. -/
theorem weights_host (c : Dev nD) (k : Fin 4096) (j : Fin 2048) (C : Fin 12304) (hC : C.val = 10256 + j.val) :
    (V m c main_v0 : Vec Ideal S4096x2048 .f32) (ix2 k j) = weightsIn m c (ix2 k C) := by
  have h : (V m c main_v0 : Vec Ideal S4096x2048 .f32)
      = extractStridedSlice S4096x2048 ![0, 10256] (weightsIn m c) slices_S4096x12304_S4096x2048_0_10256 := by
    dsimp only [V, hostOps0]
    after_results
  rw [h]
  refine congrArg (weightsIn m c) (funext fun a => Fin.ext ?_)
  match a with
  | ⟨0, _⟩ => show 0 + k.val = k.val; omega
  | ⟨1, _⟩ => show 10256 + j.val = C.val; omega

/-- The weights at a point. -/
theorem weights_read (c : Dev nD) (t : Fin cfg0.N) (k : Fin 4096) (j : Fin 512) (C : Fin 12304) (hC : C.val = 10256 + 512 * (t.val / 16) + j.val) :
    weightsAt m c t (ix2 k j) = weightsIn m c (ix2 k C) := by
  obtain ⟨h0, h1⟩ := index1 t
  unfold weightsAt iblk
  rw [View.read_apply]
  have ht : t.val < 64 := Nat.lt_of_lt_of_eq t.isLt N_0
  rw [← weights_host m c k ⟨512 * (t.val / 16) + j.val, by omega⟩ C (by rw [hC, Nat.add_assoc])]
  show V m c main_v0 _ = V m c main_v0 _
  refine congrArg _ (funext fun a => Fin.ext ?_)
  match a with
  | ⟨0, _⟩ => show win0_1.index t 0 * 4096 + 1 * k.val = k.val; rw [h0]; omega
  | ⟨1, _⟩ => show win0_1.index t 1 * 512 + 1 * j.val = 512 * (t.val / 16) + j.val; rw [h1]; omega

/-- The output array's block of a point is what the point wrote. -/
theorem block_read (c : Dev nD) (t : Fin cfg0.N) (r : Fin 1024) (j : Fin 512) (R : Fin 16384) (C : Fin 2048) (hR : R.val = 1024 * (t.val % 16) + r.val)
    (hC : C.val = 512 * (t.val / 16) + j.val) :
    ((dats m 0 c).arrAt 2 cfg0.N : Vec Ideal S16384x2048 .f32) (ix2 R C) = (outsAt0 m c t.val t.isLt).1 (ix2 r j) := by
  have hb := congrFun (Value.blocks2 m c t (flush0_2 _)) (ix2 r j)
  rw [View.read_apply, Value.flushed2] at hb
  have hc : ∀ (o : Vec Ideal S1024x512 .f32) (t : Fin grid0.N) (j : S1024x512.Idx), ((cfg0.win 2).cut (grid0.coords t) o : Vec Ideal S1024x512 .f32) j = o j := fun _ _ _ => rfl
  refine Eq.trans ?_ (hb.trans (hc _ _ _))
  obtain ⟨h0, h1⟩ := index2 t
  refine congrArg _ (funext fun a => Fin.ext ?_)
  match a with
  | ⟨0, _⟩ => show R.val = win0_2.index t 0 * 1024 + 1 * r.val; rw [h0]; omega
  | ⟨1, _⟩ => show C.val = win0_2.index t 1 * 512 + 1 * j.val; rw [h1]; omega

/-- The output array's entries. -/
theorem array_read (c : Dev nD) (R : Fin 16384) (C : Fin 2048) :
    ((dats m 0 c).arrAt 2 cfg0.N : Vec Ideal S16384x2048 .f32) (ix2 R C) = entry (rowsIn m c) (weightsIn m c) R ⟨10256 + C.val, by omega⟩ := by
  refine walk_array (N := cfg0.N) (outsAt0 m c) (rowsAt m c) (weightsAt m c) (fun t h0 => ?_) (fun t h0 => ?_) (rowsIn m c) (weightsIn m c)
    (rows_read m c) (weights_read m c) _ (block_read m c) (by rw [show cfg0.N = 64 from N_0]) (by rw [show cfg0.N = 64 from N_0]) (by omega) R C
  · rw [outsAt0_A m c t h0, first_out, first_kept]; rfl
  · rw [outsAt0_B m c t h0, later_out]; rfl

/-- The output array is the reference's result of the same arguments. -/
theorem results_eq (c : Dev nD) :
    Cert.OGateRefIdeal.Read.val_main_v2 (F := Ideal) (rowsIn m c) (weightsIn m c) = (dats m 0 c).arrAt 2 cfg0.N := by
  funext i
  obtain ⟨R, C, rfl⟩ := table_idx i
  refine Eq.trans ?_ (array_read m c R C).symm
  rw [Cert.OGateRefIdeal.Read.val_main_v2_apply]
  refine (Cert.OGateRefIdeal.Read.val_main_v1_apply _ _ _).trans (Finset.sum_congr rfl fun k _ => ?_)
  refine congrArg₂ (· * ·) (congrArg (rowsIn m c) ?_) (congrArg (weightsIn m c) ?_)
  all_goals
    refine funext fun a => Fin.ext ?_
    match a with
    | ⟨0, _⟩ => rfl
    | ⟨1, _⟩ => first | rfl | exact Nat.add_comm _ _

/-- Over the reals, the kernel computes what its reference computes. -/
theorem algebraic : Cert.algebraic_OGateIdeal_OGateRefIdeal := by
  intro m ρ m' ρ' _ hagree
  refine ⟨fun c => (dats m 0 c).arrAt 2 cfg0.N, Value.run_blocks (F := Ideal) m ρ, ?_⟩
  refine (θ_run _ _ _).mono (fun _ h c => ⟨(h c).1.trans ?_, (h c).2⟩) (Cert.OGateRefIdeal.Value.run (F := Ideal) m' ρ')
  obtain ⟨e0, e1⟩ := hagree c
  rw [Cert.OGateRefIdeal.Read.val_main_v2_eq, e0, e1]
  exact results_eq m c

/-- The reference runs to the end and leaves its arguments as they were; it declares no semaphore. -/
theorem frame_reference : Cert.quiescent_OGateRefIdeal := fun m ρ _ =>
  (θ_run Cert.OGateRefIdeal.defs _ _).mono (fun r h => ⟨fun c => (h c).2,
      Idealize.ShloMosaic.sem_eq_zero_of_no_sems (by decide) r.2⟩)
    (Cert.OGateRefIdeal.Value.run (F := Ideal) m ρ)

end Cert.OGateIdeal.DA
-- ==== Proof.Joined.lean ====
module
public import Idealize.ShloMosaic.Lib.Pointwise
public import Idealize.ShloMosaic.Lib.Pipeline.Value
public import Idealize.ShloMosaic.Lib.KernelVsHost
public import proofs.«01_k».proof.Proof.Columns
@[expose] public section
noncomputable section
namespace Cert.Columns
open Idealize.ShloMosaic

/-- Tables joined side by side, read in one of them: `before` counts the columns of the tables to its left. -/
theorem join_read {a n w : ℕ} (xs : List ((s : Shape) × (s.Idx → EReal))) (h : Shape.Concatenates (xs.map (·.1)) ⟨2, ![a, n]⟩ (1 : Fin 2))
    (k : ℕ) (hk : k < xs.length) (x : Table a w) (hx : xs[k] = ⟨⟨2, ![a, w]⟩, x⟩) (before : ℕ)
    (hb : (((xs.take k).map (·.1)).map fun s => if h : s.rank = (⟨2, ![a, n]⟩ : Shape).rank then s.size ((1 : Fin 2).cast h.symm) else 0).sum = before)
    (r : Fin a) (j : Fin w) (c : Fin n) (hc : before + j.val = c.val) :
    concatenate ⟨2, ![a, n]⟩ (1 : Fin 2) xs h (ix2 r c) = x (ix2 r j) := by
  refine concatenate_apply_piece (t := ⟨2, ![a, n]⟩) (1 : Fin 2) xs h (ix2 r c) k hk _ x hx rfl before hb (ix2 r j) (fun b hne => ?_) hc
  match b with
  | ⟨0, _⟩ => rfl
  | ⟨1, _⟩ => exact absurd rfl hne

/-- A table with columns of one value added on its right, read in the table. -/
theorem widen_read {a w n g : ℕ} {u : Shape} (x : Table a w) (v : u.Idx → EReal) (h : (⟨2, ![a, w]⟩ : Shape).Pads ![0, 0] ![0, g] ![0, 0] ⟨2, ![a, n]⟩) (hu : 0 < u.numel)
    (r : Fin a) (j : Fin w) (c : Fin n) (hc : j.val = c.val) :
    pad ⟨2, ![a, n]⟩ ![0, 0] ![0, g] ![0, 0] x v h hu (ix2 r c) = x (ix2 r j) := by
  refine pad_apply_of_inside ![0, 0] ![0, g] ![0, 0] x v h hu (ix2 r c) (ix2 r j) fun b => ?_
  match b with
  | ⟨0, _⟩ => show r.val = 0 + r.val * (0 + 1); omega
  | ⟨1, _⟩ => show c.val = 0 + j.val * (0 + 1); omega

/-- The same table read in the added columns. -/
theorem widen_rest {a w n g : ℕ} {u : Shape} (x : Table a w) (v : u.Idx → EReal) (h : (⟨2, ![a, w]⟩ : Shape).Pads ![0, 0] ![0, g] ![0, 0] ⟨2, ![a, n]⟩) (hu : 0 < u.numel)
    (r : Fin a) (c : Fin n) (hc : w ≤ c.val) (hv : ∀ i, v i = 0) :
    pad ⟨2, ![a, n]⟩ ![0, 0] ![0, g] ![0, 0] x v h hu (ix2 r c) = 0 := by
  refine (pad_apply_of_not_inside ![0, 0] ![0, g] ![0, 0] x v h hu (ix2 r c) (1 : Fin 2) fun q => ?_).trans (hv _)
  have : (c.val - 0) / (0 + 1) < w := q.2.2
  omega

/-- A product with a column of zeros. -/
theorem entry_zero {n : ℕ} (X : Table 16384 4096) (W : Table 4096 n) (R : Fin 16384) (C : Fin n) (h : ∀ k, W (ix2 k C) = 0) : entry X W R C = 0 :=
  Finset.sum_eq_zero fun k _ => by rw [h k, mul_zero]

/-- A product with a column that another table has too. -/
theorem entry_column {n n' : ℕ} (X : Table 16384 4096) (W : Table 4096 n) (W' : Table 4096 n') (R : Fin 16384) (C : Fin n) (C' : Fin n')
    (h : ∀ k, W (ix2 k C) = W' (ix2 k C')) : entry X W R C = entry X W' R C' :=
  Finset.sum_congr rfl fun k _ => by rw [h k]

end Cert.Columns
-- ==== Proof.LoraCall.lean ====
module
public import proofs.«01_k».proof.Proof.Gen.LoraIdeal.Value
public import proofs.«01_k».proof.Proof.Gen.LoraRefIdeal.Read
public import proofs.«01_k».proof.Defs
public import Idealize.ShloMosaic.Lib.VecWindow
public import proofs.«01_k».proof.Proof.Joined
@[expose] public section
set_option maxRecDepth 16384
noncomputable section
namespace Cert.LoraIdeal.DA
open Cert.Columns Cert.LoraIdeal Cert.LoraIdeal.Gen
open Idealize.ShloMosaic Idealize.ShloMosaic.TcCoe Idealize.SL.Sem Idealize.ShloMosaic.Tactic

/-- Casting the weights to the narrow type leaves them as they are. -/
theorem cast_read (w : Vec Ideal S4096x512 .f32) : k0_pay1 (F := Ideal) w = w := by
  funext i
  unfold k0_pay1
  pointwise
/-- The product stored at a point. -/
theorem product_read (x : Vec Ideal S1024x4096 .bf16) (w : Vec Ideal S4096x512 .bf16) : k0_pay2 (F := Ideal) x w = products x w := by
  funext i
  unfold k0_pay2 products
  pointwise

section Body
variable (c : Dev nD) (i : grid0.Coords) (arg2 : Memref sig .tc .vmem S1024x4096 .bf16) (harg2 : arg2.IsWhole) (arg3 : Memref sig .tc .vmem S4096x512 .f32) (harg3 : arg3.IsWhole)
  (arg4 : Memref sig .tc .vmem S1024x512 .f32) (harg4 : arg4.IsWhole) (arg5 : Memref sig .tc .vmem S4096x512 .bf16) (harg5 : arg5.IsWhole)
  (x0 : Vec Ideal S1024x4096 .bf16) (x1 : Vec Ideal S4096x512 .f32)

/-- What the body keeps at the first block of rows: the cast weights. -/
theorem first_kept (hc0 : cond0_0 i) : sout0_A_0 c i arg2 harg2 arg3 harg3 arg4 harg4 arg5 harg5 hc0 x0 x1 = x1 := by
  refine (View.read_writes_full VS0_0 _ inb_S4096x512_S4096x512_0_0 _ []).trans ((cast_read _).trans ?_)
  exact ((View.readAt_full _ _ _).trans (harg3.read_unread _))
/-- What the body writes at the first block of rows: the product with the weights just kept. -/
theorem first_out (hc0 : cond0_0 i) : out0_A_2 c i arg2 harg2 arg3 harg3 arg4 harg4 arg5 harg5 hc0 x0 x1 = products x0 x1 := by
  refine (View.read_writes_full VO0_2 _ inb_S1024x512_S1024x512_0_0 _ []).trans ((product_read _ _).trans ?_)
  refine congrArg₂ products ((View.readAt_full _ _ _).trans (harg2.read_unread _)) ?_
  refine (View.readCov_full arg5.view inb_S4096x512_S4096x512_0_0 inb_S4096x512_S4096x512_0_0 _ []).trans ((cast_read _).trans ?_)
  exact (View.readAt_full _ _ _).trans (harg3.read_unread _)
/-- What it writes at a later block: the product with the weights kept before. -/
theorem later_out (hc0 : ¬cond0_0 i) (xs : Vec Ideal S4096x512 .bf16) :
    out0_B_2 c i arg2 harg2 arg3 harg3 arg4 harg4 arg5 harg5 hc0 x0 x1 xs = products x0 xs := by
  refine (View.read_writes_full VO0_2 _ inb_S1024x512_S1024x512_0_0 _ []).trans ((product_read _ _).trans ?_)
  exact congrArg₂ products ((View.readAt_full _ _ _).trans (harg2.read_unread _)) ((View.readAt_full _ _ _).trans (harg5.read_unread _))
end Body

variable (m : (ℓ : Loc nD τ sig) → Buf (Elt Ideal) ℓ)

/-- The rows that come in. -/
abbrev rowsIn (c : Dev nD) : Vec Ideal S16384x4096 .f32 := m ((c : Thread nD τ).loc main_arg0)
/-- The weights. -/
abbrev weightsIn (c : Dev nD) : Vec Ideal S4096x12736 .f32 := m ((c : Thread nD τ).loc main_arg1)

/-- The block of rows at a point. -/
def rowsAt (c : Dev nD) (t : Fin cfg0.N) : Vec Ideal S1024x4096 .bf16 := iblk m c 0 t
/-- The block of columns at a point. -/
def weightsAt (c : Dev nD) (t : Fin cfg0.N) : Vec Ideal S4096x512 .f32 := iblk m c 1 t

theorem index0 : ∀ t : Fin grid0.N, win0_0.index t 0 = t.val % 16 ∧ win0_0.index t 1 = 0 := by decide +kernel
theorem index1 : ∀ t : Fin grid0.N, win0_1.index t 0 = 0 ∧ win0_1.index t 1 = t.val / 16 := by decide +kernel
theorem index2 : ∀ t : Fin grid0.N, win0_2.index t 0 = t.val % 16 ∧ win0_2.index t 1 = t.val / 16 := by decide +kernel

/-- The rows the call is given: those that come in, cast to the narrow type. -/
theorem rows_host (c : Dev nD) : (V m c main_v0 : Table 16384 4096) = rowsIn m c := by
  have h : (V m c main_v0 : Vec Ideal S16384x4096 .bf16) = (truncf .bf16 (rowsIn m c : FVec Ideal S16384x4096 .f32) bitsLt_bf16_f32 : FVec Ideal S16384x4096 .bf16) := by
    dsimp only [V, hostOps0, hostOps0_1, hostOps0_2, hostOps0_3, hostOps0_4, List.flatten_cons, List.flatten_nil, List.cons_append, List.nil_append]
    after_results
  exact h

/-- The rows at a point. -/
theorem rows_read (c : Dev nD) (t : Fin cfg0.N) (r : Fin 1024) (k : Fin 4096) (R : Fin 16384) (hR : R.val = 1024 * (t.val % 16) + r.val) :
    rowsAt m c t (ix2 r k) = rowsIn m c (ix2 R k) := by
  obtain ⟨h0, h1⟩ := index0 t
  unfold rowsAt iblk
  rw [View.read_apply]
  rw [← rows_host m c]
  show V m c main_v0 _ = V m c main_v0 _
  refine congrArg _ (funext fun a => Fin.ext ?_)
  match a with
  | ⟨0, _⟩ => show win0_0.index t 0 * 1024 + 1 * r.val = R.val; rw [h0]; omega
  | ⟨1, _⟩ => show win0_0.index t 1 * 4096 + 1 * k.val = k.val; rw [h1]; omega

/-- The weights the call is given: three groups of columns, the first two widened with zeros. -/
def weightsHost (c : Dev nD) : Vec Ideal S4096x512 .f32 := V m c main_v7

/-- Where a column of the given weights comes from: a column of the whole weights, or none for a column of zeros. -/
def source (C : Fin 512) : Option (Fin 12736) :=
  if h1 : C.val < 96 then some ⟨12288 + C.val, by omega⟩
  else if h2 : C.val < 128 then none
  else if h3 : C.val < 224 then some ⟨12384 + (C.val - 128), by omega⟩
  else if h4 : C.val < 256 then none
  else some ⟨12480 + (C.val - 256), by omega⟩

/-- The value added on the right of a group. -/
abbrev fillIn : Vec Ideal S_ .f32 := (sitofp .f32 (constantI S_ 32 0#32) : FVec Ideal S_ .f32)
theorem fillIn_zero (i : S_.Idx) : fillIn i = (0 : EReal) := by
  show (((BitVec.toInt 0#32 : ℤ) : ℝ) : EReal) = 0
  simp

/-- A group of columns widened with zeros. -/
def widened (x : Vec Ideal S4096x96 .f32) : Vec Ideal S4096x128 .f32 := pad S4096x128 ![0, 0] ![0, 32] ![0, 0] x fillIn pads_S4096x96_S4096x128_000_0320 h_S_
theorem widened_read (x : Vec Ideal S4096x96 .f32) (k : Fin 4096) (j : Fin 96) (c : Fin 128) (hc : j.val = c.val) : widened x (ix2 k c) = x (ix2 k j) :=
  widen_read (a := 4096) (w := 96) (n := 128) (g := 32) x fillIn pads_S4096x96_S4096x128_000_0320 h_S_ k j c hc
theorem widened_rest (x : Vec Ideal S4096x96 .f32) (k : Fin 4096) (c : Fin 128) (hc : 96 ≤ c.val) : widened x (ix2 k c) = (0 : EReal) :=
  widen_rest (a := 4096) (w := 96) (n := 128) (g := 32) x fillIn pads_S4096x96_S4096x128_000_0320 h_S_ k c hc fillIn_zero

/-- The weights' last columns, which the call slices its groups from. -/
abbrev tailIn (c : Dev nD) : Vec Ideal S4096x6592 .f32 := extractStridedSlice S4096x6592 ![0, 6144] (weightsIn m c) slices_S4096x12736_S4096x6592_0_6144

/-- The given weights, as the call's preparation builds them. -/
theorem weights_built (c : Dev nD) : weightsHost m c = concatenate S4096x512 1
    [⟨S4096x128, widened (extractStridedSlice S4096x96 ![0, 6144] (tailIn m c) slices_S4096x6592_S4096x96_0_6144)⟩,
     ⟨S4096x128, widened (extractStridedSlice S4096x96 ![0, 6240] (tailIn m c) slices_S4096x6592_S4096x96_0_6240)⟩,
     ⟨S4096x256, (extractStridedSlice S4096x256 ![0, 6336] (tailIn m c) slices_S4096x6592_S4096x256_0_6336 : Vec Ideal S4096x256 .f32)⟩] concatenates_S4096x128_S4096x128_S4096x256_S4096x512_d1 := by
  unfold weightsHost
  dsimp only [V, hostOps0, hostOps0_1, hostOps0_2, hostOps0_3, hostOps0_4, List.flatten_cons, List.flatten_nil, List.cons_append, List.nil_append]
  after_results
  rfl

/-- A slice of the tail is columns of the whole weights. -/
theorem tail_read (c : Dev nD) {w : ℕ} (d : ℕ) (h : S4096x6592.Slices ![0, d] ⟨2, ![4096, w]⟩) (k : Fin 4096) (j : Fin w) (C : Fin 12736) (hC : C.val = 6144 + d + j.val) :
    (extractStridedSlice ⟨2, ![4096, w]⟩ ![0, d] (tailIn m c) h : Table 4096 w) (ix2 k j) = weightsIn m c (ix2 k C) := by
  refine congrArg (weightsIn m c) (funext fun a => Fin.ext ?_)
  match a with
  | ⟨0, _⟩ => show 0 + (0 + k.val) = k.val; omega
  | ⟨1, _⟩ => show 6144 + (d + j.val) = C.val; omega

/-- The given weights, column by column. -/
theorem weights_host (c : Dev nD) (k : Fin 4096) (C : Fin 512) :
    weightsHost m c (ix2 k C) = match source C with | some C' => weightsIn m c (ix2 k C') | none => (0 : EReal) := by
  rw [weights_built]
  unfold source
  have hC := C.isLt
  by_cases h1 : C.val < 96
  · rw [dif_pos h1]
    refine (join_read _ _ 0 (by simp) _ rfl 0 rfl k ⟨C.val, by omega⟩ C (by simp)).trans ?_
    refine (widened_read _ k ⟨C.val, h1⟩ _ rfl).trans ?_
    exact tail_read m c 6144 _ k _ _ rfl
  rw [dif_neg h1]
  by_cases h2 : C.val < 128
  · rw [dif_pos h2]
    refine (join_read _ _ 0 (by simp) _ rfl 0 rfl k ⟨C.val, by omega⟩ C (by simp)).trans ?_
    exact widened_rest _ k _ (Nat.le_of_not_lt h1)
  rw [dif_neg h2]
  by_cases h3 : C.val < 224
  · rw [dif_pos h3]
    refine (join_read _ _ 1 (by simp) _ rfl 128 rfl k ⟨C.val - 128, by omega⟩ C (by simp; omega)).trans ?_
    refine (widened_read _ k ⟨C.val - 128, by omega⟩ _ rfl).trans ?_
    exact tail_read m c 6240 _ k _ _ rfl
  rw [dif_neg h3]
  by_cases h4 : C.val < 256
  · rw [dif_pos h4]
    refine (join_read _ _ 1 (by simp) _ rfl 128 rfl k ⟨C.val - 128, by omega⟩ C (by simp; omega)).trans ?_
    exact widened_rest _ k _ (by show 96 ≤ C.val - 128; omega)
  rw [dif_neg h4]
  refine (join_read _ _ 2 (by simp) _ rfl 256 rfl k ⟨C.val - 256, by omega⟩ C (by simp; omega)).trans ?_
  exact tail_read m c 6336 _ k _ _ rfl

/-- The weights at a point. -/
theorem weights_read (c : Dev nD) (t : Fin cfg0.N) (k : Fin 4096) (j : Fin 512) (C : Fin 512) (hC : C.val = 0 + 512 * (t.val / 16) + j.val) :
    weightsAt m c t (ix2 k j) = weightsHost m c (ix2 k C) := by
  obtain ⟨h0, h1⟩ := index1 t
  unfold weightsAt iblk
  rw [View.read_apply]
  show V m c main_v7 _ = V m c main_v7 _
  refine congrArg _ (funext fun a => Fin.ext ?_)
  match a with
  | ⟨0, _⟩ => show win0_1.index t 0 * 4096 + 1 * k.val = k.val; rw [h0]; omega
  | ⟨1, _⟩ => show win0_1.index t 1 * 512 + 1 * j.val = C.val; rw [h1]; omega

/-- The output array's block of a point is what the point wrote. -/
theorem block_read (c : Dev nD) (t : Fin cfg0.N) (r : Fin 1024) (j : Fin 512) (R : Fin 16384) (C : Fin 512) (hR : R.val = 1024 * (t.val % 16) + r.val)
    (hC : C.val = 512 * (t.val / 16) + j.val) :
    ((dats m 0 c).arrAt 2 cfg0.N : Vec Ideal S16384x512 .f32) (ix2 R C) = (outsAt0 m c t.val t.isLt).1 (ix2 r j) := by
  have hb := congrFun (Value.blocks2 m c t (flush0_2 _)) (ix2 r j)
  rw [View.read_apply, Value.flushed2] at hb
  have hc : ∀ (o : Vec Ideal S1024x512 .f32) (t : Fin grid0.N) (j : S1024x512.Idx), ((cfg0.win 2).cut (grid0.coords t) o : Vec Ideal S1024x512 .f32) j = o j := fun _ _ _ => rfl
  refine Eq.trans ?_ (hb.trans (hc _ _ _))
  obtain ⟨h0, h1⟩ := index2 t
  refine congrArg _ (funext fun a => Fin.ext ?_)
  match a with
  | ⟨0, _⟩ => show R.val = win0_2.index t 0 * 1024 + 1 * r.val; rw [h0]; omega
  | ⟨1, _⟩ => show C.val = win0_2.index t 1 * 512 + 1 * j.val; rw [h1]; omega

/-- The output array's entries. -/
theorem array_read (c : Dev nD) (R : Fin 16384) (C : Fin 512) :
    ((dats m 0 c).arrAt 2 cfg0.N : Vec Ideal S16384x512 .f32) (ix2 R C) = entry (rowsIn m c) (weightsHost m c) R C := by
  refine (walk_array (N := cfg0.N) (c0 := 0) (outsAt0 m c) (rowsAt m c) (weightsAt m c) (fun t h0 => ?_) (fun t h0 => ?_) (rowsIn m c) (weightsHost m c)
    (rows_read m c) (weights_read m c) _ (block_read m c) (by rw [show cfg0.N = 16 from N_0]) (by rw [show cfg0.N = 16 from N_0]) (by omega) R C).trans ?_
  · rw [outsAt0_A m c t h0, first_out, first_kept]; rfl
  · rw [outsAt0_B m c t h0, later_out]; rfl
  · exact congrArg (entry (rowsIn m c) (weightsHost m c) R) (Fin.ext (Nat.zero_add _))

/-- A column of the reference's product. -/
theorem product_column (x : Vec Ideal S16384x4096 .f32) (w : Vec Ideal S4096x12736 .f32) (i : Cert.LoraRefIdeal.S16384x448.Idx) (R : Fin 16384) (C : Fin 12736)
    (hR : (i 0).val = R.val) (hC : C.val = 12288 + (i 1).val) :
    Cert.LoraRefIdeal.Read.val_main_v1 (F := Ideal) x w i = entry x w R C := by
  rw [Cert.LoraRefIdeal.Read.val_main_v1_apply]
  refine (Cert.LoraRefIdeal.Read.val_main_v0_apply _ _ _).trans (Finset.sum_congr rfl fun k _ => ?_)
  refine congrArg₂ (· * ·) (congrArg x ?_) (congrArg w ?_)
  all_goals
    refine funext fun a => Fin.ext ?_
    match a with
    | ⟨0, _⟩ => first | rfl | exact hR
    | ⟨1, _⟩ => first | rfl | exact hC.symm

/-- The columns of zeros the reference puts between. -/
theorem zeros_read (i : Cert.LoraRefIdeal.S16384x32.Idx) : Cert.LoraRefIdeal.Read.val_main_v5 (F := Ideal) i = (0 : EReal) := by
  rw [Cert.LoraRefIdeal.Read.val_main_v5_apply, Cert.LoraRefIdeal.Read.val_main_cst_apply]
  pointwise

/-- The reference's result, column by column. -/
theorem reference_read (x : Vec Ideal S16384x4096 .f32) (w : Vec Ideal S4096x12736 .f32) (R : Fin 16384) (C : Fin 512) :
    Cert.LoraRefIdeal.Read.val_main_v6 (F := Ideal) x w (ix2 R C) = match source C with | some C' => entry x w R C' | none => (0 : EReal) := by
  have e2 : ∀ (j : Fin 96) (C : Fin 12736), C.val = 12288 + j.val → Cert.LoraRefIdeal.Read.val_main_v2 (F := Ideal) x w (ix2 R j) = entry x w R C := fun j C h =>
    (Cert.LoraRefIdeal.Read.val_main_v2_apply x w _).trans (product_column x w _ R C rfl h)
  have e3 : ∀ (j : Fin 96) (C : Fin 12736), C.val = 12288 + (96 + j.val) → Cert.LoraRefIdeal.Read.val_main_v3 (F := Ideal) x w (ix2 R j) = entry x w R C := fun j C h =>
    (Cert.LoraRefIdeal.Read.val_main_v3_apply x w _).trans (product_column x w _ R C rfl h)
  have e4 : ∀ (j : Fin 256) (C : Fin 12736), C.val = 12288 + (192 + j.val) → Cert.LoraRefIdeal.Read.val_main_v4 (F := Ideal) x w (ix2 R j) = entry x w R C := fun j C h =>
    (Cert.LoraRefIdeal.Read.val_main_v4_apply x w _).trans (product_column x w _ R C rfl h)
  have e5 := zeros_read
  unfold Cert.LoraRefIdeal.Read.val_main_v6
  generalize Cert.LoraRefIdeal.Read.val_main_v2 (F := Ideal) x w = y2 at e2 ⊢
  generalize Cert.LoraRefIdeal.Read.val_main_v3 (F := Ideal) x w = y3 at e3 ⊢
  generalize Cert.LoraRefIdeal.Read.val_main_v4 (F := Ideal) x w = y4 at e4 ⊢
  generalize Cert.LoraRefIdeal.Read.val_main_v5 (F := Ideal) = y5 at e5 ⊢
  unfold source
  have hC := C.isLt
  by_cases h1 : C.val < 96
  · rw [dif_pos h1]
    exact (join_read _ _ 0 (by simp) y2 rfl 0 rfl R ⟨C.val, h1⟩ C (Nat.zero_add _)).trans (e2 _ _ rfl)
  rw [dif_neg h1]
  by_cases h2 : C.val < 128
  · rw [dif_pos h2]
    exact (join_read _ _ 1 (by simp) y5 rfl 96 rfl R ⟨C.val - 96, by omega⟩ C (by show 96 + (C.val - 96) = C.val; omega)).trans (e5 _)
  rw [dif_neg h2]
  by_cases h3 : C.val < 224
  · rw [dif_pos h3]
    exact (join_read _ _ 2 (by simp) y3 rfl 128 rfl R ⟨C.val - 128, by omega⟩ C (by show 128 + (C.val - 128) = C.val; omega)).trans
      (e3 _ _ (by show 12384 + (C.val - 128) = 12288 + (96 + (C.val - 128)); omega))
  rw [dif_neg h3]
  by_cases h4 : C.val < 256
  · rw [dif_pos h4]
    exact (join_read _ _ 3 (by simp) y5 rfl 224 rfl R ⟨C.val - 224, by omega⟩ C (by show 224 + (C.val - 224) = C.val; omega)).trans (e5 _)
  rw [dif_neg h4]
  exact (join_read _ _ 4 (by simp) y4 rfl 256 rfl R ⟨C.val - 256, by omega⟩ C (by show 256 + (C.val - 256) = C.val; omega)).trans
    (e4 _ _ (by show 12480 + (C.val - 256) = 12288 + (192 + (C.val - 256)); omega))

/-- The output array is the reference's result of the same arguments. -/
theorem results_eq (c : Dev nD) :
    Cert.LoraRefIdeal.Read.val_main_v6 (F := Ideal) (rowsIn m c) (weightsIn m c) = (dats m 0 c).arrAt 2 cfg0.N := by
  funext i
  obtain ⟨R, C, rfl⟩ := table_idx i
  refine Eq.trans ?_ (array_read m c R C).symm
  rw [reference_read]
  have hw : ∀ k, weightsHost m c (ix2 k C) = match source C with | some C' => weightsIn m c (ix2 k C') | none => (0 : EReal) := fun k => weights_host m c k C
  cases hs : source C with
  | none => rw [hs] at hw; exact (entry_zero _ _ R C hw).symm
  | some C' => rw [hs] at hw; exact (entry_column _ _ _ R C C' hw).symm

/-- Over the reals, the kernel computes what its reference computes. -/
theorem algebraic : Cert.algebraic_LoraIdeal_LoraRefIdeal := by
  intro m ρ m' ρ' _ hagree
  refine ⟨fun c => (dats m 0 c).arrAt 2 cfg0.N, Value.run_blocks (F := Ideal) m ρ, ?_⟩
  refine (θ_run _ _ _).mono (fun _ h c => ⟨(h c).1.trans ?_, (h c).2⟩) (Cert.LoraRefIdeal.Value.run (F := Ideal) m' ρ')
  obtain ⟨e0, e1⟩ := hagree c
  rw [Cert.LoraRefIdeal.Read.val_main_v6_eq, e0, e1]
  exact results_eq m c

/-- The reference runs to the end and leaves its arguments as they were; it declares no semaphore. -/
theorem frame_reference : Cert.quiescent_LoraRefIdeal := fun m ρ _ =>
  (θ_run Cert.LoraRefIdeal.defs _ _).mono (fun r h => ⟨fun c => (h c).2,
      Idealize.ShloMosaic.sem_eq_zero_of_no_sems (by decide) r.2⟩)
    (Cert.LoraRefIdeal.Value.run (F := Ideal) m ρ)

end Cert.LoraIdeal.DA
-- ==== Proof.Finite.lean ====
module
public import proofs.«01_k».proof.Pre_finite
public import proofs.«01_k».proof.Proof.Gen.Pre_finite
public import Idealize.ShloMosaic.Lib.ReduceAll
public import Idealize.ShloMosaic.Lib.Pointwise
@[expose] public section
noncomputable section
namespace Cert.Pre_finite.DA
open Cert.Pre_finite Cert.Pre_finite.Gen Idealize.ShloMosaic Idealize.ShloMosaic.Tactic

/-- An extended real whose absolute value is below infinity is a real number. -/
theorem real_of_abs (x : EReal) (h : max x (-x) < ⊤) : ∃ r : ℝ, x = r := by
  induction x using EReal.rec with
  | bot => simp at h
  | coe r => exact ⟨r, rfl⟩
  | top => simp at h

theorem inf_bits : Ideal.ofBits .f32 0x7F800000#32 = (⊤ : EReal) := by
  simp [Ideal.ofBits, Ideal.ieee, -EReal.coe_mul]

/-- The comparison of an absolute value with infinity. -/
theorem real_of_cmp (x : EReal) (h : Ideal.cmp .olt (max x (-x)) (Ideal.ofBits .f32 0x7F800000#32) = 1#1) : ∃ r : ℝ, x = r := by
  rw [inf_bits] at h
  refine real_of_abs x ?_
  by_contra hn
  simp [Ideal.cmp, hn] at h

theorem and_read (a b : IVec S_ 1) (j : S_.Idx) (h : andi a b j = 1#1) : a j = 1#1 ∧ b j = 1#1 := IntOp.andi_eq_one.1 h

/-- What the precondition says of the arguments. -/
theorem reals (x0 : FVec Ideal S2x8192x6144 .bf16) (x1 x2 x3 x4 : FVec Ideal S128 .f32) (x5 : FVec Ideal S256 .f32) (j : S_.Idx)
    (h : fn (F := Ideal) x0 x1 x2 x3 x4 x5 j = 1#1) :
    (∀ i, ∃ r : ℝ, (x0 i : EReal) = r) ∧ (∀ i, ∃ r : ℝ, (x1 i : EReal) = r) ∧ (∀ i, ∃ r : ℝ, (x2 i : EReal) = r) ∧ (∀ i, ∃ r : ℝ, (x3 i : EReal) = r) ∧ (∀ i, ∃ r : ℝ, (x4 i : EReal) = r) := by
  unfold fn fn_part1 at h
  dsimp only at h
  obtain ⟨h, h4⟩ := and_read _ _ _ h
  obtain ⟨h, h3⟩ := and_read _ _ _ h
  obtain ⟨h, h2⟩ := and_read _ _ _ h
  obtain ⟨h0, h1⟩ := and_read _ _ _ h
  exact ⟨fun i => real_of_cmp _ (Host.reduce_andi_all _ _ _ _ j h0 i), fun i => real_of_cmp _ (Host.reduce_andi_all _ _ _ _ j h1 i), fun i => real_of_cmp _ (Host.reduce_andi_all _ _ _ _ j h2 i),
    fun i => real_of_cmp _ (Host.reduce_andi_all _ _ _ _ j h3 i), fun i => real_of_cmp _ (Host.reduce_andi_all _ _ _ _ j h4 i)⟩

end Cert.Pre_finite.DA
-- ==== Proof.Exact.lean ====
module
public import proofs.«01_k».proof.Proof.Finite
public import proofs.«01_k».proof.Pre_finite_gate
public import proofs.«01_k».proof.Proof.Gen.Pre_finite_gate
@[expose] public section
noncomputable section
namespace Cert.Exact
open Idealize.ShloMosaic Idealize.ShloMosaic.Tactic

/-- A real number taken from itself. -/
theorem sub_self_real (x : EReal) (h : ∃ r : ℝ, x = r) : x - x = 0 := by
  obtain ⟨r, rfl⟩ := h
  rw [← EReal.coe_sub, sub_self, EReal.coe_zero]

/-- A product of split rows and columns: over the reals the parts left over are zero. -/
theorem split_product {n : ℕ} (x w : Fin n → EReal) (hx : ∀ k, ∃ r : ℝ, x k = r) (hw : ∀ k, ∃ r : ℝ, w k = r) :
    (∑ k, x k * w k) + (∑ k, x k * (w k - w k)) + (∑ k, (x k - x k) * w k) = ∑ k, x k * w k := by
  have h1 : (∑ k, x k * (w k - w k)) = 0 := Finset.sum_eq_zero fun k _ => by rw [sub_self_real _ (hw k), mul_zero]
  have h2 : (∑ k, (x k - x k) * w k) = 0 := Finset.sum_eq_zero fun k _ => by rw [sub_self_real _ (hx k), zero_mul]
  rw [h1, h2, add_zero, add_zero]

/-- What the precondition says of the gate's arguments. -/
theorem gate_reals (x : FVec Ideal Cert.Pre_finite_gate.S16384x4096 .f32) (w : FVec Ideal Cert.Pre_finite_gate.S4096x12304 .f32) (j : Cert.Pre_finite_gate.S_.Idx)
    (h : Cert.Pre_finite_gate.fn (F := Ideal) x w j = 1#1) : (∀ i, ∃ r : ℝ, (x i : EReal) = r) ∧ (∀ i, ∃ r : ℝ, (w i : EReal) = r) := by
  unfold Cert.Pre_finite_gate.fn at h
  dsimp only at h
  obtain ⟨h0, h1⟩ := Cert.Pre_finite.DA.and_read _ _ _ h
  exact ⟨fun i => Cert.Pre_finite.DA.real_of_cmp _ (Host.reduce_andi_all _ _ _ _ j h0 i), fun i => Cert.Pre_finite.DA.real_of_cmp _ (Host.reduce_andi_all _ _ _ _ j h1 i)⟩

end Cert.Exact
-- ==== Proof.GateCall.lean ====
module
public import proofs.«01_k».proof.Proof.Gen.GateIdeal.Value
public import proofs.«01_k».proof.Proof.Gen.GateRefIdeal.Read
public import proofs.«01_k».proof.Defs
public import Idealize.ShloMosaic.Lib.VecWindow
public import Idealize.ShloMosaic.Lib.Pipeline.ValueKit.Basic
public import proofs.«01_k».proof.Proof.Joined
public import proofs.«01_k».proof.Proof.Exact
@[expose] public section
set_option maxRecDepth 16384
noncomputable section
namespace Cert.GateIdeal.DA
open Cert.Columns Cert.Exact Cert.GateIdeal Cert.GateIdeal.Gen
open Idealize.ShloMosaic Idealize.ShloMosaic.TcCoe Idealize.SL.Sem Idealize.ShloMosaic.Tactic

/-- The product stored at a point, in its three parts. -/
theorem product_read (x : Vec Ideal S512x4096 .f32) (w : Vec Ideal S4096x128 .f32) (i : S512x128.Idx) : k0_pay1 (F := Ideal) x w i
    = (∑ k : Fin 4096, (x (ix2 (i 0) k) : EReal) * w (ix2 k (i 1))) + (∑ k : Fin 4096, (x (ix2 (i 0) k) : EReal) * (w (ix2 k (i 1)) - w (ix2 k (i 1))))
      + (∑ k : Fin 4096, ((x (ix2 (i 0) k) : EReal) - x (ix2 (i 0) k)) * w (ix2 k (i 1))) := by
  unfold k0_pay1
  pointwise

/-- What the body writes at a point. -/
theorem out_read (x : Vec Ideal S512x4096 .f32) (w : Vec Ideal S4096x128 .f32) : out0_2 (F := Ideal) x w = k0_pay1 x w := by
  unfold out0_2
  refine (View.canon_cons_unit_lit inb_S512x128_S512x128_0_0 _ [] (by decide)).trans ?_
  exact congrArg₂ k0_pay1 (View.ld_unit_lit inb_S512x4096_S512x4096_0_0 x (by decide)) (View.ld_unit_lit inb_S4096x128_S4096x128_0_0 w (by decide))

variable (m : (ℓ : Loc nD τ sig) → Buf (Elt Ideal) ℓ)

/-- The rows that come in. -/
abbrev rowsIn (c : Dev nD) : Vec Ideal S16384x4096 .f32 := m ((c : Thread nD τ).loc main_arg0)
/-- The weights. -/
abbrev weightsIn (c : Dev nD) : Vec Ideal S4096x12304 .f32 := m ((c : Thread nD τ).loc main_arg1)

/-- The block of rows at a point. -/
def rowsAt (c : Dev nD) (t : Fin cfg0.N) : Vec Ideal S512x4096 .f32 := iblk m c 0 t
/-- The weights at a point. -/
def weightsAt (c : Dev nD) (t : Fin cfg0.N) : Vec Ideal S4096x128 .f32 := iblk m c 1 t

theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = t.val ∧ win0_2.index t 1 = 0 := by decide +kernel

/-- The rows at a point. -/
theorem rows_read (c : Dev nD) (t : Fin cfg0.N) (r : Fin 512) (k : Fin 4096) (R : Fin 16384) (hR : R.val = 512 * t.val + r.val) :
    rowsAt m c t (ix2 r k) = rowsIn m c (ix2 R k) := by
  obtain ⟨h0, h1⟩ := index0 t
  unfold rowsAt iblk
  rw [View.read_apply]
  show V m c main_arg0 _ = _
  rw [V_main_arg0]
  refine congrArg (rowsIn m c) (funext fun a => Fin.ext ?_)
  match a with
  | ⟨0, _⟩ => show win0_0.index t 0 * 512 + 1 * r.val = R.val; rw [h0]; omega
  | ⟨1, _⟩ => show win0_0.index t 1 * 4096 + 1 * k.val = k.val; rw [h1]; omega

/-- The weights the call is given: sixteen columns, widened with zeros. -/
def weightsHost (c : Dev nD) : Vec Ideal S4096x128 .f32 := V m c main_v1

/-- The value added on the right. -/
abbrev fillIn : Vec Ideal S_ .f32 := (sitofp .f32 (constantI S_ 32 0#32) : FVec Ideal S_ .f32)
theorem fillIn_zero (i : S_.Idx) : fillIn i = (0 : EReal) := by
  show (((BitVec.toInt 0#32 : ℤ) : ℝ) : EReal) = 0
  simp

/-- The given weights, as the call's preparation builds them. -/
theorem weights_built (c : Dev nD) : weightsHost m c = pad S4096x128 ![0, 0] ![0, 112] ![0, 0]
    (extractStridedSlice S4096x16 ![0, 10240] (weightsIn m c) slices_S4096x12304_S4096x16_0_10240 : Vec Ideal S4096x16 .f32) fillIn pads_S4096x16_S4096x128_000_01120 h_S_ := by
  unfold weightsHost
  dsimp only [V, hostOps0, hostOps0_1, List.flatten_cons, List.flatten_nil, List.cons_append, List.nil_append]
  after_results
  rfl

/-- The given weights in one of the sixteen columns. -/
theorem weights_host (c : Dev nD) (k : Fin 4096) (C : Fin 128) (h : C.val < 16) (C' : Fin 12304) (hC : C'.val = 10240 + C.val) :
    weightsHost m c (ix2 k C) = weightsIn m c (ix2 k C') := by
  rw [weights_built]
  refine (widen_read (a := 4096) (w := 16) (n := 128) (g := 112) _ fillIn pads_S4096x16_S4096x128_000_01120 h_S_ k ⟨C.val, h⟩ C rfl).trans ?_
  refine congrArg (weightsIn m c) (funext fun a => Fin.ext ?_)
  match a with
  | ⟨0, _⟩ => show 0 + k.val = k.val; omega
  | ⟨1, _⟩ => show 10240 + C.val = C'.val; omega

/-- The given weights in a column of zeros. -/
theorem weights_rest (c : Dev nD) (k : Fin 4096) (C : Fin 128) (h : 16 ≤ C.val) : weightsHost m c (ix2 k C) = (0 : EReal) := by
  rw [weights_built]
  exact widen_rest (a := 4096) (w := 16) (n := 128) (g := 112) _ fillIn pads_S4096x16_S4096x128_000_01120 h_S_ k C h fillIn_zero

/-- The weights at a point. -/
theorem weights_read (c : Dev nD) (t : Fin cfg0.N) (k : Fin 4096) (j : Fin 128) : weightsAt m c t (ix2 k j) = weightsHost m c (ix2 k j) := by
  obtain ⟨h0, h1⟩ := index1 t
  unfold weightsAt iblk
  rw [View.read_apply]
  show V m c main_v1 _ = V m c main_v1 _
  refine congrArg _ (funext fun a => Fin.ext ?_)
  match a with
  | ⟨0, _⟩ => show win0_1.index t 0 * 4096 + 1 * k.val = k.val; rw [h0]; omega
  | ⟨1, _⟩ => show win0_1.index t 1 * 128 + 1 * j.val = j.val; rw [h1]; omega

/-- The output array's block of a point is what the point wrote. -/
theorem block_read (c : Dev nD) (t : Fin cfg0.N) (r : Fin 512) (j : Fin 128) (R : Fin 16384) (hR : R.val = 512 * t.val + r.val) :
    ((dats m 0 c).arrAt 2 cfg0.N : Vec Ideal S16384x128 .f32) (ix2 R j) = k0_pay1 (F := Ideal) (rowsAt m c t) (weightsAt m c t) (ix2 r j) := by
  have hb := congrFun (Value.blocks2 m c t (flush0_2 _)) (ix2 r j)
  rw [View.read_apply, Value.flushed2] at hb
  have hc : ∀ (o : Vec Ideal S512x128 .f32) (t : Fin grid0.N) (j : S512x128.Idx), ((cfg0.win 2).cut (grid0.coords t) o : Vec Ideal S512x128 .f32) j = o j := fun _ _ _ => rfl
  refine Eq.trans ?_ ((hb.trans (hc _ _ _)).trans (congrFun (out_read _ _) _))
  obtain ⟨h0, h1⟩ := index2 t
  refine congrArg _ (funext fun a => Fin.ext ?_)
  match a with
  | ⟨0, _⟩ => show R.val = win0_2.index t 0 * 512 + 1 * r.val; rw [h0]; omega
  | ⟨1, _⟩ => show j.val = win0_2.index t 1 * 128 + 1 * j.val; rw [h1]; omega

/-- The output array's entries, when the arguments are real numbers. -/
theorem array_read (c : Dev nD) (hx : ∀ i, ∃ r : ℝ, (rowsIn m c i : EReal) = r) (hw : ∀ i, ∃ r : ℝ, (weightsIn m c i : EReal) = r) (R : Fin 16384) (C : Fin 128) :
    ((dats m 0 c).arrAt 2 cfg0.N : Vec Ideal S16384x128 .f32) (ix2 R C) = entry (rowsIn m c) (weightsHost m c) R C := by
  have hR := R.isLt
  have hN : cfg0.N = 32 := N_0
  have hw' : ∀ k, ∃ r : ℝ, (weightsHost m c (ix2 k C) : EReal) = r := fun k => by
    by_cases h : C.val < 16
    · rw [weights_host m c k C h ⟨10240 + C.val, by omega⟩ rfl]; exact hw _
    · rw [weights_rest m c k C (Nat.le_of_not_lt h)]; exact ⟨0, rfl⟩
  let t : Fin cfg0.N := ⟨R.val / 512, by omega⟩
  let r : Fin 512 := ⟨R.val % 512, by omega⟩
  have hr : R.val = 512 * t.val + r.val := by show R.val = 512 * (R.val / 512) + R.val % 512; omega
  rw [block_read m c t r C R hr, product_read]
  have ex : ∀ k, rowsAt m c t (ix2 ((ix2 r C : S512x128.Idx) 0) k) = rowsIn m c (ix2 R k) := fun k => rows_read m c t r k R hr
  have ew : ∀ k, weightsAt m c t (ix2 k ((ix2 r C : S512x128.Idx) 1)) = weightsHost m c (ix2 k C) := fun k => weights_read m c t k C
  simp only [ex, ew]
  exact split_product (fun k => rowsIn m c (ix2 R k)) (fun k => weightsHost m c (ix2 k C)) (fun k => hx _) hw'

/-- A column of the reference's product. -/
theorem product_column (x : Vec Ideal S16384x4096 .f32) (w : Vec Ideal S4096x12304 .f32) (i : Cert.GateRefIdeal.S16384x16.Idx) (R : Fin 16384) (C : Fin 12304)
    (hR : (i 0).val = R.val) (hC : C.val = 10240 + (i 1).val) :
    Cert.GateRefIdeal.Read.val_main_v1 (F := Ideal) x w i = entry x w R C := by
  rw [Cert.GateRefIdeal.Read.val_main_v1_apply]
  refine (Cert.GateRefIdeal.Read.val_main_v0_apply _ _ _).trans (Finset.sum_congr rfl fun k _ => ?_)
  refine congrArg₂ (· * ·) (congrArg x ?_) (congrArg w ?_)
  all_goals
    refine funext fun a => Fin.ext ?_
    match a with
    | ⟨0, _⟩ => first | rfl | exact hR
    | ⟨1, _⟩ => first | rfl | exact hC.symm

/-- The columns of zeros the reference puts on the right. -/
theorem zeros_read (i : Cert.GateRefIdeal.S16384x112.Idx) : Cert.GateRefIdeal.Read.val_main_v2 (F := Ideal) i = (0 : EReal) := by
  rw [Cert.GateRefIdeal.Read.val_main_v2_apply, Cert.GateRefIdeal.Read.val_main_cst_apply]
  pointwise

/-- The output array is the reference's result of the same arguments. -/
theorem results_eq (c : Dev nD) (hx : ∀ i, ∃ r : ℝ, (rowsIn m c i : EReal) = r) (hw : ∀ i, ∃ r : ℝ, (weightsIn m c i : EReal) = r) :
    Cert.GateRefIdeal.Read.val_main_v3 (F := Ideal) (rowsIn m c) (weightsIn m c) = (dats m 0 c).arrAt 2 cfg0.N := by
  funext i
  obtain ⟨R, C, rfl⟩ := table_idx i
  refine Eq.trans ?_ (array_read m c hx hw R C).symm
  have e1 : ∀ (j : Fin 16) (C : Fin 12304), C.val = 10240 + j.val → Cert.GateRefIdeal.Read.val_main_v1 (F := Ideal) (rowsIn m c) (weightsIn m c) (ix2 R j)
      = entry (rowsIn m c) (weightsIn m c) R C := fun j C h => product_column _ _ _ R C rfl h
  have e2 := zeros_read
  unfold Cert.GateRefIdeal.Read.val_main_v3
  generalize Cert.GateRefIdeal.Read.val_main_v1 (F := Ideal) (rowsIn m c) (weightsIn m c) = y1 at e1 ⊢
  generalize Cert.GateRefIdeal.Read.val_main_v2 (F := Ideal) = y2 at e2 ⊢
  have hC := C.isLt
  by_cases h : C.val < 16
  · refine (join_read _ _ 0 (by simp) y1 rfl 0 rfl R ⟨C.val, h⟩ C (Nat.zero_add _)).trans ((e1 ⟨C.val, h⟩ ⟨10240 + C.val, by omega⟩ rfl).trans ?_)
    exact (entry_column _ _ _ R C _ fun k => weights_host m c k C h _ rfl).symm
  · refine (join_read _ _ 1 (by simp) y2 rfl 16 rfl R ⟨C.val - 16, by omega⟩ C (by show 16 + (C.val - 16) = C.val; omega)).trans ((e2 _).trans ?_)
    exact (entry_zero _ _ R C fun k => weights_rest m c k C (Nat.le_of_not_lt h)).symm

/-- Over the reals, the kernel computes what its reference computes. -/
theorem algebraic : Cert.algebraic_GateIdeal_GateRefIdeal_pre_finite_gate := by
  intro m ρ m' ρ' hpre hagree
  refine ⟨fun c => (dats m 0 c).arrAt 2 cfg0.N, Value.run_blocks (F := Ideal) m ρ, ?_⟩
  refine (θ_run _ _ _).mono (fun _ h c => ⟨(h c).1.trans ?_, (h c).2⟩) (Cert.GateRefIdeal.Value.run (F := Ideal) m' ρ')
  obtain ⟨e0, e1⟩ := hagree c
  rw [Cert.GateRefIdeal.Read.val_main_v3_eq, e0, e1]
  obtain ⟨hx, hw⟩ := gate_reals _ _ (fun a => a.elim0) (congrFun (hpre c) _)
  exact results_eq m c hx hw

/-- The reference runs to the end and leaves its arguments as they were; it declares no semaphore. -/
theorem frame_reference : Cert.quiescent_GateRefIdeal := fun m ρ _ =>
  (θ_run Cert.GateRefIdeal.defs _ _).mono (fun r h => ⟨fun c => (h c).2,
      Idealize.ShloMosaic.sem_eq_zero_of_no_sems (by decide) r.2⟩)
    (Cert.GateRefIdeal.Value.run (F := Ideal) m ρ)

end Cert.GateIdeal.DA
-- ==== Proof.Online.lean ====
/- The running softmax of one query row, as plain mathematics over the extended reals: a step takes in a block of 512
   scores and values, and the state after some blocks is the sums of weights and of weighted values so far, both
   scaled by the exponential of the running maximum. The end of the file compares the quotient it gives with the
   softmax taken at once. -/
module
public import Idealize.ShloMosaic.PureOps.Ideal
public import Idealize.ShloMosaic.PureOps.Ideal.Laws

@[expose] public section
noncomputable section
namespace Cert.DiffAttn
open Idealize.ShloMosaic

/-- A row's state: the running maximum, the sum of weights, the weighted sums of the values. -/
abbrev RowState := EReal × EReal × (Fin 256 → EReal)

/-- One block: 512 scores and their values join the state. -/
def rowStep (s : Fin 512 → EReal) (v : Fin 512 → Fin 256 → EReal) (S : RowState) : RowState :=
  (max S.1 (Finset.univ.fold max ⊥ s),
    Ideal.exp (S.1 - max S.1 (Finset.univ.fold max ⊥ s)) * S.2.1
      + ∑ c, Ideal.exp (s c - max S.1 (Finset.univ.fold max ⊥ s)),
    fun d => Ideal.exp (S.1 - max S.1 (Finset.univ.fold max ⊥ s)) * S.2.2 d
      + ∑ c, Ideal.exp (s c - max S.1 (Finset.univ.fold max ⊥ s)) * v c d)

/-- The state before the first block. -/
def rowInit : RowState := (⊥, 0, fun _ => 0)

/-- The exponential of a score as a real number; a masked score's is zero. -/
def ew (x : EReal) : ℝ := (Ideal.exp x).toReal

theorem ew_bot : ew ⊥ = 0 := rfl
theorem ew_coe (r : ℝ) : ew (r : EReal) = Real.exp r := rfl
theorem ew_nonneg (x : EReal) : x ≠ ⊤ → 0 ≤ ew x := by
  induction x with
  | bot => exact fun _ => le_refl _
  | top => exact fun h => absurd rfl h
  | coe r => exact fun _ => (Real.exp_pos r).le

theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The exponential of a score less a real number. -/
theorem exp_sub_coe (x : EReal) (hx : x ≠ ⊤) (μ : ℝ) : Ideal.exp (x - (μ : EReal)) = ((ew x * Real.exp (-μ) : ℝ) : EReal) := by
  induction x with
  | bot => rw [EReal.bot_sub, ew_bot, zero_mul]; rfl
  | top => exact absurd rfl hx
  | coe r =>
    rw [← EReal.coe_sub, ew_coe, ← Real.exp_add, ← sub_eq_add_neg]
    rfl

/-- The greatest of finitely many scores, one of them real and none infinite above, is a real number. -/
theorem fold_max_real {n : ℕ} (s : Fin n → EReal) (hs : ∀ c, s c ≠ ⊤) (h0 : ∃ c, s c ≠ ⊥) :
    ∃ μ : ℝ, Finset.univ.fold max ⊥ s = (μ : EReal) := by
  have ht : Finset.univ.fold max ⊥ s < ⊤ :=
    (Finset.fold_max_lt _).mpr ⟨bot_lt_top, fun c _ => lt_top_iff_ne_top.mpr (hs c)⟩
  have hb : ⊥ < Finset.univ.fold max ⊥ s := by
    obtain ⟨c, hc⟩ := h0
    exact (Finset.lt_fold_max _).mpr (Or.inr ⟨c, Finset.mem_univ _, bot_lt_iff_ne_bot.mpr hc⟩)
  exact ⟨_, (EReal.coe_toReal ht.ne hb.ne').symm⟩

/-- The state holds the sum of weights `W` and the weighted sums `A`: both scaled by the running maximum, or nothing yet. -/
def Holds (W : ℝ) (A : Fin 256 → ℝ) (S : RowState) : Prop :=
  (S = rowInit ∧ W = 0 ∧ A = fun _ => 0) ∨
    ∃ μ : ℝ, S = ((μ : EReal), ((W * Real.exp (-μ) : ℝ) : EReal), fun d => ((A d * Real.exp (-μ) : ℝ) : EReal))

theorem holds_init : Holds 0 (fun _ => 0) rowInit := Or.inl ⟨rfl, rfl, rfl⟩

/-- A block with a real score in it adds its weights and weighted values, and the running maximum is real afterwards. -/
theorem holds_step {W : ℝ} {A : Fin 256 → ℝ} {S : RowState} (h : Holds W A S) (s : Fin 512 → EReal)
    (v : Fin 512 → Fin 256 → EReal) (vr : Fin 512 → Fin 256 → ℝ) (hs : ∀ c, s c ≠ ⊤) (h0 : ∃ c, s c ≠ ⊥)
    (hv : ∀ c d, v c d = (vr c d : EReal)) :
    ∃ μ : ℝ, rowStep s v S = ((μ : EReal), (((W + ∑ c, ew (s c)) * Real.exp (-μ) : ℝ) : EReal),
      fun d => (((A d + ∑ c, ew (s c) * vr c d) * Real.exp (-μ) : ℝ) : EReal)) := by
  obtain ⟨ν, hν⟩ := fold_max_real s hs h0
  have key : ∀ (μ' : ℝ) (a : ℝ), max S.1 (ν : EReal) = (μ' : EReal) → Ideal.exp (S.1 - (μ' : EReal)) = (a : EReal) →
      (∃ (L : ℝ) (B : Fin 256 → ℝ), S.2.1 = ((L : ℝ) : EReal) ∧ (∀ d, S.2.2 d = ((B d : ℝ) : EReal)) ∧ a * L = W * Real.exp (-μ')
        ∧ ∀ d, a * B d = A d * Real.exp (-μ')) →
      rowStep s v S = ((μ' : EReal), (((W + ∑ c, ew (s c)) * Real.exp (-μ') : ℝ) : EReal),
      fun d => (((A d + ∑ c, ew (s c) * vr c d) * Real.exp (-μ') : ℝ) : EReal)) := by
    intro μ' a hm ha ⟨L, B, hL, hB, hWL, hAB⟩
    unfold rowStep
    rw [hν, hm, ha]
    refine Prod.ext rfl (Prod.ext ?_ (funext fun d => ?_))
    · show (a : EReal) * S.2.1 + _ = _
      rw [hL, Finset.sum_congr rfl fun c _ => exp_sub_coe (s c) (hs c) μ', ← coe_sum, ← EReal.coe_mul, ← EReal.coe_add,
        ← Finset.sum_mul, hWL, add_mul]
    · show (a : EReal) * S.2.2 d + _ = _
      rw [hB d, Finset.sum_congr rfl fun c _ => by rw [exp_sub_coe (s c) (hs c) μ', hv c d, ← EReal.coe_mul], ← coe_sum,
        ← EReal.coe_mul, ← EReal.coe_add, hAB]
      refine congrArg Real.toEReal ?_
      rw [add_mul, Finset.sum_mul]
      refine congrArg (A d * Real.exp (-μ') + ·) (Finset.sum_congr rfl fun c _ => ?_)
      ring
  rcases h with ⟨hS, hW, hA⟩ | ⟨μ, hS⟩
  · subst hS
    refine ⟨ν, key ν 0 (max_eq_right bot_le) ?_ ⟨0, fun _ => 0, rfl, fun _ => rfl, ?_, fun d => ?_⟩⟩
    · show Ideal.exp (⊥ - (ν : EReal)) = _
      rw [EReal.bot_sub]; rfl
    · rw [hW]; ring
    · rw [hA]; ring
  · subst hS
    refine ⟨max μ ν, key (max μ ν) (Real.exp (μ - max μ ν)) ?_ ?_ ⟨_, _, rfl, fun _ => rfl, ?_, fun d => ?_⟩⟩
    · exact ((EReal.coe_strictMono.monotone).map_max (a := μ) (b := ν)).symm
    · show Ideal.exp ((μ : EReal) - _) = _
      rw [← EReal.coe_sub]; rfl
    · rw [mul_left_comm, ← Real.exp_add]; congr 2; ring
    · rw [mul_left_comm, ← Real.exp_add]; congr 2; ring

/-- The state after the first `n` blocks of scores `s` and values `v`. -/
def rowAfter (s : ℕ → Fin 512 → EReal) (v : ℕ → Fin 512 → Fin 256 → EReal) : ℕ → RowState
  | 0 => rowInit
  | n + 1 => rowStep (s n) (v n) (rowAfter s v n)

/-- After `n + 1` blocks the state is the sums over them, scaled by a real maximum. -/
theorem rowAfter_succ (s : ℕ → Fin 512 → EReal) (v : ℕ → Fin 512 → Fin 256 → EReal) (vr : ℕ → Fin 512 → Fin 256 → ℝ)
    (hv : ∀ n c d, v n c d = (vr n c d : EReal)) (n : ℕ) (hs : ∀ k ≤ n, ∀ c, s k c ≠ ⊤) (h0 : ∀ k ≤ n, ∃ c, s k c ≠ ⊥) :
    ∃ μ : ℝ, rowAfter s v (n + 1) = ((μ : EReal), (((∑ k ∈ Finset.range (n + 1), ∑ c, ew (s k c)) * Real.exp (-μ) : ℝ) : EReal),
      fun d => (((∑ k ∈ Finset.range (n + 1), ∑ c, ew (s k c) * vr k c d) * Real.exp (-μ) : ℝ) : EReal)) := by
  induction n with
  | zero =>
    obtain ⟨μ, h⟩ := holds_step holds_init (s 0) (v 0) (vr 0) (hs 0 le_rfl) (h0 0 le_rfl) (hv 0)
    refine ⟨μ, h.trans ?_⟩
    simp only [Finset.sum_range_one, zero_add]
  | succ n ih =>
    obtain ⟨μ, h⟩ := ih (fun k hk => hs k (by omega)) (fun k hk => h0 k (by omega))
    obtain ⟨μ', h'⟩ := holds_step (Or.inr ⟨μ, h⟩) (s (n + 1)) (v (n + 1)) (vr (n + 1)) (hs _ le_rfl) (h0 _ le_rfl) (hv _)
    refine ⟨μ', ?_⟩
    rw [rowAfter, h']
    simp only [Finset.sum_range_succ _ (n + 1)]

/-- Multiplying by a positive real number's reciprocal. -/
theorem mul_div_one (a L : ℝ) (hL : 0 < L) : (a : EReal) * Ideal.div 1 (L : EReal) = ((a / L : ℝ) : EReal) := by
  unfold Ideal.div
  rw [if_neg (by exact_mod_cast hL.ne'), one_mul, ← EReal.coe_inv, ← EReal.coe_mul, div_eq_mul_inv]

theorem div_coe (a L : ℝ) (hL : 0 < L) : Ideal.div (a : EReal) (L : EReal) = ((a / L : ℝ) : EReal) := by
  unfold Ideal.div
  rw [if_neg (by exact_mod_cast hL.ne'), ← EReal.coe_inv, ← EReal.coe_mul, div_eq_mul_inv]

/-- What the kernel makes of the two states of a head: the first quotient less `lam` times the second. -/
def rowOut (lam : EReal) (S0 S1 : RowState) (d : Fin 256) : EReal :=
  S0.2.2 d * Ideal.div 1 S0.2.1 - lam * (S1.2.2 d * Ideal.div 1 S1.2.1)

/-- The softmax of a row of scores, the maximum taken first. -/
def softmaxAt {n : ℕ} (s : Fin n → EReal) (κ : Fin n) : EReal :=
  Ideal.div (Ideal.exp (s κ - Finset.univ.fold max ⊥ s)) (∑ j, Ideal.exp (s j - Finset.univ.fold max ⊥ s))

theorem softmaxAt_eq {n : ℕ} (s : Fin n → EReal) (hs : ∀ c, s c ≠ ⊤) (h0 : ∃ c, s c ≠ ⊥) (κ : Fin n) :
    softmaxAt s κ = ((ew (s κ) / ∑ j, ew (s j) : ℝ) : EReal) := by
  obtain ⟨μ, hμ⟩ := fold_max_real s hs h0
  have hpos : 0 < ∑ j, ew (s j) := by
    obtain ⟨c, hc⟩ := h0
    refine Finset.sum_pos' (fun j _ => ew_nonneg _ (hs j)) ⟨c, Finset.mem_univ _, ?_⟩
    have : s c = ((s c).toReal : EReal) := (EReal.coe_toReal (hs c) hc).symm
    rw [this, ew_coe]; exact Real.exp_pos _
  unfold softmaxAt
  rw [hμ, exp_sub_coe _ (hs κ), Finset.sum_congr rfl fun c _ => exp_sub_coe (s c) (hs c) μ, ← coe_sum, ← Finset.sum_mul,
    div_coe _ _ (mul_pos hpos (Real.exp_pos _)), mul_div_mul_right _ _ (Real.exp_pos _).ne']

/-- A sum over 8192 keys as a sum over 16 blocks of 512. -/
theorem sum_blocks (f : Fin 8192 → ℝ) :
    ∑ κ, f κ = ∑ k ∈ Finset.range 16, ∑ c : Fin 512, f ⟨(512 * k + c.val) % 8192, Nat.mod_lt _ (by norm_num)⟩ := by
  rw [Finset.sum_range fun k => ∑ c : Fin 512, f ⟨(512 * k + c.val) % 8192, Nat.mod_lt _ (by norm_num)⟩]
  rw [← Fintype.sum_prod_type']
  refine (Fintype.sum_equiv (finProdFinEquiv (m := 16) (n := 512)) _ f fun x => ?_).symm
  congr 1
  apply Fin.ext
  have h1 := x.1.isLt
  have h2 := x.2.isLt
  show (512 * x.1.val + x.2.val) % 8192 = x.2.val + 512 * x.1.val
  omega

/-- Key `c` of block `k`. -/
def keyOf (k : ℕ) (c : Fin 512) : Fin 8192 := ⟨(512 * k + c.val) % 8192, Nat.mod_lt _ (by norm_num)⟩

/-- The running softmax over blocks `0 … i` is the softmax over all keys, where every score past block `i` is masked. -/
theorem online_eq (s0 s1 : Fin 8192 → EReal) (v : Fin 8192 → Fin 256 → EReal) (vr : Fin 8192 → Fin 256 → ℝ) (lam : EReal)
    (lr : ℝ) (hlam : lam = (lr : EReal)) (hv : ∀ κ d, v κ d = (vr κ d : EReal)) (i : ℕ) (hi : i < 16)
    (t0 : ∀ κ, s0 κ ≠ ⊤) (t1 : ∀ κ, s1 κ ≠ ⊤)
    (b0 : ∀ k ≤ i, ∃ c, s0 (keyOf k c) ≠ ⊥) (b1 : ∀ k ≤ i, ∃ c, s1 (keyOf k c) ≠ ⊥)
    (m0 : ∀ k, i < k → k < 16 → ∀ c, s0 (keyOf k c) = ⊥) (m1 : ∀ k, i < k → k < 16 → ∀ c, s1 (keyOf k c) = ⊥) (d : Fin 256) :
    rowOut lam (rowAfter (fun k c => s0 (keyOf k c)) (fun k c => v (keyOf k c)) (i + 1))
        (rowAfter (fun k c => s1 (keyOf k c)) (fun k c => v (keyOf k c)) (i + 1)) d
      = ∑ κ, (softmaxAt s0 κ - lam * softmaxAt s1 κ) * v κ d := by
  have tot : ∀ (s : Fin 8192 → EReal), (∀ k, i < k → k < 16 → ∀ c, s (keyOf k c) = ⊥) → ∀ g : Fin 8192 → ℝ,
      ∑ k ∈ Finset.range (i + 1), ∑ c, ew (s (keyOf k c)) * g (keyOf k c) = ∑ κ, ew (s κ) * g κ := by
    intro s hm g
    rw [sum_blocks]
    refine Finset.sum_subset (Finset.range_subset_range.mpr (by omega)) fun k hk hk' => ?_
    rw [Finset.mem_range] at hk hk'
    exact Finset.sum_eq_zero fun c _ => by
      show ew (s (keyOf k c)) * _ = 0
      rw [hm k (by omega) hk c, ew_bot, zero_mul]
  have tot1 : ∀ (s : Fin 8192 → EReal), (∀ k, i < k → k < 16 → ∀ c, s (keyOf k c) = ⊥) →
      ∑ k ∈ Finset.range (i + 1), ∑ c, ew (s (keyOf k c)) = ∑ κ, ew (s κ) := by
    intro s hm
    have := tot s hm fun _ => 1
    simpa using this
  have pos : ∀ (s : Fin 8192 → EReal), (∀ κ, s κ ≠ ⊤) → (∃ κ, s κ ≠ ⊥) → 0 < ∑ j, ew (s j) := by
    intro s hs ⟨c, hc⟩
    refine Finset.sum_pos' (fun j _ => ew_nonneg _ (hs j)) ⟨c, Finset.mem_univ _, ?_⟩
    have : s c = ((s c).toReal : EReal) := (EReal.coe_toReal (hs c) hc).symm
    rw [this, ew_coe]; exact Real.exp_pos _
  have e0 : ∃ κ, s0 κ ≠ ⊥ := (b0 0 (Nat.zero_le _)).imp' (keyOf 0) fun _ h => h
  have e1 : ∃ κ, s1 κ ≠ ⊥ := (b1 0 (Nat.zero_le _)).imp' (keyOf 0) fun _ h => h
  obtain ⟨μ0, h0⟩ := rowAfter_succ (fun k c => s0 (keyOf k c)) (fun k c => v (keyOf k c)) (fun k c => vr (keyOf k c))
    (fun k c d => hv _ d) i (fun k _ c => t0 _) b0
  obtain ⟨μ1, h1⟩ := rowAfter_succ (fun k c => s1 (keyOf k c)) (fun k c => v (keyOf k c)) (fun k c => vr (keyOf k c))
    (fun k c d => hv _ d) i (fun k _ c => t1 _) b1
  have p0 := pos s0 t0 e0
  have p1 := pos s1 t1 e1
  unfold rowOut
  rw [h0, h1]
  dsimp only
  rw [tot1 s0 m0, tot1 s1 m1, tot s0 m0 fun κ => vr κ d, tot s1 m1 fun κ => vr κ d,
    mul_div_one _ _ (mul_pos p0 (Real.exp_pos _)), mul_div_one _ _ (mul_pos p1 (Real.exp_pos _)),
    mul_div_mul_right _ _ (Real.exp_pos _).ne', mul_div_mul_right _ _ (Real.exp_pos _).ne', hlam, ← EReal.coe_mul, ← EReal.coe_sub,

    Finset.sum_congr (g := fun κ => (((ew (s0 κ) / ∑ j, ew (s0 j) - lr * (ew (s1 κ) / ∑ j, ew (s1 j))) * vr κ d : ℝ) : EReal))
      rfl fun κ _ => by
      rw [softmaxAt_eq s0 t0 e0, softmaxAt_eq s1 t1 e1, hv κ d, ← EReal.coe_mul, ← EReal.coe_sub, ← EReal.coe_mul], ← coe_sum]
  refine congrArg Real.toEReal ?_
  rw [Finset.sum_congr rfl fun κ _ => sub_mul _ _ _, Finset.sum_sub_distrib, Finset.sum_div, Finset.sum_div, Finset.mul_sum]
  refine congrArg₂ (· - ·) (Finset.sum_congr rfl fun κ _ => ?_) (Finset.sum_congr rfl fun κ _ => ?_)
  · exact (div_mul_eq_mul_div _ _ _).symm
  · rw [mul_assoc, div_mul_eq_mul_div]

end Cert.DiffAttn
end
-- ==== Proof.Norm.lean ====
module

public import proofs.«01_k».proof.Proof.Exact
public import proofs.«01_k».proof.Proof.Online

@[expose] public section

/-!
# The normalised row

One row of the layer norm: the mean of the row is taken away, the difference is scaled by the inverse root of its mean
square (plus a small number), then the scale and the shift of each column are applied. With a real scale and shift the
normalised row is real whatever the row, because the number under the root is positive or infinite.
-/

namespace Cert.Norm

open Idealize.ShloMosaic

/-- The number of columns, as the programs write it. -/
noncomputable abbrev width : EReal := Ideal.ofBits .f32 0x45800000#32

/-- The small number under the root. -/
noncomputable abbrev eps : EReal := Ideal.ofBits .f32 0x3727C5AC#32

/-- The weight of the residual. -/
noncomputable abbrev alpha : EReal := Ideal.ofBits .f32 0x3FB504F3#32

/-- The mean of a row. -/
noncomputable def mean (v : Fin 4096 → EReal) : EReal := Ideal.div (∑ k, v k) width

/-- The mean square of a row's distance from its mean. -/
noncomputable def spread (v : Fin 4096 → EReal) : EReal :=
  Ideal.div (∑ k, (v k - mean v) * (v k - mean v)) width

/-- One entry of the normalised row. -/
noncomputable def normed (v : Fin 4096 → EReal) (g b : EReal) (k : Fin 4096) : EReal :=
  (v k - mean v) * Ideal.rsqrt (spread v + eps) * g + b

theorem width_real : width = ((4096 : ℝ) : EReal) := by
  simp [width, Ideal.ofBits, Ideal.ieee, -EReal.coe_mul]
  norm_num

theorem eps_real : ∃ e : ℝ, 0 < e ∧ eps = (e : EReal) := by
  refine ⟨10995116 / 2 ^ 40, by norm_num, ?_⟩
  simp [eps, Ideal.ofBits, Ideal.ieee, -EReal.coe_mul]
  norm_num

/-- A square is not negative. -/
theorem square_nonneg (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- What has a finite square is real. -/
theorem real_of_square (x : EReal) (h : x * x ≠ ⊤) : ∃ r : ℝ, x = (r : EReal) := by
  induction x with
  | bot => exact absurd EReal.bot_mul_bot h
  | top => exact absurd EReal.top_mul_top h
  | coe r => exact ⟨r, rfl⟩

/-- The normalised row is real, whatever the row, when the scale and the shift are: where the squares have no finite mean,
    the inverse root is zero. -/
theorem normed_real (v : Fin 4096 → EReal) (g b : EReal) (hg : ∃ r : ℝ, g = (r : EReal)) (hb : ∃ r : ℝ, b = (r : EReal)) (k : Fin 4096) :
    ∃ r : ℝ, normed v g b k = (r : EReal) := by
  obtain ⟨g', rfl⟩ := hg
  obtain ⟨b', rfl⟩ := hb
  obtain ⟨e, he, hee⟩ := eps_real
  unfold normed spread
  rw [hee, width_real, Ideal.div_coe (by norm_num)]
  have hk : (v k - mean v) * (v k - mean v) ≤ ∑ k, (v k - mean v) * (v k - mean v) :=
    Finset.single_le_sum (f := fun k => (v k - mean v) * (v k - mean v)) (fun k _ => square_nonneg _) (Finset.mem_univ k)
  have h0 : 0 ≤ ∑ k, (v k - mean v) * (v k - mean v) := Finset.sum_nonneg fun k _ => square_nonneg _
  generalize ∑ k, (v k - mean v) * (v k - mean v) = S at hk h0 ⊢
  induction S with
  | bot => exact absurd h0 (by simp)
  | top =>
    rw [EReal.top_mul_coe_of_pos (by norm_num), EReal.top_add_coe, Ideal.rsqrt_top, mul_zero, zero_mul, zero_add]
    exact ⟨b', rfl⟩
  | coe s =>
    obtain ⟨d, hd⟩ := real_of_square _ (ne_of_lt (lt_of_le_of_lt hk (EReal.coe_lt_top s)))
    have hpos : 0 < s * (1 / 4096) + e := add_pos_of_nonneg_of_pos (mul_nonneg (EReal.coe_nonneg.1 h0) (by norm_num)) he
    rw [hd, ← EReal.coe_mul, ← EReal.coe_add, Ideal.rsqrt_coe, if_neg (not_lt.2 hpos.le), if_neg hpos.ne', ← EReal.coe_mul, ← EReal.coe_mul,
      ← EReal.coe_add]
    exact ⟨_, rfl⟩

end Cert.Norm

end
-- ==== Proof.Placed.lean ====
module

public import Idealize.ShloMosaic.Lib.Routing.OpsSet

@[expose] public section

/-!
# A block set into a wider array

Setting a block of columns (or of entries) at one place: there the block is read, elsewhere what was there before.
-/

namespace Cert.Placed

open Idealize.ShloMosaic Idealize.ShloMosaic.ValueIdx Idealize.ShloMosaic.Routing

/-- Where both lists of axes are all axes in order, an axis stands at its own place. -/
theorem own_axis (a : Fin 2) (l l' : List (Fin 2)) (h : l'.idxOf a < l.length) (hl : l = [0, 1]) (hl' : l' = [0, 1]) : l[l'.idxOf a] = a := by
  subst hl
  subst hl'
  match a with
  | ⟨0, _⟩ => rfl
  | ⟨1, _⟩ => rfl

section Columns
variable {R C U : ℕ} (d : ScatterDims (shape2 R C) (shape1 1) (shape2 R U)) (huw : d.updateWindowDims = [0, 1])
  (hiw : d.insertedWindowDims = []) (hsd : d.scatterDimsToOperandDims = [1]) (idx : IVec (shape1 1) 32) (k : ℕ)
  (hidx : (idx (ix1 0)).toInt = (k : Int))

include huw hiw hsd hidx in
/-- An update lands in its own row, as many columns on as the place says. -/
theorem lands (r' : Fin R) (j : Fin U) (r : Fin R) (c : Fin C) :
    d.resultIdx? (ix2 r' j) idx = some (ix2 r c) ↔ r'.val = r.val ∧ k + j.val = c.val := by
  have hk : d.sKept = [0, 1] := by
    show (shape2 R C).kept d.insertedWindowDims = _
    rw [hiw]
    rfl
  have hm : (1 : Fin 2) ∈ d.scatterDimsToOperandDims := by rw [hsd]; exact List.mem_singleton.2 rfl
  have hs0 : d.start (ix2 r' j) idx 0 = 0 := by
    unfold ScatterDims.start
    rw [dif_neg (by rw [hsd]; simp)]
  have hs1 : d.start (ix2 r' j) idx 1 = (k : Int) := by
    unfold ScatterDims.start
    rw [dif_pos hm]
    have hsi : d.siIdx (ix2 r' j) ⟨d.scatterDimsToOperandDims.idxOf 1, List.idxOf_lt_length_iff.2 hm⟩ = ix1 (0 : Fin 1) := by
      funext b'
      match b' with
      | ⟨0, _⟩ => exact Subsingleton.elim (α := Fin 1) _ _
    rw [hsi, hidx]
  have hw0 : d.window (ix2 r' j) 0 = r'.val := by
    unfold ScatterDims.window
    rw [dif_pos (by rw [hk]; simp)]
    have q : ∀ X : Fin 2, X = 0 → (ix2 r' j X).val = r'.val := by rintro _ rfl; rfl
    exact q _ (own_axis 0 _ _ _ huw hk)
  have hw1 : d.window (ix2 r' j) 1 = j.val := by
    unfold ScatterDims.window
    rw [dif_pos (by rw [hk]; simp)]
    have q : ∀ X : Fin 2, X = 1 → (ix2 r' j X).val = j.val := by rintro _ rfl; rfl
    exact q _ (own_axis 1 _ _ _ huw hk)
  rw [resultIdx?_ix2, hs0, hs1, hw0, hw1]
  omega

include huw hiw hsd hidx in
/-- A column of the block. -/
theorem placed {α : Type} (x0 : (shape2 R C).Idx → α) (upd : (shape2 R U).Idx → α) (r : Fin R) (c : Fin C) (j : Fin U)
    (hc : c.val = k + j.val) : Host.scatter d (fun _ b => b) x0 idx upd (ix2 r c) = upd (ix2 r j) := by
  refine scatter_set_hit d x0 idx upd _ _ (fun i hi => ?_) (ix2 r j) ((lands d huw hiw hsd idx k hidx r j r c).2 ⟨rfl, hc.symm⟩)
  rw [eq_ix2 i] at hi ⊢
  obtain ⟨h0, h1⟩ := (lands d huw hiw hsd idx k hidx (i 0) (i 1) r c).1 hi
  exact congrArg upd (congrArg₂ ix2 (Fin.ext h0) (Fin.ext (by omega)))

include huw hiw hsd hidx in
/-- A column beside the block. -/
theorem kept {α : Type} (x0 : (shape2 R C).Idx → α) (upd : (shape2 R U).Idx → α) (r : Fin R) (c : Fin C)
    (hc : c.val < k ∨ k + U ≤ c.val) : Host.scatter d (fun _ b => b) x0 idx upd (ix2 r c) = x0 (ix2 r c) := by
  refine scatter_set_miss d x0 idx upd _ fun i hi => ?_
  rw [eq_ix2 i] at hi
  obtain ⟨h0, h1⟩ := (lands d huw hiw hsd idx k hidx (i 0) (i 1) r c).1 hi
  have : (i 1).val < U := (i 1).isLt
  omega

end Columns

section Entries
variable {C U : ℕ} (d : ScatterDims (shape1 C) (shape1 1) (shape1 U)) (huw : d.updateWindowDims = [0])
  (hiw : d.insertedWindowDims = []) (hsd : d.scatterDimsToOperandDims = [0]) (idx : IVec (shape1 1) 32) (k : ℕ)
  (hidx : (idx (ix1 0)).toInt = (k : Int))

include hiw hsd hidx in
/-- An update lands as many entries on as the place says. -/
theorem lands_entry (j : Fin U) (c : Fin C) : d.resultIdx? (ix1 j) idx = some (ix1 c) ↔ k + j.val = c.val := by
  have hk : d.sKept = [0] := by
    show (shape1 C).kept d.insertedWindowDims = _
    rw [hiw]
    rfl
  have hm : (0 : Fin 1) ∈ d.scatterDimsToOperandDims := by rw [hsd]; exact List.mem_singleton.2 rfl
  have hs : d.start (ix1 j) idx 0 = (k : Int) := by
    unfold ScatterDims.start
    rw [dif_pos hm]
    have hsi : d.siIdx (ix1 j) ⟨d.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  have hw : d.window (ix1 j) 0 = j.val := by
    unfold ScatterDims.window
    rw [dif_pos (by rw [hk]; simp)]
    exact congrArg (fun t => ((ix1 j : (shape1 U).Idx) t).val) (Subsingleton.elim (α := Fin 1) _ 0)
  rw [resultIdx?_ix1, hs, hw]
  omega

include hiw hsd hidx in
/-- An entry of the block. -/
theorem placed_entry {α : Type} (x0 : (shape1 C).Idx → α) (upd : (shape1 U).Idx → α) (c : Fin C) (j : Fin U)
    (hc : c.val = k + j.val) : Host.scatter d (fun _ b => b) x0 idx upd (ix1 c) = upd (ix1 j) := by
  refine scatter_set_hit d x0 idx upd _ _ (fun i hi => ?_) (ix1 j) ((lands_entry d hiw hsd idx k hidx j c).2 hc.symm)
  rw [eq_ix1 i] at hi ⊢
  have h := (lands_entry d hiw hsd idx k hidx (i 0) c).1 hi
  exact congrArg upd (congrArg ix1 (Fin.ext (by omega)))

include hiw hsd hidx in
/-- An entry beside the block. -/
theorem kept_entry {α : Type} (x0 : (shape1 C).Idx → α) (upd : (shape1 U).Idx → α) (c : Fin C)
    (hc : c.val < k ∨ k + U ≤ c.val) : Host.scatter d (fun _ b => b) x0 idx upd (ix1 c) = x0 (ix1 c) := by
  refine scatter_set_miss d x0 idx upd _ fun i hi => ?_
  rw [eq_ix1 i] at hi
  have h := (lands_entry d hiw hsd idx k hidx (i 0) c).1 hi
  have : (i 0).val < U := (i 0).isLt
  omega

end Entries

end Cert.Placed

end
-- ==== Proof.RouterCall.lean ====
module
public import proofs.«01_k».proof.Proof.Gen.RouterIdeal.Value
public import proofs.«01_k».proof.Proof.Gen.RouterRefIdeal.Read
public import proofs.«01_k».proof.Pre_finite_router
public import proofs.«01_k».proof.Proof.Gen.Pre_finite_router
public import proofs.«01_k».proof.Defs
public import Idealize.ShloMosaic.Lib.VecWindow
public import Idealize.ShloMosaic.Lib.Pipeline.ValueKit.Basic
public import proofs.«01_k».proof.Proof.Joined
public import proofs.«01_k».proof.Proof.Norm
public import proofs.«01_k».proof.Proof.Placed
@[expose] public section
set_option maxRecDepth 16384
noncomputable section
namespace Cert.RouterIdeal.DA
open Cert.Columns Cert.Exact Cert.Norm Cert.Placed Cert.RouterIdeal Cert.RouterIdeal.Gen
open Idealize.ShloMosaic Idealize.ShloMosaic.TcCoe Idealize.SL.Sem Idealize.ShloMosaic.Tactic

theorem zero_word : Ideal.ofBits .f32 0x00000000#32 = 0 := by simp [Ideal.ofBits, Ideal.ieee]

/-- The mixed row `r` of a table and its residual. -/
def mixedRow {a : ℕ} (x y : Table a 4096) (r : Fin a) (k : Fin 4096) : EReal := alpha * x (ix2 r k) + y (ix2 r k)

/-- The normalised rows that a point stores. -/
theorem norm_read (x : Vec Ideal S256x4096 .f32) (y : Vec Ideal S256x4096 .bf16) (g b : Vec Ideal S1x4096 .f32) (r : Fin 256) (k : Fin 4096) :
    k0_pay2 (F := Ideal) x y g b (ix2 r k) = normed (mixedRow (a := 256) x y r) (g (ix2 0 k)) (b (ix2 0 k)) k := by
  unfold k0_pay2
  pointwise
  rfl

/-- The product that a point stores, in its three parts, with the bias added. -/
theorem product_read (n : FVec Ideal S256x4096 .f32) (w : Vec Ideal S4096x128 .f32) (d : Vec Ideal S1x128 .f32) (i : S256x128.Idx)
    (n' n'' : FVec Ideal S256x4096 .bf16) (h' : n' = truncf .bf16 n bitsLt_bf16_f32) (h'' : n'' = truncf .bf16 (subf n (extf .f32 n' bitsLt_bf16_f32)) bitsLt_bf16_f32) :
    k0_pay1 (F := Ideal) n' n'' (k0_pay6 w) (k0_pay7 w) d i
    = (∑ k : Fin 4096, (n (ix2 (i 0) k) : EReal) * w (ix2 k (i 1))) + (∑ k : Fin 4096, (n (ix2 (i 0) k) : EReal) * (w (ix2 k (i 1)) - w (ix2 k (i 1))))
      + (∑ k : Fin 4096, ((n (ix2 (i 0) k) : EReal) - n (ix2 (i 0) k)) * w (ix2 k (i 1))) + d (ix2 0 (i 1)) := by
  subst h''
  subst h'
  unfold k0_pay1 k0_pay7 k0_pay6 k0_pay3
  pointwise

/-- What the body writes at a point, first result. -/
theorem out6_read (x : Vec Ideal S256x4096 .f32) (y : Vec Ideal S256x4096 .bf16) (g b : Vec Ideal S1x4096 .f32) (w : Vec Ideal S4096x128 .f32) (d : Vec Ideal S1x128 .f32) :
    out0_6 (F := Ideal) x y g b w d = k0_pay2 x y g b := by
  unfold out0_6
  refine (View.canon_cons_unit_lit inb_S256x4096_S256x4096_0_0 _ [] (by decide)).trans ?_
  rw [View.ld_unit_lit inb_S256x4096_S256x4096_0_0 x (by decide), View.ld_unit_lit inb_S256x4096_S256x4096_0_0 y (by decide),
    View.ld_unit_lit inb_S1x4096_S1x4096_0_0 g (by decide), View.ld_unit_lit inb_S1x4096_S1x4096_0_0 b (by decide)]

/-- What the body writes at a point, second result. -/
theorem out7_read (x : Vec Ideal S256x4096 .f32) (y : Vec Ideal S256x4096 .bf16) (g b : Vec Ideal S1x4096 .f32) (w : Vec Ideal S4096x128 .f32) (d : Vec Ideal S1x128 .f32) :
    out0_7 (F := Ideal) x y g b w d = k0_pay1 (k0_pay4 x y g b) (k0_pay5 x y g b) (k0_pay6 w) (k0_pay7 w) d := by
  unfold out0_7
  refine (View.canon_cons_unit_lit inb_S256x128_S256x128_0_0 _ [] (by decide)).trans ?_
  rw [View.ld_unit_lit inb_S256x4096_S256x4096_0_0 x (by decide), View.ld_unit_lit inb_S256x4096_S256x4096_0_0 y (by decide),
    View.ld_unit_lit inb_S1x4096_S1x4096_0_0 g (by decide), View.ld_unit_lit inb_S1x4096_S1x4096_0_0 b (by decide),
    View.ld_unit_lit inb_S4096x128_S4096x128_0_0 w (by decide), View.ld_unit_lit inb_S1x128_S1x128_0_0 d (by decide)]

variable (m : (ℓ : Loc nD τ sig) → Buf (Elt Ideal) ℓ)

/-- The rows, the residual, the norm's scale and shift, the two routers' weights and biases that come in. -/
abbrev rowsIn (c : Dev nD) : Vec Ideal S16384x4096 .f32 := m ((c : Thread nD τ).loc main_arg0)
abbrev mixIn (c : Dev nD) : Vec Ideal S16384x4096 .bf16 := m ((c : Thread nD τ).loc main_arg1)
abbrev scaleIn (c : Dev nD) : Vec Ideal S4096 .f32 := m ((c : Thread nD τ).loc main_arg2)
abbrev shiftIn (c : Dev nD) : Vec Ideal S4096 .f32 := m ((c : Thread nD τ).loc main_arg3)
abbrev groupIn (c : Dev nD) : Vec Ideal S4096x4 .f32 := m ((c : Thread nD τ).loc main_arg4)
abbrev groupBias (c : Dev nD) : Vec Ideal S4 .f32 := m ((c : Thread nD τ).loc main_arg5)
abbrev expertIn (c : Dev nD) : Vec Ideal S4096x32 .f32 := m ((c : Thread nD τ).loc main_arg6)
abbrev expertBias (c : Dev nD) : Vec Ideal S32 .f32 := m ((c : Thread nD τ).loc main_arg7)

theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

/-- What a point is given. -/
def rowsAt (c : Dev nD) (t : Fin cfg0.N) : Vec Ideal S256x4096 .f32 := iblk m c 0 t
def mixAt (c : Dev nD) (t : Fin cfg0.N) : Vec Ideal S256x4096 .bf16 := iblk m c 1 t
def scaleAt (c : Dev nD) (t : Fin cfg0.N) : Vec Ideal S1x4096 .f32 := iblk m c 2 t
def shiftAt (c : Dev nD) (t : Fin cfg0.N) : Vec Ideal S1x4096 .f32 := iblk m c 3 t
def weightsAt (c : Dev nD) (t : Fin cfg0.N) : Vec Ideal S4096x128 .f32 := iblk m c 4 t
def biasAt (c : Dev nD) (t : Fin cfg0.N) : Vec Ideal S1x128 .f32 := iblk m c 5 t

theorem rows_read (c : Dev nD) (t : Fin cfg0.N) (r : Fin 256) (k : Fin 4096) (R : Fin 16384) (hR : R.val = 256 * t.val + r.val) :
    rowsAt m c t (ix2 r k) = rowsIn m c (ix2 R k) := by
  obtain ⟨h0, h1⟩ := index0 t
  unfold rowsAt iblk
  rw [View.read_apply]
  show V m c main_arg0 _ = _
  rw [V_main_arg0]
  refine congrArg (rowsIn m c) (funext fun a => Fin.ext ?_)
  match a with
  | ⟨0, _⟩ => show win0_0.index t 0 * 256 + 1 * r.val = R.val; rw [h0]; omega
  | ⟨1, _⟩ => show win0_0.index t 1 * 4096 + 1 * k.val = k.val; rw [h1]; omega

theorem mix_read (c : Dev nD) (t : Fin cfg0.N) (r : Fin 256) (k : Fin 4096) (R : Fin 16384) (hR : R.val = 256 * t.val + r.val) :
    mixAt m c t (ix2 r k) = mixIn m c (ix2 R k) := by
  obtain ⟨h0, h1⟩ := index1 t
  unfold mixAt iblk
  rw [View.read_apply]
  show V m c main_arg1 _ = _
  rw [V_main_arg1]
  refine congrArg (mixIn m c) (funext fun a => Fin.ext ?_)
  match a with
  | ⟨0, _⟩ => show win0_1.index t 0 * 256 + 1 * r.val = R.val; rw [h0]; omega
  | ⟨1, _⟩ => show win0_1.index t 1 * 4096 + 1 * k.val = k.val; rw [h1]; omega

/-- The scale as the call is given it. -/
theorem scale_host (c : Dev nD) (k : Fin 4096) : (V m c main_v10 : Vec Ideal S1x4096 .f32) (ix2 0 k) = scaleIn m c (ix1 k) := by
  have h : (V m c main_v10 : Vec Ideal S1x4096 .f32) = shapeCast S1x4096 (scaleIn m c) shapeCasts_S4096_S1x4096 := by
    dsimp only [V, hostOps0]
    after_results
    rfl
  rw [h]
  generalize scaleIn m c = y
  pointwise

/-- The shift as the call is given it. -/
theorem shift_host (c : Dev nD) (k : Fin 4096) : (V m c main_v11 : Vec Ideal S1x4096 .f32) (ix2 0 k) = shiftIn m c (ix1 k) := by
  have h : (V m c main_v11 : Vec Ideal S1x4096 .f32) = shapeCast S1x4096 (shiftIn m c) shapeCasts_S4096_S1x4096 := by
    dsimp only [V, hostOps0]
    after_results
    rfl
  rw [h]
  generalize shiftIn m c = y
  pointwise

theorem scale_read (c : Dev nD) (t : Fin cfg0.N) (k : Fin 4096) : scaleAt m c t (ix2 0 k) = scaleIn m c (ix1 k) := by
  obtain ⟨h0, h1⟩ := index2 t
  rw [← scale_host]
  unfold scaleAt iblk
  rw [View.read_apply]
  show V m c main_v10 _ = V m c main_v10 _
  refine congrArg _ (funext fun a => Fin.ext ?_)
  match a with
  | ⟨0, _⟩ => show win0_2.index t 0 * 1 + 1 * 0 = 0; rw [h0]
  | ⟨1, _⟩ => show win0_2.index t 1 * 4096 + 1 * k.val = k.val; rw [h1]; omega

theorem shift_read (c : Dev nD) (t : Fin cfg0.N) (k : Fin 4096) : shiftAt m c t (ix2 0 k) = shiftIn m c (ix1 k) := by
  obtain ⟨h0, h1⟩ := index3 t
  rw [← shift_host]
  unfold shiftAt iblk
  rw [View.read_apply]
  show V m c main_v11 _ = V m c main_v11 _
  refine congrArg _ (funext fun a => Fin.ext ?_)
  match a with
  | ⟨0, _⟩ => show win0_3.index t 0 * 1 + 1 * 0 = 0; rw [h0]
  | ⟨1, _⟩ => show win0_3.index t 1 * 4096 + 1 * k.val = k.val; rw [h1]; omega

/-- The joined weights the call is given: four columns, then thirty-two, the rest zeros. -/
def weightsHost (c : Dev nD) : Vec Ideal S4096x128 .f32 := V m c main_v4
/-- The joined biases the call is given. -/
def biasHost (c : Dev nD) : Vec Ideal S1x128 .f32 := V m c main_v12

theorem weights_read (c : Dev nD) (t : Fin cfg0.N) (k : Fin 4096) (j : Fin 128) : weightsAt m c t (ix2 k j) = weightsHost m c (ix2 k j) := by
  obtain ⟨h0, h1⟩ := index4 t
  unfold weightsAt iblk
  rw [View.read_apply]
  show V m c main_v4 _ = V m c main_v4 _
  refine congrArg _ (funext fun a => Fin.ext ?_)
  match a with
  | ⟨0, _⟩ => show win0_4.index t 0 * 4096 + 1 * k.val = k.val; rw [h0]; omega
  | ⟨1, _⟩ => show win0_4.index t 1 * 128 + 1 * j.val = j.val; rw [h1]; omega

theorem bias_read (c : Dev nD) (t : Fin cfg0.N) (j : Fin 128) : biasAt m c t (ix2 0 j) = biasHost m c (ix2 0 j) := by
  obtain ⟨h0, h1⟩ := index5 t
  unfold biasAt iblk
  rw [View.read_apply]
  show V m c main_v12 _ = V m c main_v12 _
  refine congrArg _ (funext fun a => Fin.ext ?_)
  match a with
  | ⟨0, _⟩ => show win0_5.index t 0 * 1 + 1 * 0 = 0; rw [h0]
  | ⟨1, _⟩ => show win0_5.index t 1 * 128 + 1 * j.val = j.val; rw [h1]; omega

/-- A place, as the one word the setting reads. -/
abbrev place (n : BitVec 32) : IVec S1 32 := broadcastInDim S1 ![] bcast_S_S1 (constantI S_ 32 n)
theorem place_word (n : BitVec 32) (i : S1.Idx) : place n i = n := rfl

/-- The zeros the two blocks of weights are set into. -/
abbrev zeroTable : Vec Ideal S4096x128 .f32 := broadcastInDim S4096x128 ![] bcast_S_S4096x128 (constant (F := Ideal) S_ .f32 0x00000000#32)
abbrev zeroEntries : Vec Ideal S128 .f32 := broadcastInDim S128 ![] bcast_S_S128 (constant (F := Ideal) S_ .f32 0x00000000#32)

/-- The joined weights, as the call's preparation builds them. -/
theorem weights_built (c : Dev nD) : weightsHost m c = Host.scatter scatter_S4096x128_S1_S4096x32_01_n_1_0 (fun _ b => b)
    (Host.scatter scatter_S4096x128_S1_S4096x4_01_n_1_0 (fun _ b => b) zeroTable (place 0#32) (groupIn m c)) (place 4#32) (expertIn m c) := by
  unfold weightsHost
  dsimp only [V, hostOps0]
  after_results

/-- The joined biases, as the call's preparation builds them. -/
theorem bias_built (c : Dev nD) : biasHost m c = shapeCast S1x128 (Host.scatter scatter_S128_S1_S32_0_n_0_0 (fun _ b => b)
    (Host.scatter scatter_S128_S1_S4_0_n_0_0 (fun _ b => b) zeroEntries (place 0#32) (groupBias m c)) (place 4#32) (expertBias m c) : Vec Ideal S128 .f32) shapeCasts_S128_S1x128 := by
  unfold biasHost
  dsimp only [V, hostOps0]
  after_results
  rfl

theorem weights_group (c : Dev nD) (k : Fin 4096) (C : Fin 128) (j : Fin 4) (h : C.val = j.val) : weightsHost m c (ix2 k C) = groupIn m c (ix2 k j) := by
  rw [weights_built]
  refine (kept (R := 4096) (C := 128) (U := 32) _ rfl rfl rfl (place 4#32) 4 rfl _ _ k C (Or.inl (by omega))).trans ?_
  exact placed (R := 4096) (C := 128) (U := 4) _ rfl rfl rfl (place 0#32) 0 rfl _ _ k C j (by omega)

theorem weights_expert (c : Dev nD) (k : Fin 4096) (C : Fin 128) (j : Fin 32) (h : C.val = 4 + j.val) : weightsHost m c (ix2 k C) = expertIn m c (ix2 k j) := by
  rw [weights_built]
  exact placed (R := 4096) (C := 128) (U := 32) _ rfl rfl rfl (place 4#32) 4 rfl _ _ k C j h

theorem weights_rest (c : Dev nD) (k : Fin 4096) (C : Fin 128) (h : 36 ≤ C.val) : weightsHost m c (ix2 k C) = (0 : EReal) := by
  rw [weights_built]
  refine (kept (R := 4096) (C := 128) (U := 32) _ rfl rfl rfl (place 4#32) 4 rfl _ _ k C (Or.inr (by omega))).trans ?_
  exact (kept (R := 4096) (C := 128) (U := 4) _ rfl rfl rfl (place 0#32) 0 rfl _ _ k C (Or.inr (by omega))).trans zero_word

theorem bias_entry (c : Dev nD) (C : Fin 128) : biasHost m c (ix2 0 C) = (Host.scatter scatter_S128_S1_S32_0_n_0_0 (fun _ b => b)
    (Host.scatter scatter_S128_S1_S4_0_n_0_0 (fun _ b => b) zeroEntries (place 0#32) (groupBias m c)) (place 4#32) (expertBias m c) : Vec Ideal S128 .f32) (ix1 C) := by
  rw [bias_built]
  generalize (Host.scatter scatter_S128_S1_S32_0_n_0_0 (fun _ b => b)
    (Host.scatter scatter_S128_S1_S4_0_n_0_0 (fun _ b => b) zeroEntries (place 0#32) (groupBias m c)) (place 4#32) (expertBias m c) : Vec Ideal S128 .f32) = y
  pointwise

theorem bias_group (c : Dev nD) (C : Fin 128) (j : Fin 4) (h : C.val = j.val) : biasHost m c (ix2 0 C) = groupBias m c (ix1 j) := by
  rw [bias_entry]
  refine (kept_entry (C := 128) (U := 32) _ rfl rfl (place 4#32) 4 rfl _ _ C (Or.inl (by omega))).trans ?_
  exact placed_entry (C := 128) (U := 4) _ rfl rfl (place 0#32) 0 rfl _ _ C j (by omega)

theorem bias_expert (c : Dev nD) (C : Fin 128) (j : Fin 32) (h : C.val = 4 + j.val) : biasHost m c (ix2 0 C) = expertBias m c (ix1 j) := by
  rw [bias_entry]
  exact placed_entry (C := 128) (U := 32) _ rfl rfl (place 4#32) 4 rfl _ _ C j h

theorem bias_rest (c : Dev nD) (C : Fin 128) (h : 36 ≤ C.val) : biasHost m c (ix2 0 C) = (0 : EReal) := by
  rw [bias_entry]
  refine (kept_entry (C := 128) (U := 32) _ rfl rfl (place 4#32) 4 rfl _ _ C (Or.inr (by omega))).trans ?_
  exact (kept_entry (C := 128) (U := 4) _ rfl rfl (place 0#32) 0 rfl _ _ C (Or.inr (by omega))).trans zero_word

/-- The normalised rows of the whole arguments. -/
def normTable (x y : Table 16384 4096) (g b : (⟨1, ![4096]⟩ : Shape).Idx → EReal) : Table 16384 4096 :=
  fun i => normed (mixedRow x y (i 0)) (g (ix1 (i 1))) (b (ix1 (i 1))) (i 1)

/-- The stored row of a point is the whole table's. -/
theorem norm_block (c : Dev nD) (t : Fin cfg0.N) (r : Fin 256) (k : Fin 4096) (R : Fin 16384) (hR : R.val = 256 * t.val + r.val) :
    k0_pay2 (F := Ideal) (rowsAt m c t) (mixAt m c t) (scaleAt m c t) (shiftAt m c t) (ix2 r k)
      = normTable (rowsIn m c) (mixIn m c) (scaleIn m c) (shiftIn m c) (ix2 R k) := by
  have e : mixedRow (a := 256) (rowsAt m c t) (mixAt m c t) r = mixedRow (rowsIn m c) (mixIn m c) R :=
    funext fun k => by unfold mixedRow; rw [rows_read m c t r k R hR, mix_read m c t r k R hR]
  rw [norm_read, e, scale_read, shift_read]
  rfl

/-- The first output array's entries. -/
theorem norm_array (c : Dev nD) (R : Fin 16384) (k : Fin 4096) :
    ((dats m 0 c).arrAt 6 cfg0.N : Vec Ideal S16384x4096 .f32) (ix2 R k) = normTable (rowsIn m c) (mixIn m c) (scaleIn m c) (shiftIn m c) (ix2 R k) := by
  have hR := R.isLt
  have hN : cfg0.N = 64 := N_0
  let t : Fin cfg0.N := ⟨R.val / 256, by omega⟩
  let r : Fin 256 := ⟨R.val % 256, by omega⟩
  have hr : R.val = 256 * t.val + r.val := by show R.val = 256 * (R.val / 256) + R.val % 256; omega
  rw [← norm_block m c t r k R hr]
  have hb := congrFun (Value.blocks6 m c t (flush0_6 _)) (ix2 r k)
  rw [View.read_apply, Value.flushed6] at hb
  have hc : ∀ (o : Vec Ideal S256x4096 .f32) (t : Fin grid0.N) (j : S256x4096.Idx), ((cfg0.win 6).cut (grid0.coords t) o : Vec Ideal S256x4096 .f32) j = o j := fun _ _ _ => rfl
  refine Eq.trans ?_ ((hb.trans (hc _ _ _)).trans (congrFun (out6_read _ _ _ _ _ _) _))
  obtain ⟨h0, h1⟩ := index6 t
  refine congrArg _ (funext fun a => Fin.ext ?_)
  match a with
  | ⟨0, _⟩ => show R.val = win0_6.index t 0 * 256 + 1 * r.val; rw [h0]; omega
  | ⟨1, _⟩ => show k.val = win0_6.index t 1 * 4096 + 1 * k.val; rw [h1]; omega

/-- The arguments that the second result's arithmetic needs to be real. -/
structure Reals (c : Dev nD) : Prop where
  scale : ∀ i, ∃ r : ℝ, (scaleIn m c i : EReal) = r
  shift : ∀ i, ∃ r : ℝ, (shiftIn m c i : EReal) = r
  group : ∀ i, ∃ r : ℝ, (groupIn m c i : EReal) = r
  expert : ∀ i, ∃ r : ℝ, (expertIn m c i : EReal) = r

/-- Of a real scale and shift the normalised rows are real. -/
theorem norm_reals (c : Dev nD) (h : Reals m c) (R : Fin 16384) (k : Fin 4096) :
    ∃ r : ℝ, normTable (rowsIn m c) (mixIn m c) (scaleIn m c) (shiftIn m c) (ix2 R k) = r :=
  normed_real _ _ _ (h.scale _) (h.shift _) k

/-- Of real weights the joined weights are real. -/
theorem weights_reals (c : Dev nD) (h : Reals m c) (k : Fin 4096) (C : Fin 128) : ∃ r : ℝ, (weightsHost m c (ix2 k C) : EReal) = r := by
  have hC := C.isLt
  by_cases h1 : C.val < 4
  · rw [weights_group m c k C ⟨C.val, h1⟩ rfl]; exact h.group _
  · by_cases h2 : C.val < 36
    · rw [weights_expert m c k C ⟨C.val - 4, by omega⟩ (by show C.val = 4 + (C.val - 4); omega)]; exact h.expert _
    · rw [weights_rest m c k C (Nat.le_of_not_lt h2)]; exact ⟨0, rfl⟩

/-- The second output array's entries. -/
theorem product_array (c : Dev nD) (h : Reals m c) (R : Fin 16384) (C : Fin 128) :
    ((dats m 0 c).arrAt 7 cfg0.N : Vec Ideal S16384x128 .f32) (ix2 R C)
      = entry (normTable (rowsIn m c) (mixIn m c) (scaleIn m c) (shiftIn m c)) (weightsHost m c) R C + biasHost m c (ix2 0 C) := by
  have hR := R.isLt
  have hN : cfg0.N = 64 := N_0
  let t : Fin cfg0.N := ⟨R.val / 256, by omega⟩
  let r : Fin 256 := ⟨R.val % 256, by omega⟩
  have hr : R.val = 256 * t.val + r.val := by show R.val = 256 * (R.val / 256) + R.val % 256; omega
  have hb := congrFun (Value.blocks7 m c t (flush0_7 _)) (ix2 r C)
  rw [View.read_apply, Value.flushed7] at hb
  have hc : ∀ (o : Vec Ideal S256x128 .f32) (t : Fin grid0.N) (j : S256x128.Idx), ((cfg0.win 7).cut (grid0.coords t) o : Vec Ideal S256x128 .f32) j = o j := fun _ _ _ => rfl
  have hv : k0_pay1 (F := Ideal) (k0_pay4 (rowsAt m c t) (mixAt m c t) (scaleAt m c t) (shiftAt m c t)) (k0_pay5 (rowsAt m c t) (mixAt m c t) (scaleAt m c t) (shiftAt m c t))
      (k0_pay6 (weightsAt m c t)) (k0_pay7 (weightsAt m c t)) (biasAt m c t) (ix2 r C)
      = entry (normTable (rowsIn m c) (mixIn m c) (scaleIn m c) (shiftIn m c)) (weightsHost m c) R C + biasHost m c (ix2 0 C) := by
    refine (product_read (k0_pay2 (rowsAt m c t) (mixAt m c t) (scaleAt m c t) (shiftAt m c t)) _ _ _ _ _ rfl rfl).trans ?_
    have en : ∀ k, k0_pay2 (F := Ideal) (rowsAt m c t) (mixAt m c t) (scaleAt m c t) (shiftAt m c t) (ix2 ((ix2 r C : S256x128.Idx) 0) k)
        = normTable (rowsIn m c) (mixIn m c) (scaleIn m c) (shiftIn m c) (ix2 R k) := fun k => norm_block m c t r k R hr
    have ew : ∀ k, weightsAt m c t (ix2 k ((ix2 r C : S256x128.Idx) 1)) = weightsHost m c (ix2 k C) := fun k => weights_read m c t k C
    have ed : biasAt m c t (ix2 0 ((ix2 r C : S256x128.Idx) 1)) = biasHost m c (ix2 0 C) := bias_read m c t C
    simp only [en, ew, ed]
    exact congrArg (· + (biasHost m c (ix2 0 C) : EReal)) (split_product (fun k => normTable (rowsIn m c) (mixIn m c) (scaleIn m c) (shiftIn m c) (ix2 R k))
      (fun k => weightsHost m c (ix2 k C)) (fun k => norm_reals m c h R k) (fun k => weights_reals m c h k C))
  refine Eq.trans ?_ (((hb.trans (hc _ _ _)).trans (congrFun (out7_read _ _ _ _ _ _) _)).trans hv)
  obtain ⟨h0, h1⟩ := index7 t
  refine congrArg _ (funext fun a => Fin.ext ?_)
  match a with
  | ⟨0, _⟩ => show R.val = win0_7.index t 0 * 256 + 1 * r.val; rw [h0]; omega
  | ⟨1, _⟩ => show C.val = win0_7.index t 1 * 128 + 1 * C.val; rw [h1]; omega

section Reference
open Cert.RouterRefIdeal.Read
variable (x : Vec Ideal S16384x4096 .f32) (y : Vec Ideal S16384x4096 .bf16) (g b : Vec Ideal S4096 .f32)

/-- The reference's mixed rows. -/
theorem mixed_ref (R : Fin 16384) (k : Fin 4096) : val_main_v3 (F := Ideal) x y (ix2 R k) = mixedRow (a := 16384) x y R k := by
  rw [val_main_v3_apply, val_main_v1_apply, val_main_v0_apply, val_main_v2_apply]
  rfl

/-- The reference's mean of a row. -/
theorem mean_ref (i : Cert.RouterRefIdeal.S16384x1.Idx) : val_main_v7 (F := Ideal) x y i = mean (mixedRow (a := 16384) x y (i 0)) := by
  rw [val_main_v7_apply, val_main_v5_apply, val_main_v4_apply, val_main_v6_apply]
  have hi : ∀ k : Fin 4096, idx_main_v4 (idx_main_v5 i) k = ix2 (i 0) k := fun k => funext fun a => match a with | ⟨0, _⟩ => rfl | ⟨1, _⟩ => rfl
  rw [Finset.sum_congr rfl fun k _ => (congrArg _ (hi k)).trans (mixed_ref x y (i 0) k)]
  show Ideal.div (Ideal.ofBits .f32 0x00000000#32 + _) _ = _
  rw [zero_word, zero_add]
  rfl

/-- The reference's spread of a row. -/
theorem spread_ref (i : Cert.RouterRefIdeal.S16384x1.Idx) : val_main_v14 (F := Ideal) x y i = spread (mixedRow (a := 16384) x y (i 0)) := by
  rw [val_main_v14_apply, val_main_v12_apply, val_main_v11_apply, val_main_v13_apply]
  have hi : ∀ k : Fin 4096, idx_main_v11 (idx_main_v12 i) k = ix2 (i 0) k := fun k => funext fun a => match a with | ⟨0, _⟩ => rfl | ⟨1, _⟩ => rfl
  have hk : ∀ (R : Fin 16384) (k : Fin 4096), val_main_v10 (F := Ideal) x y (ix2 R k)
      = (mixedRow (a := 16384) x y R k - mean (mixedRow (a := 16384) x y R)) * (mixedRow (a := 16384) x y R k - mean (mixedRow (a := 16384) x y R)) := fun R k => by
    rw [val_main_v10_apply, val_main_v9_apply, val_main_v8_apply, mean_ref, mixed_ref]
    rfl
  rw [Finset.sum_congr rfl fun k _ => (congrArg _ (hi k)).trans (hk (i 0) k)]
  show Ideal.div (Ideal.ofBits .f32 0x00000000#32 + _) _ = _
  rw [zero_word, zero_add]
  rfl

/-- The reference's first result. -/
theorem norm_ref (R : Fin 16384) (k : Fin 4096) : val_main_v27 (F := Ideal) x y g b (ix2 R k) = normTable x y g b (ix2 R k) := by
  rw [val_main_v27_apply, val_main_v24_apply, val_main_v21_apply, val_main_v16_apply, val_main_v15_apply, mean_ref, mixed_ref, val_main_v20_apply,
    val_main_v19_apply, val_main_v18_apply, spread_ref, val_main_v17_apply, val_main_v23_apply, val_main_v22_apply, val_main_v26_apply, val_main_v25_apply]
  have h1 : idx_main_v22 (idx_main_v23 (ix2 R k)) = ix1 k := funext fun a => match a with | ⟨0, _⟩ => rfl
  have h2 : idx_main_v25 (idx_main_v26 (ix2 R k)) = ix1 k := funext fun a => match a with | ⟨0, _⟩ => rfl
  rw [h1, h2]
  rfl

/-- The reference's product with the four columns, and its bias. -/
theorem group_ref (w : Vec Ideal S4096x4 .f32) (d : Vec Ideal S4 .f32) (R : Fin 16384) (j : Fin 4) :
    val_main_v31 (F := Ideal) x y g b w d (ix2 R j) = entry (n := 4) (normTable x y g b) w R j + d (ix1 j) := by
  rw [val_main_v31_apply, val_main_v28_apply, val_main_v30_apply, val_main_v29_apply]
  have hl : ∀ k, lidx_main_v28 (ix2 R j) k = ix2 R k := fun k => funext fun a => match a with | ⟨0, _⟩ => rfl | ⟨1, _⟩ => rfl
  have hr : ∀ k, ridx_main_v28 (ix2 R j) k = ix2 k j := fun k => funext fun a => match a with | ⟨0, _⟩ => rfl | ⟨1, _⟩ => rfl
  have hd : idx_main_v29 (idx_main_v30 (ix2 R j)) = ix1 j := funext fun a => match a with | ⟨0, _⟩ => rfl
  rw [Finset.sum_congr rfl fun k _ => by rw [hl, hr, norm_ref], hd]
  rfl

/-- The reference's product with the thirty-two columns, and its bias. -/
theorem expert_ref (w : Vec Ideal S4096x32 .f32) (d : Vec Ideal S32 .f32) (R : Fin 16384) (j : Fin 32) :
    val_main_v35 (F := Ideal) x y g b w d (ix2 R j) = entry (n := 32) (normTable x y g b) w R j + d (ix1 j) := by
  rw [val_main_v35_apply, val_main_v32_apply, val_main_v34_apply, val_main_v33_apply]
  have hl : ∀ k, lidx_main_v32 (ix2 R j) k = ix2 R k := fun k => funext fun a => match a with | ⟨0, _⟩ => rfl | ⟨1, _⟩ => rfl
  have hr : ∀ k, ridx_main_v32 (ix2 R j) k = ix2 k j := fun k => funext fun a => match a with | ⟨0, _⟩ => rfl | ⟨1, _⟩ => rfl
  have hd : idx_main_v33 (idx_main_v34 (ix2 R j)) = ix1 j := funext fun a => match a with | ⟨0, _⟩ => rfl
  rw [Finset.sum_congr rfl fun k _ => by rw [hl, hr, norm_ref], hd]
  rfl

/-- The columns of zeros the reference puts on the right. -/
theorem zeros_ref (i : Cert.RouterRefIdeal.S16384x92.Idx) : val_main_v36 (F := Ideal) i = (0 : EReal) := by
  rw [val_main_v36_apply, val_main_cst_5_apply]
  exact zero_word

end Reference

/-- The first output array is the reference's first result of the same arguments. -/
theorem norm_eq (c : Dev nD) : Cert.RouterRefIdeal.Read.val_main_v27 (F := Ideal) (rowsIn m c) (mixIn m c) (scaleIn m c) (shiftIn m c) = (dats m 0 c).arrAt 6 cfg0.N := by
  funext i
  obtain ⟨R, k, rfl⟩ := table_idx i
  exact (norm_ref _ _ _ _ R k).trans (norm_array m c R k).symm

/-- The second output array is the reference's second result of the same arguments, when the norm's vectors and the weights are real
    numbers. -/
theorem product_eq (c : Dev nD) (h : Reals m c) : Cert.RouterRefIdeal.Read.val_main_v37 (F := Ideal) (rowsIn m c) (mixIn m c) (scaleIn m c) (shiftIn m c)
    (groupIn m c) (groupBias m c) (expertIn m c) (expertBias m c) = (dats m 0 c).arrAt 7 cfg0.N := by
  funext i
  obtain ⟨R, C, rfl⟩ := table_idx i
  refine Eq.trans ?_ (product_array m c h R C).symm
  have e1 := group_ref (rowsIn m c) (mixIn m c) (scaleIn m c) (shiftIn m c) (groupIn m c) (groupBias m c) R
  have e2 := expert_ref (rowsIn m c) (mixIn m c) (scaleIn m c) (shiftIn m c) (expertIn m c) (expertBias m c) R
  have e3 := zeros_ref
  unfold Cert.RouterRefIdeal.Read.val_main_v37
  generalize Cert.RouterRefIdeal.Read.val_main_v31 (F := Ideal) (rowsIn m c) (mixIn m c) (scaleIn m c) (shiftIn m c) (groupIn m c) (groupBias m c) = y1 at e1 ⊢
  generalize Cert.RouterRefIdeal.Read.val_main_v35 (F := Ideal) (rowsIn m c) (mixIn m c) (scaleIn m c) (shiftIn m c) (expertIn m c) (expertBias m c) = y2 at e2 ⊢
  generalize Cert.RouterRefIdeal.Read.val_main_v36 (F := Ideal) = y3 at e3 ⊢
  have hC := C.isLt
  by_cases h1 : C.val < 4
  · refine (join_read _ _ 0 (by simp) y1 rfl 0 rfl R ⟨C.val, h1⟩ C (Nat.zero_add _)).trans ((e1 ⟨C.val, h1⟩).trans ?_)
    exact congrArg₂ (· + ·) (entry_column _ _ _ R C _ fun k => weights_group m c k C _ rfl).symm (bias_group m c C _ rfl).symm
  · by_cases h2 : C.val < 36
    · refine (join_read _ _ 1 (by simp) y2 rfl 4 rfl R ⟨C.val - 4, by omega⟩ C (by show 4 + (C.val - 4) = C.val; omega)).trans ((e2 ⟨C.val - 4, by omega⟩).trans ?_)
      exact congrArg₂ (· + ·) (entry_column _ _ _ R C _ fun k => weights_expert m c k C _ (by show C.val = 4 + (C.val - 4); omega)).symm
        (bias_expert m c C _ (by show C.val = 4 + (C.val - 4); omega)).symm
    · refine (join_read _ _ 2 (by simp) y3 rfl 36 rfl R ⟨C.val - 36, by omega⟩ C (by show 36 + (C.val - 36) = C.val; omega)).trans ((e3 _).trans ?_)
      rw [entry_zero _ _ R C fun k => weights_rest m c k C (Nat.le_of_not_lt h2), bias_rest m c C (Nat.le_of_not_lt h2), add_zero]

/-- What the precondition says of the arguments. -/
theorem reals (c : Dev nD) (j : Cert.Pre_finite_router.S_.Idx) (h : Cert.Pre_finite_router.fn (F := Ideal) (rowsIn m c) (mixIn m c) (scaleIn m c) (shiftIn m c)
    (groupIn m c) (groupBias m c) (expertIn m c) (expertBias m c) j = 1#1) : Reals m c := by
  unfold Cert.Pre_finite_router.fn at h
  dsimp only at h
  obtain ⟨h, h3⟩ := Cert.Pre_finite.DA.and_read _ _ _ h
  obtain ⟨h, h2⟩ := Cert.Pre_finite.DA.and_read _ _ _ h
  obtain ⟨h0, h1⟩ := Cert.Pre_finite.DA.and_read _ _ _ h
  exact ⟨fun i => Cert.Pre_finite.DA.real_of_cmp _ (Host.reduce_andi_all _ _ _ _ j h0 i), fun i => Cert.Pre_finite.DA.real_of_cmp _ (Host.reduce_andi_all _ _ _ _ j h1 i),
    fun i => Cert.Pre_finite.DA.real_of_cmp _ (Host.reduce_andi_all _ _ _ _ j h2 i), fun i => Cert.Pre_finite.DA.real_of_cmp _ (Host.reduce_andi_all _ _ _ _ j h3 i)⟩

/-- Over the reals, the kernel computes what its reference computes. -/
theorem algebraic : Cert.algebraic_RouterIdeal_RouterRefIdeal_pre_finite_router := by
  intro m ρ m' ρ' hpre hagree
  refine ⟨fun c => (dats m 0 c).arrAt 6 cfg0.N, fun c => (dats m 0 c).arrAt 7 cfg0.N, Value.run_blocks (F := Ideal) m ρ, ?_⟩
  refine (θ_run _ _ _).mono (fun _ h c => ⟨(h c).1.trans ?_, (h c).2.1.trans ?_, (h c).2.2⟩) (Cert.RouterRefIdeal.Value.run (F := Ideal) m' ρ')
  · obtain ⟨e0, e1, e2, e3, e4, e5, e6, e7⟩ := hagree c
    rw [Cert.RouterRefIdeal.Read.val_main_v27_eq, e0, e1, e2, e3]
    exact norm_eq m c
  · obtain ⟨e0, e1, e2, e3, e4, e5, e6, e7⟩ := hagree c
    rw [Cert.RouterRefIdeal.Read.val_main_v37_eq, e0, e1, e2, e3, e4, e5, e6, e7]
    exact product_eq m c (reals m c (fun a => a.elim0) (congrFun (hpre c) _))

/-- The reference runs to the end and leaves its arguments as they were; it declares no semaphore. -/
theorem frame_reference : Cert.quiescent_RouterRefIdeal := fun m ρ _ =>
  (θ_run Cert.RouterRefIdeal.defs _ _).mono (fun r h => ⟨fun c => (h c).2.2,
      Idealize.ShloMosaic.sem_eq_zero_of_no_sems (by decide) r.2⟩)
    (Cert.RouterRefIdeal.Value.run (F := Ideal) m ρ)

end Cert.RouterIdeal.DA
-- ==== Proof.Blocks.lean ====
module
public import proofs.«01_k».proof.Proof.Gen.KernelIdeal.Value
public import Idealize.ShloMosaic.Lib.Pointwise
public import proofs.«01_k».proof.Proof.Online
@[expose] public section
set_option maxRecDepth 16384
noncomputable section
namespace Cert.KernelIdeal.DA
open Cert.DiffAttn Cert.KernelIdeal Cert.KernelIdeal.Gen
open Idealize.ShloMosaic Idealize.ShloMosaic.TcCoe Idealize.SL.Sem Idealize.ShloMosaic.Tactic
open Idealize.ShloMosaic.Pipeline (Dat)
variable {F : FTy → Type} [FloatOps F] [Named F]

/-- The scores of one block: the scaled queries against 512 keys. -/
def scores (q : FVec F S512x128 .bf16) (kb : Vec F S1x512x128 .bf16) : FVec F S512x512 .f32 :=
  matmul dot_S512x128_S512x128_S512x512_1_1_0_0_n_n none q (shapeCast S512x128 kb shapeCasts_S1x512x128_S512x128)
    (constant S512x512 .f32 0x00000000#32)

/-- The row maxima after a block, in every lane. -/
def newMax (s : FVec F S512x512 .f32) (M : Vec F S1x512x128 .f32) : FVec F S512x128 .f32 :=
  maximumf (shapeCast S512x128 M shapeCasts_S1x512x128_S512x128)
    (broadcastTo S512x128 (shapeCast S512x1 (multiReduction .maximumf [1] S512 s 0xFF800000#32 reduces_S512x512_S512 (.inl rfl) rfl)
      shapeCasts_S512_S512x1) broadcasts_S512x1_S512x128)

/-- The block's weights: the exponentials of the scores less the new maxima. -/
def weights (s : FVec F S512x512 .f32) (m : FVec F S512x128 .f32) : FVec F S512x512 .f32 :=
  exp (subf s (concatenate S512x512 1 [⟨S512x128, m⟩, ⟨S512x128, m⟩, ⟨S512x128, m⟩, ⟨S512x128, m⟩]
    concatenates_S512x128_S512x128_S512x128_S512x128_S512x512_d1))

/-- What the old sums shrink by. -/
def decay (M : Vec F S1x512x128 .f32) (m : FVec F S512x128 .f32) : FVec F S512x128 .f32 :=
  exp (subf (shapeCast S512x128 M shapeCasts_S1x512x128_S512x128) m)

/-- The sums of weights after a block, in every lane. -/
def newSum (a : FVec F S512x128 .f32) (L : Vec F S1x512x128 .f32) (p : FVec F S512x512 .f32) : FVec F S512x128 .f32 :=
  addf (mulf a (shapeCast S512x128 L shapeCasts_S1x512x128_S512x128))
    (broadcastTo S512x128 (shapeCast S512x1 (multiReduction .add [1] S512 p 0x00000000#32 reduces_S512x512_S512 (.inl rfl) rfl)
      shapeCasts_S512_S512x1) broadcasts_S512x1_S512x128)

/-- The weighted sums of values after a block. -/
def newAcc (a : FVec F S512x128 .f32) (A : Vec F S1x512x256 .f32) (p : FVec F S512x512 .f32) (vb : Vec F S1x512x256 .bf16) :
    FVec F S512x256 .f32 :=
  addf (mulf (concatenate S512x256 1 [⟨S512x128, a⟩, ⟨S512x128, a⟩] concatenates_S512x128_S512x128_S512x256_d1)
      (shapeCast S512x256 A shapeCasts_S1x512x256_S512x256))
    (matmul dot_S512x512_S512x256_S512x256_1_0_0_1_n_n none (truncf .bf16 p bitsLt_bf16_f32)
      (shapeCast S512x256 vb shapeCasts_S1x512x256_S512x256) (constant S512x256 .f32 0x00000000#32))

/-- A lane slab as it is stored. -/
abbrev up (m : FVec F S512x128 .f32) : FVec F S1x512x128 .f32 := shapeCast S1x512x128 m shapeCasts_S512x128_S1x512x128
/-- A value slab as it is stored. -/
abbrev upA (m : FVec F S512x256 .f32) : FVec F S1x512x256 .f32 := shapeCast S1x512x256 m shapeCasts_S512x256_S1x512x256

theorem scores_apply (q : FVec Ideal S512x128 .bf16) (kb : Vec Ideal S1x512x128 .bf16) (r c : Fin 512) :
    scores q kb (ix2 r c) = ∑ d : Fin 128, q (ix2 r d) * kb (ix3 0 c d) := by
  pointwise [scores]
theorem ofBits_neg_inf : Ideal.ofBits .f32 0xFF800000#32 = (⊥ : EReal) := by
  simp [Ideal.ofBits, Ideal.ieee]
theorem newMax_apply (s : FVec Ideal S512x512 .f32) (M : Vec Ideal S1x512x128 .f32) (r : Fin 512) (l : Fin 128) :
    newMax s M (ix2 r l) = max (M (ix3 0 r l)) (Finset.univ.fold max ⊥ fun c : Fin 512 => s (ix2 r c)) := by
  rw [← ofBits_neg_inf]
  pointwise [newMax]
theorem weights_apply (s : FVec Ideal S512x512 .f32) (m : FVec Ideal S512x128 .f32) (r c : Fin 512) (μ : EReal) (hm : ∀ l, m (ix2 r l) = μ) :
    weights s m (ix2 r c) = Ideal.exp (s (ix2 r c) - μ) := by
  pointwise [weights]
  split_ifs <;> rw [hm]
theorem decay_apply (M : Vec Ideal S1x512x128 .f32) (m : FVec Ideal S512x128 .f32) (r : Fin 512) (l : Fin 128) :
    decay M m (ix2 r l) = Ideal.exp (M (ix3 0 r l) - m (ix2 r l)) := by
  pointwise [decay]
theorem newSum_apply (a : FVec Ideal S512x128 .f32) (L : Vec Ideal S1x512x128 .f32) (p : FVec Ideal S512x512 .f32) (r : Fin 512) (l : Fin 128) :
    newSum a L p (ix2 r l) = a (ix2 r l) * L (ix3 0 r l) + ∑ c : Fin 512, p (ix2 r c) := by
  pointwise [newSum]
theorem newAcc_apply (a : FVec Ideal S512x128 .f32) (A : Vec Ideal S1x512x256 .f32) (p : FVec Ideal S512x512 .f32) (vb : Vec Ideal S1x512x256 .bf16) (r : Fin 512) (l : Fin 256) (α : EReal) (ha : ∀ l, a (ix2 r l) = α) :
    newAcc a A p vb (ix2 r l) = α * A (ix3 0 r l) + ∑ c : Fin 512, p (ix2 r c) * vb (ix3 0 c l) := by
  pointwise [newAcc]
  split_ifs <;> rw [ha]
theorem up_apply (m : FVec Ideal S512x128 .f32)  (r : Fin 512) (l : Fin 128) : up m (ix3 0 r l) = m (ix2 r l) := by
  pointwise [up]
theorem upA_apply (m : FVec Ideal S512x256 .f32)  (r : Fin 512) (l : Fin 256) : upA m (ix3 0 r l) = m (ix2 r l) := by
  pointwise [upA]

/-- The three slabs of a chain hold the rows' states, the maxima and sums in every lane. -/
def Rows (M L : Vec Ideal S1x512x128 .f32) (A : Vec Ideal S1x512x256 .f32) (S : Fin 512 → RowState) : Prop :=
  ∀ r, (∀ l, M (ix3 0 r l) = (S r).1) ∧ (∀ l, L (ix3 0 r l) = (S r).2.1) ∧ ∀ d, A (ix3 0 r d) = (S r).2.2 d

/-- A block's stores are one step of every row. -/
theorem rows_step {M L : Vec Ideal S1x512x128 .f32} {A : Vec Ideal S1x512x256 .f32} {S : Fin 512 → RowState} (h : Rows M L A S)
    (s : FVec Ideal S512x512 .f32) (vb : Vec Ideal S1x512x256 .bf16) :
    Rows (up (newMax s M)) (up (newSum (decay M (newMax s M)) L (weights s (newMax s M))))
      (upA (newAcc (decay M (newMax s M)) A (weights s (newMax s M)) vb))
      fun r => rowStep (fun c => s (ix2 r c)) (fun c d => vb (ix3 0 c d)) (S r) := by
  intro r
  obtain ⟨hM, hL, hA⟩ := h r
  have hm : ∀ l, newMax s M (ix2 r l) = max (S r).1 (Finset.univ.fold max ⊥ fun c : Fin 512 => s (ix2 r c)) := fun l => by
    rw [newMax_apply, hM]
  have hd : ∀ l, decay M (newMax s M) (ix2 r l)
      = Ideal.exp ((S r).1 - max (S r).1 (Finset.univ.fold max ⊥ fun c : Fin 512 => s (ix2 r c))) := fun l => by
    rw [decay_apply, hM, hm]
  refine ⟨fun l => ?_, fun l => ?_, fun d => ?_⟩
  · rw [up_apply, hm]; rfl
  · rw [up_apply, newSum_apply, hd, hL, Finset.sum_congr rfl fun c _ => weights_apply _ _ r c _ hm]; rfl
  · rw [upA_apply, newAcc_apply _ _ _ _ r d _ hd, hA, Finset.sum_congr rfl fun c _ => by rw [weights_apply _ _ r c _ hm]]; rfl

end Cert.KernelIdeal.DA
-- ==== Proof.Trip.lean ====
module
public import proofs.«01_k».proof.Proof.Gen.KernelIdeal.Value
public import proofs.«01_k».proof.Proof.Blocks
public import Idealize.ShloMosaic.Lib.WritesUnit
@[expose] public section
set_option maxRecDepth 16384
noncomputable section
namespace Cert.KernelIdeal.DA
open Cert.DiffAttn Cert.KernelIdeal Cert.KernelIdeal.Gen
open Idealize.ShloMosaic Idealize.ShloMosaic.TcCoe Idealize.SL.Sem Idealize.ShloMosaic.Tactic
open Idealize.ShloMosaic.Pipeline (Dat)
variable {F : FTy → Type} [FloatOps F] [Named F]

/-- Slab `c` of a lane buffer. -/
abbrev slab (a : Memref sig .tc .vmem S4x512x128 .f32) (f : BufTy.Contents (Elt F) a.view.ty) (off : Fin 3 → ℕ)
    (inb : ∀ x, off x + S1x512x128.size x ≤ S4x512x128.size x) : Vec F S1x512x128 .f32 :=
  View.readAt (Elt F) a.view (Rect.unit (s := S4x512x128) off S1x512x128.size inb).toLoadRect f
abbrev slabA (a : Memref sig .tc .vmem S4x512x256 .f32) (f : BufTy.Contents (Elt F) a.view.ty) (off : Fin 3 → ℕ)
    (inb : ∀ x, off x + S1x512x256.size x ≤ S4x512x256.size x) : Vec F S1x512x256 .f32 :=
  View.readAt (Elt F) a.view (Rect.unit (s := S4x512x256) off S1x512x256.size inb).toLoadRect f
abbrev keys (a : Memref sig .tc .vmem S1x8192x512 .bf16) (f : BufTy.Contents (Elt F) a.view.ty) (off : Fin 3 → ℕ)
    (inb : ∀ x, off x + S1x512x128.size x ≤ S1x8192x512.size x) : Vec F S1x512x128 .bf16 :=
  View.readAt (Elt F) a.view (Rect.unit (s := S1x8192x512) off S1x512x128.size inb).toLoadRect f
abbrev vals (a : Memref sig .tc .vmem S1x8192x512 .bf16) (f : BufTy.Contents (Elt F) a.view.ty) (off : Fin 3 → ℕ)
    (inb : ∀ x, off x + S1x512x256.size x ≤ S1x8192x512.size x) : Vec F S1x512x256 .bf16 :=
  View.readAt (Elt F) a.view (Rect.unit (s := S1x8192x512) off S1x512x256.size inb).toLoadRect f

section Read
variable {sig' : RefSig} {κ' : Kind} {sp : Space} {s : Shape} {e : EltTy} {Val : EltTy → Type}

/-- A box just stored is read back as it was stored. -/
theorem readAt_hit (v : View sig' κ' sp s e) (f : v.ty.Contents Val) {off size : Fin s.rank → ℕ} (inb : ∀ a, off a + size a ≤ s.size a)
    (w : (Rect.unit off size inb).shape.Idx → Val e) (L : List (View.Piece Val s e)) :
    View.readAt Val v (Rect.unit off size inb).toLoadRect (v.writes Val f (⟨Rect.unit off size inb, w⟩ :: L)) = w := by
  funext y
  rw [View.readAt_eq_ld]
  exact View.read_writes_cons_emb v f (Rect.unit off size inb) w L y

/-- A store beside a box leaves it as it was. -/
theorem readAt_miss (v : View sig' κ' sp s e) (f : v.ty.Contents Val) {off size off' size' : Fin s.rank → ℕ}
    (inb : ∀ a, off a + size a ≤ s.size a) (inb' : ∀ a, off' a + size' a ≤ s.size a)
    (w : (Rect.unit off' size' inb').shape.Idx → Val e) (L : List (View.Piece Val s e)) (a : Fin s.rank)
    (h : off a + size a ≤ off' a ∨ off' a + size' a ≤ off a) :
    View.readAt Val v (Rect.unit off size inb).toLoadRect (v.writes Val f (⟨Rect.unit off' size' inb', w⟩ :: L))
      = View.readAt Val v (Rect.unit off size inb).toLoadRect (v.writes Val f L) := by
  funext y
  rw [View.readAt_eq_ld, View.readAt_eq_ld]
  refine View.read_writes_cons_unit_of_not_mem v f inb' w L _ rfl a ?_
  have h1 : ((Rect.unit off size inb).emb y a).val = off a + 1 * (y a).val := rfl
  have h2 : (y a).val < size a := (y a).isLt
  show ((Rect.unit off size inb).emb y a).val < off' a ∨ off' a + size' a ≤ ((Rect.unit off size inb).emb y a).val
  omega
end Read

/-- A column of the 512 that a group of heads takes. -/
def col512 (o : ℕ) {n : ℕ} (h : o + n ≤ 512) (d : Fin n) : Fin 512 := ⟨o + d.val, by omega⟩

theorem keys_apply (a : Memref sig .tc .vmem S1x8192x512 .bf16) (ha : a.IsWhole) (x : Vec Ideal S1x8192x512 .bf16) (k o : ℕ) (hk : k < 16)
    (ho : o + 128 ≤ 512) (off : Fin 3 → ℕ) (inb : ∀ x, off x + S1x512x128.size x ≤ S1x8192x512.size x) (h : off = ![0, 512 * k, o])
    (r : Fin 512) (d : Fin 128) :
    keys a (ha.unread x) off inb (ix3 0 r d) = x (ix3 0 (keyOf k r) (col512 o ho d)) := by
  subst h
  show View.readAt (Elt Ideal) a.view _ _ _ = _
  rw [View.readAt_eq_ld, Memref.IsWhole.read_unread]
  refine congrArg x (funext fun b => Fin.ext ?_)
  have hr := r.isLt
  fin_cases b
  · rfl
  · show 512 * k + 1 * r.val = (512 * k + r.val) % 8192
    omega
  · show o + 1 * d.val = o + d.val
    omega

theorem vals_apply (a : Memref sig .tc .vmem S1x8192x512 .bf16) (ha : a.IsWhole) (x : Vec Ideal S1x8192x512 .bf16) (k o : ℕ) (hk : k < 16)
    (ho : o + 256 ≤ 512) (off : Fin 3 → ℕ) (inb : ∀ x, off x + S1x512x256.size x ≤ S1x8192x512.size x) (h : off = ![0, 512 * k, o])
    (r : Fin 512) (d : Fin 256) :
    vals a (ha.unread x) off inb (ix3 0 r d) = x (ix3 0 (keyOf k r) (col512 o ho d)) := by
  subst h
  show View.readAt (Elt Ideal) a.view _ _ _ = _
  rw [View.readAt_eq_ld, Memref.IsWhole.read_unread]
  refine congrArg x (funext fun b => Fin.ext ?_)
  have hr := r.isLt
  fin_cases b
  · rfl
  · show 512 * k + 1 * r.val = (512 * k + r.val) % 8192
    omega
  · show o + 1 * d.val = o + d.val
    omega

/-- The counted loop makes one trip per block before the diagonal one. -/
theorem trips1 (i : grid0.Coords) : (k0_t1_loop i).trips = (i 2).val := by
  have h : ∀ n : Fin 16, (Scf.trips (0#32) (Scalar.addi 0#32 (Scalar.muli (Scalar.divsi (Scalar.subi (BitVec.ofNat 32 n.val) 0#32) 1#32) 1#32)) 1#32) = n.val := by decide
  exact h (i 2)

/-- The loop over the remainder makes none. -/
theorem trips2 (i : grid0.Coords) : (k0_t2_loop i).trips = 0 := by
  have h : ∀ n : Fin 16, (Scf.trips (Scalar.addi 0#32 (Scalar.muli (Scalar.divsi (Scalar.subi (BitVec.ofNat 32 n.val) 0#32) 1#32) 1#32)) (Scalar.addi 0#32 (Scalar.subi (BitVec.ofNat 32 n.val) 0#32)) 1#32) = 0 := by decide
  exact h (i 2)

theorem row_off : ∀ k : Fin 16, (Scalar.indexCast (Scalar.muli (Scf.iv 0#32 1#32 k.val) 512#32)).toNat = 512 * k.val := by decide
theorem row_off' : ∀ k : Fin 16, (Scalar.indexCast (Scalar.muli (BitVec.ofNat 32 k.val) 512#32)).toNat = 512 * k.val := by decide

theorem off1_eq (i : grid0.Coords) (k : Fin (k0_t1_loop i).trips) : k0_off1 i k = ![0, 512 * k.val, 0] := by
  have h : k.val < 16 := lt_of_lt_of_eq k.isLt (trips1 i) |>.trans (i 2).isLt
  show ![0, (Scalar.indexCast (Scalar.muli (Scf.iv 0#32 1#32 k.val) 512#32)).toNat, 0] = _
  rw [row_off ⟨k.val, h⟩]

theorem off2_eq (i : grid0.Coords) (k : Fin (k0_t1_loop i).trips) : k0_off2 i k = ![0, 512 * k.val, 128] := by
  have h : k.val < 16 := lt_of_lt_of_eq k.isLt (trips1 i) |>.trans (i 2).isLt
  show ![0, (Scalar.indexCast (Scalar.muli (Scf.iv 0#32 1#32 k.val) 512#32)).toNat, 128] = _
  rw [row_off ⟨k.val, h⟩]

theorem off3_eq (i : grid0.Coords) (k : Fin (k0_t1_loop i).trips) : k0_off3 i k = ![0, 512 * k.val, 256] := by
  have h : k.val < 16 := lt_of_lt_of_eq k.isLt (trips1 i) |>.trans (i 2).isLt
  show ![0, (Scalar.indexCast (Scalar.muli (Scf.iv 0#32 1#32 k.val) 512#32)).toNat, 256] = _
  rw [row_off ⟨k.val, h⟩]

theorem off4_eq (i : grid0.Coords) (k : Fin (k0_t1_loop i).trips) : k0_off4 i k = ![0, 512 * k.val, 384] := by
  have h : k.val < 16 := lt_of_lt_of_eq k.isLt (trips1 i) |>.trans (i 2).isLt
  show ![0, (Scalar.indexCast (Scalar.muli (Scf.iv 0#32 1#32 k.val) 512#32)).toNat, 384] = _
  rw [row_off ⟨k.val, h⟩]

theorem off5_eq (i : grid0.Coords) (k : Fin (k0_t1_loop i).trips) : k0_off5 i k = ![0, 512 * k.val, 0] := by
  have h : k.val < 16 := lt_of_lt_of_eq k.isLt (trips1 i) |>.trans (i 2).isLt
  show ![0, (Scalar.indexCast (Scalar.muli (Scf.iv 0#32 1#32 k.val) 512#32)).toNat, 0] = _
  rw [row_off ⟨k.val, h⟩]

theorem off6_eq (i : grid0.Coords) (k : Fin (k0_t1_loop i).trips) : k0_off6 i k = ![0, 512 * k.val, 256] := by
  have h : k.val < 16 := lt_of_lt_of_eq k.isLt (trips1 i) |>.trans (i 2).isLt
  show ![0, (Scalar.indexCast (Scalar.muli (Scf.iv 0#32 1#32 k.val) 512#32)).toNat, 256] = _
  rw [row_off ⟨k.val, h⟩]

theorem off13_eq (i : grid0.Coords) : k0_off13 i = ![0, 512 * (i 2).val, 0] := by
  show ![0, (Scalar.indexCast (Scalar.muli (BitVec.ofNat 32 (i 2).val) 512#32)).toNat, 0] = _
  rw [row_off' (i 2)]

theorem off14_eq (i : grid0.Coords) : k0_off14 i = ![0, 512 * (i 2).val, 128] := by
  show ![0, (Scalar.indexCast (Scalar.muli (BitVec.ofNat 32 (i 2).val) 512#32)).toNat, 128] = _
  rw [row_off' (i 2)]

theorem off15_eq (i : grid0.Coords) : k0_off15 i = ![0, 512 * (i 2).val, 256] := by
  show ![0, (Scalar.indexCast (Scalar.muli (BitVec.ofNat 32 (i 2).val) 512#32)).toNat, 256] = _
  rw [row_off' (i 2)]

theorem off16_eq (i : grid0.Coords) : k0_off16 i = ![0, 512 * (i 2).val, 384] := by
  show ![0, (Scalar.indexCast (Scalar.muli (BitVec.ofNat 32 (i 2).val) 512#32)).toNat, 384] = _
  rw [row_off' (i 2)]

theorem off17_eq (i : grid0.Coords) : k0_off17 i = ![0, 512 * (i 2).val, 0] := by
  show ![0, (Scalar.indexCast (Scalar.muli (BitVec.ofNat 32 (i 2).val) 512#32)).toNat, 0] = _
  rw [row_off' (i 2)]

theorem off18_eq (i : grid0.Coords) : k0_off18 i = ![0, 512 * (i 2).val, 256] := by
  show ![0, (Scalar.indexCast (Scalar.muli (BitVec.ofNat 32 (i 2).val) 512#32)).toNat, 256] = _
  rw [row_off' (i 2)]

/-- A row's scores against block `k`: the scaled queries with 128 columns of the keys from column `o`. -/
def blockScores (q : FVec Ideal S512x128 .bf16) (x : Vec Ideal S1x8192x512 .bf16) (o : ℕ) (ho : o + 128 ≤ 512) (r : Fin 512) (k : ℕ)
    (c : Fin 512) : EReal :=
  ∑ d : Fin 128, q (ix2 r d) * x (ix3 0 (keyOf k c) (col512 o ho d))

/-- Block `k` of the values: 256 columns from column `o`. -/
def blockVals (x : Vec Ideal S1x8192x512 .bf16) (o : ℕ) (ho : o + 256 ≤ 512) (k : ℕ) (c : Fin 512) (d : Fin 256) : EReal :=
  x (ix3 0 (keyOf k c) (col512 o ho d))

/-- One trip's stores: per chain, the new maxima, sums and weighted sums. -/
theorem trip_eq (𝒱 : Variants) (c : Dev nD) (bd : Option 𝒱.V) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (arg2 : BitVec 32) (v5 v11 v17 v23 : FVec F S512x128 .bf16) (v31 : FVec F S4x512x128 .f32) (X_arg5 : BufTy.Contents (Elt F) arg5.view.ty) (X_arg6 : BufTy.Contents (Elt F) arg6.view.ty) (k : Fin (k0_t1_loop i).trips) (f9 : BufTy.Contents (Elt F) arg9.view.ty) (f10 : BufTy.Contents (Elt F) arg10.view.ty) (f11 : BufTy.Contents (Elt F) arg11.view.ty) :
    tripL_k0_t1 (F := F) 𝒱 c bd i arg3 harg3 arg4 harg4 arg5 harg5 arg6 harg6 arg7 harg7 arg8 harg8 arg9 harg9 arg10 harg10 arg11 harg11 arg2 v5 v11 v17 v23 v31 X_arg5 X_arg6 k f9 f10 f11 =
    ([⟨Rect.unit ![3, 0, 0] ![1, 512, 128] inb_S4x512x128_S1x512x128_3_0_0, up (newMax (scores v23 (keys arg5 X_arg5 (k0_off4 i k) (k0_off4_inb i k))) (slab arg9 f9 ![3, 0, 0] inb_S4x512x128_S1x512x128_3_0_0))⟩,
      ⟨Rect.unit ![2, 0, 0] ![1, 512, 128] inb_S4x512x128_S1x512x128_2_0_0, up (newMax (scores v17 (keys arg5 X_arg5 (k0_off3 i k) (k0_off3_inb i k))) (slab arg9 f9 ![2, 0, 0] inb_S4x512x128_S1x512x128_2_0_0))⟩,
      ⟨Rect.unit ![1, 0, 0] ![1, 512, 128] inb_S4x512x128_S1x512x128_1_0_0, up (newMax (scores v11 (keys arg5 X_arg5 (k0_off2 i k) (k0_off2_inb i k))) (slab arg9 f9 ![1, 0, 0] inb_S4x512x128_S1x512x128_1_0_0))⟩,
      ⟨Rect.unit ![0, 0, 0] ![1, 512, 128] inb_S4x512x128_S1x512x128_0_0_0, up (newMax (scores v5 (keys arg5 X_arg5 (k0_off1 i k) (k0_off1_inb i k))) (slab arg9 f9 ![0, 0, 0] inb_S4x512x128_S1x512x128_0_0_0))⟩],
      [⟨Rect.unit ![3, 0, 0] ![1, 512, 128] inb_S4x512x128_S1x512x128_3_0_0, up (newSum (decay (slab arg9 f9 ![3, 0, 0] inb_S4x512x128_S1x512x128_3_0_0) (newMax (scores v23 (keys arg5 X_arg5 (k0_off4 i k) (k0_off4_inb i k))) (slab arg9 f9 ![3, 0, 0] inb_S4x512x128_S1x512x128_3_0_0))) (slab arg10 f10 ![3, 0, 0] inb_S4x512x128_S1x512x128_3_0_0) (weights (scores v23 (keys arg5 X_arg5 (k0_off4 i k) (k0_off4_inb i k))) (newMax (scores v23 (keys arg5 X_arg5 (k0_off4 i k) (k0_off4_inb i k))) (slab arg9 f9 ![3, 0, 0] inb_S4x512x128_S1x512x128_3_0_0))))⟩,
      ⟨Rect.unit ![2, 0, 0] ![1, 512, 128] inb_S4x512x128_S1x512x128_2_0_0, up (newSum (decay (slab arg9 f9 ![2, 0, 0] inb_S4x512x128_S1x512x128_2_0_0) (newMax (scores v17 (keys arg5 X_arg5 (k0_off3 i k) (k0_off3_inb i k))) (slab arg9 f9 ![2, 0, 0] inb_S4x512x128_S1x512x128_2_0_0))) (slab arg10 f10 ![2, 0, 0] inb_S4x512x128_S1x512x128_2_0_0) (weights (scores v17 (keys arg5 X_arg5 (k0_off3 i k) (k0_off3_inb i k))) (newMax (scores v17 (keys arg5 X_arg5 (k0_off3 i k) (k0_off3_inb i k))) (slab arg9 f9 ![2, 0, 0] inb_S4x512x128_S1x512x128_2_0_0))))⟩,
      ⟨Rect.unit ![1, 0, 0] ![1, 512, 128] inb_S4x512x128_S1x512x128_1_0_0, up (newSum (decay (slab arg9 f9 ![1, 0, 0] inb_S4x512x128_S1x512x128_1_0_0) (newMax (scores v11 (keys arg5 X_arg5 (k0_off2 i k) (k0_off2_inb i k))) (slab arg9 f9 ![1, 0, 0] inb_S4x512x128_S1x512x128_1_0_0))) (slab arg10 f10 ![1, 0, 0] inb_S4x512x128_S1x512x128_1_0_0) (weights (scores v11 (keys arg5 X_arg5 (k0_off2 i k) (k0_off2_inb i k))) (newMax (scores v11 (keys arg5 X_arg5 (k0_off2 i k) (k0_off2_inb i k))) (slab arg9 f9 ![1, 0, 0] inb_S4x512x128_S1x512x128_1_0_0))))⟩,
      ⟨Rect.unit ![0, 0, 0] ![1, 512, 128] inb_S4x512x128_S1x512x128_0_0_0, up (newSum (decay (slab arg9 f9 ![0, 0, 0] inb_S4x512x128_S1x512x128_0_0_0) (newMax (scores v5 (keys arg5 X_arg5 (k0_off1 i k) (k0_off1_inb i k))) (slab arg9 f9 ![0, 0, 0] inb_S4x512x128_S1x512x128_0_0_0))) (slab arg10 f10 ![0, 0, 0] inb_S4x512x128_S1x512x128_0_0_0) (weights (scores v5 (keys arg5 X_arg5 (k0_off1 i k) (k0_off1_inb i k))) (newMax (scores v5 (keys arg5 X_arg5 (k0_off1 i k) (k0_off1_inb i k))) (slab arg9 f9 ![0, 0, 0] inb_S4x512x128_S1x512x128_0_0_0))))⟩],
      [⟨Rect.unit ![3, 0, 0] ![1, 512, 256] inb_S4x512x256_S1x512x256_3_0_0, upA (newAcc (decay (slab arg9 f9 ![3, 0, 0] inb_S4x512x128_S1x512x128_3_0_0) (newMax (scores v23 (keys arg5 X_arg5 (k0_off4 i k) (k0_off4_inb i k))) (slab arg9 f9 ![3, 0, 0] inb_S4x512x128_S1x512x128_3_0_0))) (slabA arg11 f11 ![3, 0, 0] inb_S4x512x256_S1x512x256_3_0_0) (weights (scores v23 (keys arg5 X_arg5 (k0_off4 i k) (k0_off4_inb i k))) (newMax (scores v23 (keys arg5 X_arg5 (k0_off4 i k) (k0_off4_inb i k))) (slab arg9 f9 ![3, 0, 0] inb_S4x512x128_S1x512x128_3_0_0))) (vals arg6 X_arg6 (k0_off6 i k) (k0_off6_inb i k)))⟩,
      ⟨Rect.unit ![2, 0, 0] ![1, 512, 256] inb_S4x512x256_S1x512x256_2_0_0, upA (newAcc (decay (slab arg9 f9 ![2, 0, 0] inb_S4x512x128_S1x512x128_2_0_0) (newMax (scores v17 (keys arg5 X_arg5 (k0_off3 i k) (k0_off3_inb i k))) (slab arg9 f9 ![2, 0, 0] inb_S4x512x128_S1x512x128_2_0_0))) (slabA arg11 f11 ![2, 0, 0] inb_S4x512x256_S1x512x256_2_0_0) (weights (scores v17 (keys arg5 X_arg5 (k0_off3 i k) (k0_off3_inb i k))) (newMax (scores v17 (keys arg5 X_arg5 (k0_off3 i k) (k0_off3_inb i k))) (slab arg9 f9 ![2, 0, 0] inb_S4x512x128_S1x512x128_2_0_0))) (vals arg6 X_arg6 (k0_off6 i k) (k0_off6_inb i k)))⟩,
      ⟨Rect.unit ![1, 0, 0] ![1, 512, 256] inb_S4x512x256_S1x512x256_1_0_0, upA (newAcc (decay (slab arg9 f9 ![1, 0, 0] inb_S4x512x128_S1x512x128_1_0_0) (newMax (scores v11 (keys arg5 X_arg5 (k0_off2 i k) (k0_off2_inb i k))) (slab arg9 f9 ![1, 0, 0] inb_S4x512x128_S1x512x128_1_0_0))) (slabA arg11 f11 ![1, 0, 0] inb_S4x512x256_S1x512x256_1_0_0) (weights (scores v11 (keys arg5 X_arg5 (k0_off2 i k) (k0_off2_inb i k))) (newMax (scores v11 (keys arg5 X_arg5 (k0_off2 i k) (k0_off2_inb i k))) (slab arg9 f9 ![1, 0, 0] inb_S4x512x128_S1x512x128_1_0_0))) (vals arg6 X_arg6 (k0_off5 i k) (k0_off5_inb i k)))⟩,
      ⟨Rect.unit ![0, 0, 0] ![1, 512, 256] inb_S4x512x256_S1x512x256_0_0_0, upA (newAcc (decay (slab arg9 f9 ![0, 0, 0] inb_S4x512x128_S1x512x128_0_0_0) (newMax (scores v5 (keys arg5 X_arg5 (k0_off1 i k) (k0_off1_inb i k))) (slab arg9 f9 ![0, 0, 0] inb_S4x512x128_S1x512x128_0_0_0))) (slabA arg11 f11 ![0, 0, 0] inb_S4x512x256_S1x512x256_0_0_0) (weights (scores v5 (keys arg5 X_arg5 (k0_off1 i k) (k0_off1_inb i k))) (newMax (scores v5 (keys arg5 X_arg5 (k0_off1 i k) (k0_off1_inb i k))) (slab arg9 f9 ![0, 0, 0] inb_S4x512x128_S1x512x128_0_0_0))) (vals arg6 X_arg6 (k0_off5 i k) (k0_off5_inb i k)))⟩]) := by
  unfold tripL_k0_t1 trip_k0_t1
  rfl

/-- Chain 0's slabs after `k` trips, from slabs that hold the initial states. -/
theorem loop_rows0 (𝒱 : Variants) (c : Dev nD) (bd : Option 𝒱.V) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (arg2 : BitVec 32) (v5 v11 v17 v23 : FVec Ideal S512x128 .bf16) (v31 : FVec Ideal S4x512x128 .f32) (x2 x3 : Vec Ideal S1x8192x512 .bf16) (G9 : BufTy.Contents (Elt Ideal) arg9.view.ty) (G10 : BufTy.Contents (Elt Ideal) arg10.view.ty) (G11 : BufTy.Contents (Elt Ideal) arg11.view.ty)
    (h0 : Rows (slab arg9 G9 ![0, 0, 0] inb_S4x512x128_S1x512x128_0_0_0) (slab arg10 G10 ![0, 0, 0] inb_S4x512x128_S1x512x128_0_0_0) (slabA arg11 G11 ![0, 0, 0] inb_S4x512x256_S1x512x256_0_0_0) fun _ => rowInit) (k : ℕ) (hk : k ≤ (k0_t1_loop i).trips) :
    Rows (slab arg9 (arg9.view.writes (Elt Ideal) G9 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).1) ![0, 0, 0] inb_S4x512x128_S1x512x128_0_0_0) (slab arg10 (arg10.view.writes (Elt Ideal) G10 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).2.1) ![0, 0, 0] inb_S4x512x128_S1x512x128_0_0_0) (slabA arg11 (arg11.view.writes (Elt Ideal) G11 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).2.2) ![0, 0, 0] inb_S4x512x256_S1x512x256_0_0_0)
      fun r => rowAfter (blockScores v5 x2 0 (by decide) r) (blockVals x3 0 (by decide)) k := by
  induction k with
  | zero => exact h0
  | succ k ih =>
    have hk' : k < 16 := lt_of_lt_of_le (lt_of_lt_of_eq hk (trips1 i)) (i 2).isLt.le
    have e := pb_k0_t1_succ (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 ⟨k, hk⟩
    rw [trip_eq] at e
    have st := rows_step (ih (by omega)) (scores v5 (keys arg5 (harg5.unread x2) (k0_off1 i ⟨k, hk⟩) (k0_off1_inb i ⟨k, hk⟩)))
      (vals arg6 (harg6.unread x3) (k0_off5 i ⟨k, hk⟩) (k0_off5_inb i ⟨k, hk⟩))
    simp only [scores_apply, keys_apply arg5 harg5 x2 k 0 hk' (by decide) _ _ (off1_eq i ⟨k, hk⟩),
      vals_apply arg6 harg6 x3 k 0 hk' (by decide) _ _ (off5_eq i ⟨k, hk⟩)] at st
    dsimp only at e
    rw [e]
    dsimp only
    rw [View.writes_append, View.writes_append, View.writes_append]
    unfold slab slabA
    rw [readAt_miss _ _ _ _ _ _ 0 (by decide)]; rw [readAt_miss _ _ _ _ _ _ 0 (by decide)]; rw [readAt_miss _ _ _ _ _ _ 0 (by decide)]; rw [readAt_hit]
    rw [readAt_miss _ _ _ _ _ _ 0 (by decide)]; rw [readAt_miss _ _ _ _ _ _ 0 (by decide)]; rw [readAt_miss _ _ _ _ _ _ 0 (by decide)]; rw [readAt_hit]
    rw [readAt_miss _ _ _ _ _ _ 0 (by decide)]; rw [readAt_miss _ _ _ _ _ _ 0 (by decide)]; rw [readAt_miss _ _ _ _ _ _ 0 (by decide)]; rw [readAt_hit]
    exact st

/-- Chain 1's slabs after `k` trips, from slabs that hold the initial states. -/
theorem loop_rows1 (𝒱 : Variants) (c : Dev nD) (bd : Option 𝒱.V) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (arg2 : BitVec 32) (v5 v11 v17 v23 : FVec Ideal S512x128 .bf16) (v31 : FVec Ideal S4x512x128 .f32) (x2 x3 : Vec Ideal S1x8192x512 .bf16) (G9 : BufTy.Contents (Elt Ideal) arg9.view.ty) (G10 : BufTy.Contents (Elt Ideal) arg10.view.ty) (G11 : BufTy.Contents (Elt Ideal) arg11.view.ty)
    (h0 : Rows (slab arg9 G9 ![1, 0, 0] inb_S4x512x128_S1x512x128_1_0_0) (slab arg10 G10 ![1, 0, 0] inb_S4x512x128_S1x512x128_1_0_0) (slabA arg11 G11 ![1, 0, 0] inb_S4x512x256_S1x512x256_1_0_0) fun _ => rowInit) (k : ℕ) (hk : k ≤ (k0_t1_loop i).trips) :
    Rows (slab arg9 (arg9.view.writes (Elt Ideal) G9 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).1) ![1, 0, 0] inb_S4x512x128_S1x512x128_1_0_0) (slab arg10 (arg10.view.writes (Elt Ideal) G10 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).2.1) ![1, 0, 0] inb_S4x512x128_S1x512x128_1_0_0) (slabA arg11 (arg11.view.writes (Elt Ideal) G11 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).2.2) ![1, 0, 0] inb_S4x512x256_S1x512x256_1_0_0)
      fun r => rowAfter (blockScores v11 x2 128 (by decide) r) (blockVals x3 0 (by decide)) k := by
  induction k with
  | zero => exact h0
  | succ k ih =>
    have hk' : k < 16 := lt_of_lt_of_le (lt_of_lt_of_eq hk (trips1 i)) (i 2).isLt.le
    have e := pb_k0_t1_succ (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 ⟨k, hk⟩
    rw [trip_eq] at e
    have st := rows_step (ih (by omega)) (scores v11 (keys arg5 (harg5.unread x2) (k0_off2 i ⟨k, hk⟩) (k0_off2_inb i ⟨k, hk⟩)))
      (vals arg6 (harg6.unread x3) (k0_off5 i ⟨k, hk⟩) (k0_off5_inb i ⟨k, hk⟩))
    simp only [scores_apply, keys_apply arg5 harg5 x2 k 128 hk' (by decide) _ _ (off2_eq i ⟨k, hk⟩),
      vals_apply arg6 harg6 x3 k 0 hk' (by decide) _ _ (off5_eq i ⟨k, hk⟩)] at st
    dsimp only at e
    rw [e]
    dsimp only
    rw [View.writes_append, View.writes_append, View.writes_append]
    unfold slab slabA
    rw [readAt_miss _ _ _ _ _ _ 0 (by decide)]; rw [readAt_miss _ _ _ _ _ _ 0 (by decide)]; rw [readAt_hit]
    rw [readAt_miss _ _ _ _ _ _ 0 (by decide)]; rw [readAt_miss _ _ _ _ _ _ 0 (by decide)]; rw [readAt_hit]
    rw [readAt_miss _ _ _ _ _ _ 0 (by decide)]; rw [readAt_miss _ _ _ _ _ _ 0 (by decide)]; rw [readAt_hit]
    exact st

/-- Chain 2's slabs after `k` trips, from slabs that hold the initial states. -/
theorem loop_rows2 (𝒱 : Variants) (c : Dev nD) (bd : Option 𝒱.V) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (arg2 : BitVec 32) (v5 v11 v17 v23 : FVec Ideal S512x128 .bf16) (v31 : FVec Ideal S4x512x128 .f32) (x2 x3 : Vec Ideal S1x8192x512 .bf16) (G9 : BufTy.Contents (Elt Ideal) arg9.view.ty) (G10 : BufTy.Contents (Elt Ideal) arg10.view.ty) (G11 : BufTy.Contents (Elt Ideal) arg11.view.ty)
    (h0 : Rows (slab arg9 G9 ![2, 0, 0] inb_S4x512x128_S1x512x128_2_0_0) (slab arg10 G10 ![2, 0, 0] inb_S4x512x128_S1x512x128_2_0_0) (slabA arg11 G11 ![2, 0, 0] inb_S4x512x256_S1x512x256_2_0_0) fun _ => rowInit) (k : ℕ) (hk : k ≤ (k0_t1_loop i).trips) :
    Rows (slab arg9 (arg9.view.writes (Elt Ideal) G9 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).1) ![2, 0, 0] inb_S4x512x128_S1x512x128_2_0_0) (slab arg10 (arg10.view.writes (Elt Ideal) G10 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).2.1) ![2, 0, 0] inb_S4x512x128_S1x512x128_2_0_0) (slabA arg11 (arg11.view.writes (Elt Ideal) G11 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).2.2) ![2, 0, 0] inb_S4x512x256_S1x512x256_2_0_0)
      fun r => rowAfter (blockScores v17 x2 256 (by decide) r) (blockVals x3 256 (by decide)) k := by
  induction k with
  | zero => exact h0
  | succ k ih =>
    have hk' : k < 16 := lt_of_lt_of_le (lt_of_lt_of_eq hk (trips1 i)) (i 2).isLt.le
    have e := pb_k0_t1_succ (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 ⟨k, hk⟩
    rw [trip_eq] at e
    have st := rows_step (ih (by omega)) (scores v17 (keys arg5 (harg5.unread x2) (k0_off3 i ⟨k, hk⟩) (k0_off3_inb i ⟨k, hk⟩)))
      (vals arg6 (harg6.unread x3) (k0_off6 i ⟨k, hk⟩) (k0_off6_inb i ⟨k, hk⟩))
    simp only [scores_apply, keys_apply arg5 harg5 x2 k 256 hk' (by decide) _ _ (off3_eq i ⟨k, hk⟩),
      vals_apply arg6 harg6 x3 k 256 hk' (by decide) _ _ (off6_eq i ⟨k, hk⟩)] at st
    dsimp only at e
    rw [e]
    dsimp only
    rw [View.writes_append, View.writes_append, View.writes_append]
    unfold slab slabA
    rw [readAt_miss _ _ _ _ _ _ 0 (by decide)]; rw [readAt_hit]
    rw [readAt_miss _ _ _ _ _ _ 0 (by decide)]; rw [readAt_hit]
    rw [readAt_miss _ _ _ _ _ _ 0 (by decide)]; rw [readAt_hit]
    exact st

/-- Chain 3's slabs after `k` trips, from slabs that hold the initial states. -/
theorem loop_rows3 (𝒱 : Variants) (c : Dev nD) (bd : Option 𝒱.V) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (arg2 : BitVec 32) (v5 v11 v17 v23 : FVec Ideal S512x128 .bf16) (v31 : FVec Ideal S4x512x128 .f32) (x2 x3 : Vec Ideal S1x8192x512 .bf16) (G9 : BufTy.Contents (Elt Ideal) arg9.view.ty) (G10 : BufTy.Contents (Elt Ideal) arg10.view.ty) (G11 : BufTy.Contents (Elt Ideal) arg11.view.ty)
    (h0 : Rows (slab arg9 G9 ![3, 0, 0] inb_S4x512x128_S1x512x128_3_0_0) (slab arg10 G10 ![3, 0, 0] inb_S4x512x128_S1x512x128_3_0_0) (slabA arg11 G11 ![3, 0, 0] inb_S4x512x256_S1x512x256_3_0_0) fun _ => rowInit) (k : ℕ) (hk : k ≤ (k0_t1_loop i).trips) :
    Rows (slab arg9 (arg9.view.writes (Elt Ideal) G9 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).1) ![3, 0, 0] inb_S4x512x128_S1x512x128_3_0_0) (slab arg10 (arg10.view.writes (Elt Ideal) G10 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).2.1) ![3, 0, 0] inb_S4x512x128_S1x512x128_3_0_0) (slabA arg11 (arg11.view.writes (Elt Ideal) G11 (pb_k0_t1 (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 k).2.2) ![3, 0, 0] inb_S4x512x256_S1x512x256_3_0_0)
      fun r => rowAfter (blockScores v23 x2 384 (by decide) r) (blockVals x3 256 (by decide)) k := by
  induction k with
  | zero => exact h0
  | succ k ih =>
    have hk' : k < 16 := lt_of_lt_of_le (lt_of_lt_of_eq hk (trips1 i)) (i 2).isLt.le
    have e := pb_k0_t1_succ (F := Ideal) 𝒱 c bd i arg3 harg3 arg4 harg4 arg5 harg5 arg6 harg6 arg7 harg7 arg8 harg8 arg9 harg9 arg10 harg10 arg11 harg11 arg2 v5 v11 v17 v23 v31 (harg5.unread x2) (harg6.unread x3) G9 G10 G11 ⟨k, hk⟩
    rw [trip_eq] at e
    have st := rows_step (ih (by omega)) (scores v23 (keys arg5 (harg5.unread x2) (k0_off4 i ⟨k, hk⟩) (k0_off4_inb i ⟨k, hk⟩)))
      (vals arg6 (harg6.unread x3) (k0_off6 i ⟨k, hk⟩) (k0_off6_inb i ⟨k, hk⟩))
    simp only [scores_apply, keys_apply arg5 harg5 x2 k 384 hk' (by decide) _ _ (off4_eq i ⟨k, hk⟩),
      vals_apply arg6 harg6 x3 k 256 hk' (by decide) _ _ (off6_eq i ⟨k, hk⟩)] at st
    dsimp only at e
    rw [e]
    dsimp only
    rw [View.writes_append, View.writes_append, View.writes_append]
    unfold slab slabA
    rw [readAt_hit]
    rw [readAt_hit]
    rw [readAt_hit]
    exact st

end Cert.KernelIdeal.DA
-- ==== Proof.Run.lean ====
module
public import proofs.«01_k».proof.Proof.Gen.KernelIdeal.Value
public import proofs.«01_k».proof.Proof.Trip
public import Idealize.ShloMosaic.Lib.WritesUnit
@[expose] public section
set_option maxRecDepth 16384
noncomputable section
namespace Cert.KernelIdeal.DA
open Cert.DiffAttn Cert.KernelIdeal Cert.KernelIdeal.Gen
open Idealize.ShloMosaic Idealize.ShloMosaic.TcCoe Idealize.SL.Sem Idealize.ShloMosaic.Tactic
open Idealize.ShloMosaic.Pipeline (Dat)
variable {F : FTy → Type} [FloatOps F] [Named F]

/-- The queries of a chain, times the score scale. -/
def scaled (q : Vec F S1x512x128 .bf16) : FVec F S512x128 .bf16 :=
  truncf .bf16 (mulf (extf .f32 (shapeCast S512x128 q shapeCasts_S1x512x128_S512x128) bitsLt_bf16_f32)
    (broadcast S512x128 (Scalar.ofBits .f32 0x3DB504F3#32))) bitsLt_bf16_f32

/-- Which entries of the diagonal block a query may see. -/
def diagMask : IVec S512x512 1 :=
  cmpi .sle k0_pay100 (k0_pay99 (iota .tc S512x512 32 [0] iota_S512x512_d0_w32) 64#32 k0_pay97 k0_pay98)

/-- The scores of the diagonal block, the rest replaced by the mask's value. -/
def masked (s : FVec F S512x512 .f32) : FVec F S512x512 .f32 :=
  select diagMask s (broadcast S512x512 (Named.named κ "mask" 0xF149F2CA#32))

/-- The weighted sum over the sum of weights. -/
def quot (L : Vec F S1x512x128 .f32) (A : Vec F S1x512x256 .f32) : FVec F S512x256 .f32 :=
  mulf (shapeCast S512x256 A shapeCasts_S1x512x256_S512x256)
    (concatenate S512x256 1 [⟨S512x128, divf (broadcast S512x128 (Scalar.ofBits .f32 0x3F800000#32)) (shapeCast S512x128 L shapeCasts_S1x512x128_S512x128)⟩,
      ⟨S512x128, divf (broadcast S512x128 (Scalar.ofBits .f32 0x3F800000#32)) (shapeCast S512x128 L shapeCasts_S1x512x128_S512x128)⟩]
      concatenates_S512x128_S512x128_S512x256_d1)

/-- The first quotient less `lam` times the second. -/
def mix (lam : F .f32) (o o' : FVec F S512x256 .f32) : FVec F S512x256 .f32 := subf o (mulf (broadcast S512x256 lam) o')

/-- The root mean square norm of the rows, weighted and scaled. -/
def tailOut (o : FVec F S512x256 .f32) (w : Vec F S1x256 .f32) : FVec F S1x512x256 .bf16 :=
  shapeCast S1x512x256 (truncf .bf16 (mulf (mulf (mulf o (broadcastTo S512x256 (rsqrt (addf (divf
      (shapeCast S512x1 (multiReduction .add [1] S512 (mulf o o) 0x00000000#32 reduces_S512x256_S512 (.inl rfl) rfl) shapeCasts_S512_S512x1)
      (broadcast S512x1 (Scalar.ofBits .f32 0x43800000#32))) (broadcast S512x1 (Scalar.ofBits .f32 0x3727C5AC#32))))
      broadcasts_S512x1_S512x256)) (broadcastTo S512x256 (shapeCast S1x256 w shapeCasts_S1x256_S1x256) broadcasts_S1x256_S512x256))
    (broadcast S512x256 (Scalar.ofBits .f32 0x3F24FD5C#32))) bitsLt_bf16_f32) shapeCasts_S512x256_S1x512x256

/-- What the lane buffers and the value buffer are filled with at first. -/
def fill9 : List (View.Piece (Elt F) S4x512x128 .f32) := [⟨Rect.unit ![0, 0, 0] ![4, 512, 128] inb_S4x512x128_S4x512x128_0_0_0, k0_pay80⟩]
def fill10 : List (View.Piece (Elt F) S4x512x128 .f32) := [⟨Rect.unit ![0, 0, 0] ![4, 512, 128] inb_S4x512x128_S4x512x128_0_0_0, k0_pay81⟩]
def fill11 : List (View.Piece (Elt F) S4x512x256 .f32) := [⟨Rect.unit ![0, 0, 0] ![4, 512, 256] inb_S4x512x256_S4x512x256_0_0_0, k0_pay82⟩]

/-- The scaled queries of chain 0. -/
def q0 (arg4 : Memref sig .tc .vmem S1x512x512 .bf16) (harg4 : arg4.IsWhole) (x1 : Vec F S1x512x512 .bf16) : FVec F S512x128 .bf16 :=
  scaled (View.readAt (Elt F) arg4.view (Rect.unit (s := S1x512x512) ![0, 0, 0] S1x512x128.size inb_S1x512x512_S1x512x128_0_0_0).toLoadRect (harg4.unread x1))

/-- The scaled queries of chain 1. -/
def q1 (arg4 : Memref sig .tc .vmem S1x512x512 .bf16) (harg4 : arg4.IsWhole) (x1 : Vec F S1x512x512 .bf16) : FVec F S512x128 .bf16 :=
  scaled (View.readAt (Elt F) arg4.view (Rect.unit (s := S1x512x512) ![0, 0, 128] S1x512x128.size inb_S1x512x512_S1x512x128_0_0_128).toLoadRect (harg4.unread x1))

/-- The scaled queries of chain 2. -/
def q2 (arg4 : Memref sig .tc .vmem S1x512x512 .bf16) (harg4 : arg4.IsWhole) (x1 : Vec F S1x512x512 .bf16) : FVec F S512x128 .bf16 :=
  scaled (View.readAt (Elt F) arg4.view (Rect.unit (s := S1x512x512) ![0, 0, 256] S1x512x128.size inb_S1x512x512_S1x512x128_0_0_256).toLoadRect (harg4.unread x1))

/-- The scaled queries of chain 3. -/
def q3 (arg4 : Memref sig .tc .vmem S1x512x512 .bf16) (harg4 : arg4.IsWhole) (x1 : Vec F S1x512x512 .bf16) : FVec F S512x128 .bf16 :=
  scaled (View.readAt (Elt F) arg4.view (Rect.unit (s := S1x512x512) ![0, 0, 384] S1x512x128.size inb_S1x512x512_S1x512x128_0_0_384).toLoadRect (harg4.unread x1))

/-- The stores of the counted loop. -/
def loop1 (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (x1 : Vec F S1x512x512 .bf16) (x2 : Vec F S1x8192x512 .bf16) (x3 : Vec F S1x8192x512 .bf16) :=
  pb_k0_t1 Variants.none c none i arg3 harg3 arg4 harg4 arg5 harg5 arg6 harg6 arg7 harg7 arg8 harg8 arg9 harg9 arg10 harg10 arg11 harg11 (BitVec.ofNat 32 ↑(i 2)) (q0 arg4 harg4 x1) (q1 arg4 harg4 x1) (q2 arg4 harg4 x1) (q3 arg4 harg4 x1) k0_pay81 (harg5.unread x2) (harg6.unread x3) (arg9.view.writes (Elt F) arg9.view.junk fill9) (arg10.view.writes (Elt F) arg10.view.junk fill10) (arg11.view.writes (Elt F) arg11.view.junk fill11) (k0_t1_loop i).trips

/-- The stores of the loop over the remainder. -/
def loop2 (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (x1 : Vec F S1x512x512 .bf16) (x2 : Vec F S1x8192x512 .bf16) (x3 : Vec F S1x8192x512 .bf16) :=
  pb_k0_t2 Variants.none c none i arg3 harg3 arg4 harg4 arg5 harg5 arg6 harg6 arg7 harg7 arg8 harg8 arg9 harg9 arg10 harg10 arg11 harg11 (BitVec.ofNat 32 ↑(i 2)) (q0 arg4 harg4 x1) (q1 arg4 harg4 x1) (q2 arg4 harg4 x1) (q3 arg4 harg4 x1) k0_pay81 (Scalar.addi 0#32 (Scalar.muli (Scalar.divsi (Scalar.subi (BitVec.ofNat 32 (i 2).val) 0#32) 1#32) 1#32)) (harg5.unread x2) (harg6.unread x3) (arg9.view.writes (Elt F) arg9.view.junk ((loop1 c i arg3 harg3 arg4 harg4 arg5 harg5 arg6 harg6 arg7 harg7 arg8 harg8 arg9 harg9 arg10 harg10 arg11 harg11 x1 x2 x3).1 ++ fill9)) (arg10.view.writes (Elt F) arg10.view.junk ((loop1 c i arg3 harg3 arg4 harg4 arg5 harg5 arg6 harg6 arg7 harg7 arg8 harg8 arg9 harg9 arg10 harg10 arg11 harg11 x1 x2 x3).2.1 ++ fill10)) (arg11.view.writes (Elt F) arg11.view.junk ((loop1 c i arg3 harg3 arg4 harg4 arg5 harg5 arg6 harg6 arg7 harg7 arg8 harg8 arg9 harg9 arg10 harg10 arg11 harg11 x1 x2 x3).2.2 ++ fill11)) (k0_t2_loop i).trips

section Diag
variable (arg9 arg10 : Memref sig .tc .vmem S4x512x128 .f32) (arg11 : Memref sig .tc .vmem S4x512x256 .f32)
variable (s0 s1 s2 s3 : FVec F S512x512 .f32) (vb0 vb2 : Vec F S1x512x256 .bf16)
variable (L9 L10 : List (View.Piece (Elt F) S4x512x128 .f32)) (L11 : List (View.Piece (Elt F) S4x512x256 .f32))

/-- Chain 0's sums after the diagonal block. -/
def diagSum0 : FVec F S1x512x128 .f32 :=
  up (newSum (decay (arg9.view.readCov L9 (Rect.unit (s := S4x512x128) ![0, 0, 0] S1x512x128.size inb_S4x512x128_S1x512x128_0_0_0).toLoadRect) (newMax s0 (arg9.view.readCov L9 (Rect.unit (s := S4x512x128) ![0, 0, 0] S1x512x128.size inb_S4x512x128_S1x512x128_0_0_0).toLoadRect))) (arg10.view.readCov L10 (Rect.unit (s := S4x512x128) ![0, 0, 0] S1x512x128.size inb_S4x512x128_S1x512x128_0_0_0).toLoadRect) (weights s0 (newMax s0 (arg9.view.readCov L9 (Rect.unit (s := S4x512x128) ![0, 0, 0] S1x512x128.size inb_S4x512x128_S1x512x128_0_0_0).toLoadRect))))

/-- Chain 1's sums after the diagonal block. -/
def diagSum1 : FVec F S1x512x128 .f32 :=
  up (newSum (decay (arg9.view.readCov L9 (Rect.unit (s := S4x512x128) ![1, 0, 0] S1x512x128.size inb_S4x512x128_S1x512x128_1_0_0).toLoadRect) (newMax s1 (arg9.view.readCov L9 (Rect.unit (s := S4x512x128) ![1, 0, 0] S1x512x128.size inb_S4x512x128_S1x512x128_1_0_0).toLoadRect))) (arg10.view.readCov L10 (Rect.unit (s := S4x512x128) ![1, 0, 0] S1x512x128.size inb_S4x512x128_S1x512x128_1_0_0).toLoadRect) (weights s1 (newMax s1 (arg9.view.readCov L9 (Rect.unit (s := S4x512x128) ![1, 0, 0] S1x512x128.size inb_S4x512x128_S1x512x128_1_0_0).toLoadRect))))

/-- Chain 2's sums after the diagonal block. -/
def diagSum2 : FVec F S1x512x128 .f32 :=
  up (newSum (decay (arg9.view.readCov L9 (Rect.unit (s := S4x512x128) ![2, 0, 0] S1x512x128.size inb_S4x512x128_S1x512x128_2_0_0).toLoadRect) (newMax s2 (arg9.view.readCov L9 (Rect.unit (s := S4x512x128) ![2, 0, 0] S1x512x128.size inb_S4x512x128_S1x512x128_2_0_0).toLoadRect))) (arg10.view.readCov L10 (Rect.unit (s := S4x512x128) ![2, 0, 0] S1x512x128.size inb_S4x512x128_S1x512x128_2_0_0).toLoadRect) (weights s2 (newMax s2 (arg9.view.readCov L9 (Rect.unit (s := S4x512x128) ![2, 0, 0] S1x512x128.size inb_S4x512x128_S1x512x128_2_0_0).toLoadRect))))

/-- Chain 3's sums after the diagonal block. -/
def diagSum3 : FVec F S1x512x128 .f32 :=
  up (newSum (decay (arg9.view.readCov L9 (Rect.unit (s := S4x512x128) ![3, 0, 0] S1x512x128.size inb_S4x512x128_S1x512x128_3_0_0).toLoadRect) (newMax s3 (arg9.view.readCov L9 (Rect.unit (s := S4x512x128) ![3, 0, 0] S1x512x128.size inb_S4x512x128_S1x512x128_3_0_0).toLoadRect))) (arg10.view.readCov L10 (Rect.unit (s := S4x512x128) ![3, 0, 0] S1x512x128.size inb_S4x512x128_S1x512x128_3_0_0).toLoadRect) (weights s3 (newMax s3 (arg9.view.readCov L9 (Rect.unit (s := S4x512x128) ![3, 0, 0] S1x512x128.size inb_S4x512x128_S1x512x128_3_0_0).toLoadRect))))

/-- The value buffer's stores once chain 0 has taken in the diagonal block. -/
def diagAccs0 : List (View.Piece (Elt F) S4x512x256 .f32) :=
  ⟨Rect.unit ![0, 0, 0] ![1, 512, 256] inb_S4x512x256_S1x512x256_0_0_0,
    upA (newAcc (decay (arg9.view.readCov L9 (Rect.unit (s := S4x512x128) ![0, 0, 0] S1x512x128.size inb_S4x512x128_S1x512x128_0_0_0).toLoadRect) (newMax s0 (arg9.view.readCov L9 (Rect.unit (s := S4x512x128) ![0, 0, 0] S1x512x128.size inb_S4x512x128_S1x512x128_0_0_0).toLoadRect))) (arg11.view.readCov L11 (Rect.unit (s := S4x512x256) ![0, 0, 0] S1x512x256.size inb_S4x512x256_S1x512x256_0_0_0).toLoadRect) (weights s0 (newMax s0 (arg9.view.readCov L9 (Rect.unit (s := S4x512x128) ![0, 0, 0] S1x512x128.size inb_S4x512x128_S1x512x128_0_0_0).toLoadRect))) vb0)⟩ :: L11

/-- The value buffer's stores once chain 1 has taken in the diagonal block. -/
def diagAccs1 : List (View.Piece (Elt F) S4x512x256 .f32) :=
  ⟨Rect.unit ![1, 0, 0] ![1, 512, 256] inb_S4x512x256_S1x512x256_1_0_0,
    upA (newAcc (decay (arg9.view.readCov L9 (Rect.unit (s := S4x512x128) ![1, 0, 0] S1x512x128.size inb_S4x512x128_S1x512x128_1_0_0).toLoadRect) (newMax s1 (arg9.view.readCov L9 (Rect.unit (s := S4x512x128) ![1, 0, 0] S1x512x128.size inb_S4x512x128_S1x512x128_1_0_0).toLoadRect))) (arg11.view.readCov (diagAccs0 arg9 arg11 s0 vb0 L9 L11) (Rect.unit (s := S4x512x256) ![1, 0, 0] S1x512x256.size inb_S4x512x256_S1x512x256_1_0_0).toLoadRect) (weights s1 (newMax s1 (arg9.view.readCov L9 (Rect.unit (s := S4x512x128) ![1, 0, 0] S1x512x128.size inb_S4x512x128_S1x512x128_1_0_0).toLoadRect))) vb0)⟩ :: (diagAccs0 arg9 arg11 s0 vb0 L9 L11)

/-- The value buffer's stores once chain 2 has taken in the diagonal block. -/
def diagAccs2 : List (View.Piece (Elt F) S4x512x256 .f32) :=
  ⟨Rect.unit ![2, 0, 0] ![1, 512, 256] inb_S4x512x256_S1x512x256_2_0_0,
    upA (newAcc (decay (arg9.view.readCov L9 (Rect.unit (s := S4x512x128) ![2, 0, 0] S1x512x128.size inb_S4x512x128_S1x512x128_2_0_0).toLoadRect) (newMax s2 (arg9.view.readCov L9 (Rect.unit (s := S4x512x128) ![2, 0, 0] S1x512x128.size inb_S4x512x128_S1x512x128_2_0_0).toLoadRect))) (arg11.view.readCov (diagAccs1 arg9 arg11 s0 s1 vb0 L9 L11) (Rect.unit (s := S4x512x256) ![2, 0, 0] S1x512x256.size inb_S4x512x256_S1x512x256_2_0_0).toLoadRect) (weights s2 (newMax s2 (arg9.view.readCov L9 (Rect.unit (s := S4x512x128) ![2, 0, 0] S1x512x128.size inb_S4x512x128_S1x512x128_2_0_0).toLoadRect))) vb2)⟩ :: (diagAccs1 arg9 arg11 s0 s1 vb0 L9 L11)

/-- The value buffer's stores once chain 3 has taken in the diagonal block. -/
def diagAccs3 : List (View.Piece (Elt F) S4x512x256 .f32) :=
  ⟨Rect.unit ![3, 0, 0] ![1, 512, 256] inb_S4x512x256_S1x512x256_3_0_0,
    upA (newAcc (decay (arg9.view.readCov L9 (Rect.unit (s := S4x512x128) ![3, 0, 0] S1x512x128.size inb_S4x512x128_S1x512x128_3_0_0).toLoadRect) (newMax s3 (arg9.view.readCov L9 (Rect.unit (s := S4x512x128) ![3, 0, 0] S1x512x128.size inb_S4x512x128_S1x512x128_3_0_0).toLoadRect))) (arg11.view.readCov (diagAccs2 arg9 arg11 s0 s1 s2 vb0 vb2 L9 L11) (Rect.unit (s := S4x512x256) ![3, 0, 0] S1x512x256.size inb_S4x512x256_S1x512x256_3_0_0).toLoadRect) (weights s3 (newMax s3 (arg9.view.readCov L9 (Rect.unit (s := S4x512x128) ![3, 0, 0] S1x512x128.size inb_S4x512x128_S1x512x128_3_0_0).toLoadRect))) vb2)⟩ :: (diagAccs2 arg9 arg11 s0 s1 s2 vb0 vb2 L9 L11)

/-- The sum buffer's stores once every chain has taken in the diagonal block. -/
def diagSums : List (View.Piece (Elt F) S4x512x128 .f32) :=
  ⟨Rect.unit ![3, 0, 0] ![1, 512, 128] inb_S4x512x128_S1x512x128_3_0_0, diagSum3 arg9 arg10 s3 L9 L10⟩ :: ⟨Rect.unit ![2, 0, 0] ![1, 512, 128] inb_S4x512x128_S1x512x128_2_0_0, diagSum2 arg9 arg10 s2 L9 L10⟩ :: ⟨Rect.unit ![1, 0, 0] ![1, 512, 128] inb_S4x512x128_S1x512x128_1_0_0, diagSum1 arg9 arg10 s1 L9 L10⟩ :: ⟨Rect.unit ![0, 0, 0] ![1, 512, 128] inb_S4x512x128_S1x512x128_0_0_0, diagSum0 arg9 arg10 s0 L9 L10⟩ :: L10

/-- What a head's rows come to, from its two chains' sums. -/
def head (c c' : Vec F S1x512x128 .f32 × Vec F S1x512x256 .f32) (lam : F .f32) (w : Vec F S1x256 .f32) : FVec F S1x512x256 .bf16 :=
  tailOut (mix lam (quot c.1 c.2) (quot c'.1 c'.2)) w

/-- The two stores of the output: a head each. -/
def outList (lam : F .f32) (w : Vec F S1x256 .f32) : List (View.Piece (Elt F) S1x512x512 .bf16) :=
  [⟨Rect.unit ![0, 0, 256] ![1, 512, 256] inb_S1x512x512_S1x512x256_0_0_256, head ((arg10.view.readCov (diagSums arg9 arg10 s0 s1 s2 s3 L9 L10) (Rect.unit (s := S4x512x128) ![2, 0, 0] S1x512x128.size inb_S4x512x128_S1x512x128_2_0_0).toLoadRect), (arg11.view.readCov (diagAccs3 arg9 arg11 s0 s1 s2 s3 vb0 vb2 L9 L11) (Rect.unit (s := S4x512x256) ![2, 0, 0] S1x512x256.size inb_S4x512x256_S1x512x256_2_0_0).toLoadRect)) ((arg10.view.readCov (diagSums arg9 arg10 s0 s1 s2 s3 L9 L10) (Rect.unit (s := S4x512x128) ![3, 0, 0] S1x512x128.size inb_S4x512x128_S1x512x128_3_0_0).toLoadRect), (arg11.view.readCov (diagAccs3 arg9 arg11 s0 s1 s2 s3 vb0 vb2 L9 L11) (Rect.unit (s := S4x512x256) ![3, 0, 0] S1x512x256.size inb_S4x512x256_S1x512x256_3_0_0).toLoadRect)) lam w⟩,
    ⟨Rect.unit ![0, 0, 0] ![1, 512, 256] inb_S1x512x512_S1x512x256_0_0_0, head ((arg10.view.readCov (diagSums arg9 arg10 s0 s1 s2 s3 L9 L10) (Rect.unit (s := S4x512x128) ![0, 0, 0] S1x512x128.size inb_S4x512x128_S1x512x128_0_0_0).toLoadRect), (arg11.view.readCov (diagAccs3 arg9 arg11 s0 s1 s2 s3 vb0 vb2 L9 L11) (Rect.unit (s := S4x512x256) ![0, 0, 0] S1x512x256.size inb_S4x512x256_S1x512x256_0_0_0).toLoadRect)) ((arg10.view.readCov (diagSums arg9 arg10 s0 s1 s2 s3 L9 L10) (Rect.unit (s := S4x512x128) ![1, 0, 0] S1x512x128.size inb_S4x512x128_S1x512x128_1_0_0).toLoadRect), (arg11.view.readCov (diagAccs3 arg9 arg11 s0 s1 s2 s3 vb0 vb2 L9 L11) (Rect.unit (s := S4x512x256) ![1, 0, 0] S1x512x256.size inb_S4x512x256_S1x512x256_1_0_0).toLoadRect)) lam w⟩]
end Diag

/-- Chain 0's scores of the diagonal block. -/
def diagScores0 (i : grid0.Coords) (arg4 : Memref sig .tc .vmem S1x512x512 .bf16) (harg4 : arg4.IsWhole) (arg5 : Memref sig .tc .vmem S1x8192x512 .bf16) (harg5 : arg5.IsWhole) (x1 : Vec F S1x512x512 .bf16) (x2 : Vec F S1x8192x512 .bf16) : FVec F S512x512 .f32 :=
  masked (scores (q0 arg4 harg4 x1) (keys arg5 (harg5.unread x2) (k0_off13 i) (k0_off13_inb i)))

/-- Chain 1's scores of the diagonal block. -/
def diagScores1 (i : grid0.Coords) (arg4 : Memref sig .tc .vmem S1x512x512 .bf16) (harg4 : arg4.IsWhole) (arg5 : Memref sig .tc .vmem S1x8192x512 .bf16) (harg5 : arg5.IsWhole) (x1 : Vec F S1x512x512 .bf16) (x2 : Vec F S1x8192x512 .bf16) : FVec F S512x512 .f32 :=
  masked (scores (q1 arg4 harg4 x1) (keys arg5 (harg5.unread x2) (k0_off14 i) (k0_off14_inb i)))

/-- Chain 2's scores of the diagonal block. -/
def diagScores2 (i : grid0.Coords) (arg4 : Memref sig .tc .vmem S1x512x512 .bf16) (harg4 : arg4.IsWhole) (arg5 : Memref sig .tc .vmem S1x8192x512 .bf16) (harg5 : arg5.IsWhole) (x1 : Vec F S1x512x512 .bf16) (x2 : Vec F S1x8192x512 .bf16) : FVec F S512x512 .f32 :=
  masked (scores (q2 arg4 harg4 x1) (keys arg5 (harg5.unread x2) (k0_off15 i) (k0_off15_inb i)))

/-- Chain 3's scores of the diagonal block. -/
def diagScores3 (i : grid0.Coords) (arg4 : Memref sig .tc .vmem S1x512x512 .bf16) (harg4 : arg4.IsWhole) (arg5 : Memref sig .tc .vmem S1x8192x512 .bf16) (harg5 : arg5.IsWhole) (x1 : Vec F S1x512x512 .bf16) (x2 : Vec F S1x8192x512 .bf16) : FVec F S512x512 .f32 :=
  masked (scores (q3 arg4 harg4 x1) (keys arg5 (harg5.unread x2) (k0_off16 i) (k0_off16_inb i)))

/-- Head 0's values of the diagonal block. -/
def diagVals0 (i : grid0.Coords) (arg6 : Memref sig .tc .vmem S1x8192x512 .bf16) (harg6 : arg6.IsWhole) (x3 : Vec F S1x8192x512 .bf16) : Vec F S1x512x256 .bf16 :=
  vals arg6 (harg6.unread x3) (k0_off17 i) (k0_off17_inb i)

/-- Head 1's values of the diagonal block. -/
def diagVals1 (i : grid0.Coords) (arg6 : Memref sig .tc .vmem S1x8192x512 .bf16) (harg6 : arg6.IsWhole) (x3 : Vec F S1x8192x512 .bf16) : Vec F S1x512x256 .bf16 :=
  vals arg6 (harg6.unread x3) (k0_off18 i) (k0_off18_inb i)

/-- The stores into buffer 9 before the diagonal block. -/
def post9 (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (x1 : Vec F S1x512x512 .bf16) (x2 : Vec F S1x8192x512 .bf16) (x3 : Vec F S1x8192x512 .bf16) : List (View.Piece (Elt F) S4x512x128 .f32) :=
  (loop2 c i arg3 harg3 arg4 harg4 arg5 harg5 arg6 harg6 arg7 harg7 arg8 harg8 arg9 harg9 arg10 harg10 arg11 harg11 x1 x2 x3).1 ++ ((loop1 c i arg3 harg3 arg4 harg4 arg5 harg5 arg6 harg6 arg7 harg7 arg8 harg8 arg9 harg9 arg10 harg10 arg11 harg11 x1 x2 x3).1 ++ fill9)

/-- The stores into buffer 10 before the diagonal block. -/
def post10 (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (x1 : Vec F S1x512x512 .bf16) (x2 : Vec F S1x8192x512 .bf16) (x3 : Vec F S1x8192x512 .bf16) : List (View.Piece (Elt F) S4x512x128 .f32) :=
  (loop2 c i arg3 harg3 arg4 harg4 arg5 harg5 arg6 harg6 arg7 harg7 arg8 harg8 arg9 harg9 arg10 harg10 arg11 harg11 x1 x2 x3).2.1 ++ ((loop1 c i arg3 harg3 arg4 harg4 arg5 harg5 arg6 harg6 arg7 harg7 arg8 harg8 arg9 harg9 arg10 harg10 arg11 harg11 x1 x2 x3).2.1 ++ fill10)

/-- The stores into buffer 11 before the diagonal block. -/
def post11 (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (x1 : Vec F S1x512x512 .bf16) (x2 : Vec F S1x8192x512 .bf16) (x3 : Vec F S1x8192x512 .bf16) : List (View.Piece (Elt F) S4x512x256 .f32) :=
  (loop2 c i arg3 harg3 arg4 harg4 arg5 harg5 arg6 harg6 arg7 harg7 arg8 harg8 arg9 harg9 arg10 harg10 arg11 harg11 x1 x2 x3).2.2 ++ ((loop1 c i arg3 harg3 arg4 harg4 arg5 harg5 arg6 harg6 arg7 harg7 arg8 harg8 arg9 harg9 arg10 harg10 arg11 harg11 x1 x2 x3).2.2 ++ fill11)

section Words
variable (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (x1 : Vec F S1x512x512 .bf16) (x2 : Vec F S1x8192x512 .bf16) (x3 : Vec F S1x8192x512 .bf16) (x0 : Vec F S1 .f32) (x4 : Vec F S1x256 .f32)
/-- A word of the run in plain form. -/
theorem w_r : kernelRun0_A.sl.r (F := F) c arg4 harg4 x1 = (q0 arg4 harg4 x1) := by
  unfold kernelRun0_A.sl.r
  rfl
/-- A word of the run in plain form. -/
theorem w_r_1 : kernelRun0_A.sl.r_1 (F := F) c arg4 harg4 x1 = (q1 arg4 harg4 x1) := by
  unfold kernelRun0_A.sl.r_1
  rfl
/-- A word of the run in plain form. -/
theorem w_r_2 : kernelRun0_A.sl.r_2 (F := F) c arg4 harg4 x1 = (q2 arg4 harg4 x1) := by
  unfold kernelRun0_A.sl.r_2
  rfl
/-- A word of the run in plain form. -/
theorem w_r_3 : kernelRun0_A.sl.r_3 (F := F) c arg4 harg4 x1 = (q3 arg4 harg4 x1) := by
  unfold kernelRun0_A.sl.r_3
  rfl
/-- A word of the run in plain form. -/
theorem w_r_4 : kernelRun0_A.sl.r_4 (F := F) c i arg4 harg4 arg5 harg5 x1 x2 = (scores (q0 arg4 harg4 x1) (keys arg5 (harg5.unread x2) (k0_off13 i) (k0_off13_inb i))) := by
  unfold kernelRun0_A.sl.r_4
  rw [w_r]
  rfl
/-- A word of the run in plain form. -/
theorem w_r_5 : kernelRun0_A.sl.r_5 (F := F) c i arg4 harg4 arg5 harg5 x1 x2 = (scores (q1 arg4 harg4 x1) (keys arg5 (harg5.unread x2) (k0_off14 i) (k0_off14_inb i))) := by
  unfold kernelRun0_A.sl.r_5
  rw [w_r_1]
  rfl
/-- A word of the run in plain form. -/
theorem w_r_6 : kernelRun0_A.sl.r_6 (F := F) c i arg4 harg4 arg5 harg5 x1 x2 = (scores (q2 arg4 harg4 x1) (keys arg5 (harg5.unread x2) (k0_off15 i) (k0_off15_inb i))) := by
  unfold kernelRun0_A.sl.r_6
  rw [w_r_2]
  rfl
/-- A word of the run in plain form. -/
theorem w_r_7 : kernelRun0_A.sl.r_7 (F := F) c i arg4 harg4 arg5 harg5 x1 x2 = (scores (q3 arg4 harg4 x1) (keys arg5 (harg5.unread x2) (k0_off16 i) (k0_off16_inb i))) := by
  unfold kernelRun0_A.sl.r_7
  rw [w_r_3]
  rfl
/-- A word of the run in plain form. -/
theorem w_v121 : kernelRun0_A.sl.v121 (F := F) c i arg3 harg3 arg4 harg4 arg5 harg5 arg6 harg6 arg7 harg7 arg8 harg8 arg9 harg9 arg10 harg10 arg11 harg11 x1 x2 x3 = (arg9.view.readCov (post9 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect) := by
  unfold kernelRun0_A.sl.v121
  rfl
/-- A word of the run in plain form. -/
theorem w_v123 : kernelRun0_A.sl.v123 (F := F) c i arg3 harg3 arg4 harg4 arg5 harg5 arg6 harg6 arg7 harg7 arg8 harg8 arg9 harg9 arg10 harg10 arg11 harg11 x1 x2 x3 = (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect) := by
  unfold kernelRun0_A.sl.v123
  rfl
/-- A word of the run in plain form. -/
theorem w_v125 : kernelRun0_A.sl.v125 (F := F) c i arg3 harg3 arg4 harg4 arg5 harg5 arg6 harg6 arg7 harg7 arg8 harg8 arg9 harg9 arg10 harg10 arg11 harg11 x1 x2 x3 = (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect) := by
  unfold kernelRun0_A.sl.v125
  rfl
/-- A word of the run in plain form. -/
theorem w_v127 : kernelRun0_A.sl.v127 (F := F) c i arg3 harg3 arg4 harg4 arg5 harg5 arg6 harg6 arg7 harg7 arg8 harg8 arg9 harg9 arg10 harg10 arg11 harg11 x1 x2 x3 = (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect) := by
  unfold kernelRun0_A.sl.v127
  rfl
/-- A word of the run in plain form. -/
theorem w_v165 : kernelRun0_A.sl.v165 (F := F) c i arg3 harg3 arg4 harg4 arg5 harg5 arg6 harg6 arg7 harg7 arg8 harg8 arg9 harg9 arg10 harg10 arg11 harg11 x1 x2 x3 = (arg10.view.readCov (post10 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect) := by
  unfold kernelRun0_A.sl.v165
  rfl
/-- A word of the run in plain form. -/
theorem w_v172 : kernelRun0_A.sl.v172 (F := F) c i arg3 harg3 arg4 harg4 arg5 harg5 arg6 harg6 arg7 harg7 arg8 harg8 arg9 harg9 arg10 harg10 arg11 harg11 x1 x2 x3 = (arg10.view.readCov (post10 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect) := by
  unfold kernelRun0_A.sl.v172
  rfl
/-- A word of the run in plain form. -/
theorem w_v179 : kernelRun0_A.sl.v179 (F := F) c i arg3 harg3 arg4 harg4 arg5 harg5 arg6 harg6 arg7 harg7 arg8 harg8 arg9 harg9 arg10 harg10 arg11 harg11 x1 x2 x3 = (arg10.view.readCov (post10 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect) := by
  unfold kernelRun0_A.sl.v179
  rfl
/-- A word of the run in plain form. -/
theorem w_v186 : kernelRun0_A.sl.v186 (F := F) c i arg3 harg3 arg4 harg4 arg5 harg5 arg6 harg6 arg7 harg7 arg8 harg8 arg9 harg9 arg10 harg10 arg11 harg11 x1 x2 x3 = (arg10.view.readCov (post10 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect) := by
  unfold kernelRun0_A.sl.v186
  rfl
/-- A word of the run in plain form. -/
theorem w_v214 : kernelRun0_A.sl.v214 (F := F) c i arg3 harg3 arg4 harg4 arg5 harg5 arg6 harg6 arg7 harg7 arg8 harg8 arg9 harg9 arg10 harg10 arg11 harg11 x1 x2 x3 = (arg11.view.readCov (post11 c i arg3 harg3 arg4 harg4 arg5 harg5 arg6 harg6 arg7 harg7 arg8 harg8 arg9 harg9 arg10 harg10 arg11 harg11 x1 x2 x3) (Rect.unit (s := S4x512x256) ![0, 0, 0] S1x512x256.size inb_S4x512x256_S1x512x256_0_0_0).toLoadRect) := by
  unfold kernelRun0_A.sl.v214
  rfl
/-- A word of the run in plain form. -/
theorem w_r_10 : kernelRun0_A.sl.r_10 (F := F) c i arg4 harg4 arg5 harg5 x1 x2 = (diagScores2 i arg4 harg4 arg5 harg5 x1 x2) := by
  unfold kernelRun0_A.sl.r_10
  rw [w_r_6]
  rfl
/-- A word of the run in plain form. -/
theorem w_r_11 : kernelRun0_A.sl.r_11 (F := F) c i arg4 harg4 arg5 harg5 x1 x2 = (diagScores3 i arg4 harg4 arg5 harg5 x1 x2) := by
  unfold kernelRun0_A.sl.r_11
  rw [w_r_7]
  rfl
/-- A word of the run in plain form. -/
theorem w_r_12 : kernelRun0_A.sl.r_12 (F := F) c i arg3 harg3 arg4 harg4 arg5 harg5 arg6 harg6 arg7 harg7 arg8 harg8 arg9 harg9 arg10 harg10 arg11 harg11 x1 x2 x3 = (shapeCast S512x128 (arg9.view.readCov (post9 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect) shapeCasts_S1x512x128_S512x128) := by
  unfold kernelRun0_A.sl.r_12
  rw [w_v121]
  rfl
/-- A word of the run in plain form. -/
theorem w_r_13 : kernelRun0_A.sl.r_13 (F := F) c i arg3 harg3 arg4 harg4 arg5 harg5 arg6 harg6 arg7 harg7 arg8 harg8 arg9 harg9 arg10 harg10 arg11 harg11 x1 x2 x3 = (shapeCast S512x128 (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect) shapeCasts_S1x512x128_S512x128) := by
  unfold kernelRun0_A.sl.r_13
  rw [w_v123]
  rfl
/-- A word of the run in plain form. -/
theorem w_r_14 : kernelRun0_A.sl.r_14 (F := F) c i arg3 harg3 arg4 harg4 arg5 harg5 arg6 harg6 arg7 harg7 arg8 harg8 arg9 harg9 arg10 harg10 arg11 harg11 x1 x2 x3 = (shapeCast S512x128 (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect) shapeCasts_S1x512x128_S512x128) := by
  unfold kernelRun0_A.sl.r_14
  rw [w_v125]
  rfl
/-- A word of the run in plain form. -/
theorem w_r_15 : kernelRun0_A.sl.r_15 (F := F) c i arg3 harg3 arg4 harg4 arg5 harg5 arg6 harg6 arg7 harg7 arg8 harg8 arg9 harg9 arg10 harg10 arg11 harg11 x1 x2 x3 = (shapeCast S512x128 (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect) shapeCasts_S1x512x128_S512x128) := by
  unfold kernelRun0_A.sl.r_15
  rw [w_v127]
  rfl
/-- A word of the run in plain form. -/
theorem w_r_16 : kernelRun0_A.sl.r_16 (F := F) c i arg3 harg3 arg4 harg4 arg5 harg5 arg6 harg6 arg7 harg7 arg8 harg8 arg9 harg9 arg10 harg10 arg11 harg11 x1 x2 x3 = (newMax (diagScores0 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect)) := by
  unfold kernelRun0_A.sl.r_16
  rw [w_r_4]
  rw [w_v121]
  rfl
/-- A word of the run in plain form. -/
theorem w_r_17 : kernelRun0_A.sl.r_17 (F := F) c i arg3 harg3 arg4 harg4 arg5 harg5 arg6 harg6 arg7 harg7 arg8 harg8 arg9 harg9 arg10 harg10 arg11 harg11 x1 x2 x3 = (newMax (diagScores1 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect)) := by
  unfold kernelRun0_A.sl.r_17
  rw [w_r_5]
  rw [w_v123]
  rfl
/-- A word of the run in plain form. -/
theorem w_r_18 : kernelRun0_A.sl.r_18 (F := F) c i arg3 harg3 arg4 harg4 arg5 harg5 arg6 harg6 arg7 harg7 arg8 harg8 arg9 harg9 arg10 harg10 arg11 harg11 x1 x2 x3 = (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect)) := by
  unfold kernelRun0_A.sl.r_18
  rw [w_r_6]
  rw [w_v125]
  rfl
/-- A word of the run in plain form. -/
theorem w_r_19 : kernelRun0_A.sl.r_19 (F := F) c i arg3 harg3 arg4 harg4 arg5 harg5 arg6 harg6 arg7 harg7 arg8 harg8 arg9 harg9 arg10 harg10 arg11 harg11 x1 x2 x3 = (newMax (diagScores3 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect)) := by
  unfold kernelRun0_A.sl.r_19
  rw [w_r_7]
  rw [w_v127]
  rfl
/-- A word of the run in plain form. -/
theorem w_r_20 : kernelRun0_A.sl.r_20 (F := F) c i arg3 harg3 arg4 harg4 arg5 harg5 arg6 harg6 arg7 harg7 arg8 harg8 arg9 harg9 arg10 harg10 arg11 harg11 x1 x2 x3 = (weights (diagScores0 i arg4 harg4 arg5 harg5 x1 x2) (newMax (diagScores0 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect))) := by
  unfold kernelRun0_A.sl.r_20
  rw [w_r_4]
  rw [w_v121]
  rfl
/-- A word of the run in plain form. -/
theorem w_r_21 : kernelRun0_A.sl.r_21 (F := F) c i arg3 harg3 arg4 harg4 arg5 harg5 arg6 harg6 arg7 harg7 arg8 harg8 arg9 harg9 arg10 harg10 arg11 harg11 x1 x2 x3 = (weights (diagScores1 i arg4 harg4 arg5 harg5 x1 x2) (newMax (diagScores1 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect))) := by
  unfold kernelRun0_A.sl.r_21
  rw [w_r_5]
  rw [w_v123]
  rfl
/-- A word of the run in plain form. -/
theorem w_r_22 : kernelRun0_A.sl.r_22 (F := F) c i arg3 harg3 arg4 harg4 arg5 harg5 arg6 harg6 arg7 harg7 arg8 harg8 arg9 harg9 arg10 harg10 arg11 harg11 x1 x2 x3 = (concatenate S512x512 1 [⟨S512x128, (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect))⟩, ⟨S512x128, (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect))⟩, ⟨S512x128, (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect))⟩, ⟨S512x128, (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect))⟩] concatenates_S512x128_S512x128_S512x128_S512x128_S512x512_d1) := by
  unfold kernelRun0_A.sl.r_22
  rw [w_r_6]
  rw [w_v125]
  rfl
/-- A word of the run in plain form. -/
theorem w_r_23 : kernelRun0_A.sl.r_23 (F := F) c i arg3 harg3 arg4 harg4 arg5 harg5 arg6 harg6 arg7 harg7 arg8 harg8 arg9 harg9 arg10 harg10 arg11 harg11 x1 x2 x3 = (weights (diagScores2 i arg4 harg4 arg5 harg5 x1 x2) (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect))) := by
  unfold kernelRun0_A.sl.r_23
  rw [w_r_10]
  rw [w_r_22]
  rfl
/-- A word of the run in plain form. -/
theorem w_r_24 : kernelRun0_A.sl.r_24 (F := F) c i arg3 harg3 arg4 harg4 arg5 harg5 arg6 harg6 arg7 harg7 arg8 harg8 arg9 harg9 arg10 harg10 arg11 harg11 x1 x2 x3 = (weights (diagScores3 i arg4 harg4 arg5 harg5 x1 x2) (newMax (diagScores3 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect))) := by
  unfold kernelRun0_A.sl.r_24
  rw [w_r_11]
  rw [w_r_19]
  rfl
/-- A word of the run in plain form. -/
theorem w_r_25 : kernelRun0_A.sl.r_25 (F := F) c i arg3 harg3 arg4 harg4 arg5 harg5 arg6 harg6 arg7 harg7 arg8 harg8 arg9 harg9 arg10 harg10 arg11 harg11 x1 x2 x3 = (decay (arg9.view.readCov (post9 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect) (newMax (diagScores0 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect))) := by
  unfold kernelRun0_A.sl.r_25
  rw [w_r_12]
  rw [w_r_16]
  rfl
/-- A word of the run in plain form. -/
theorem w_r_26 : kernelRun0_A.sl.r_26 (F := F) c i arg3 harg3 arg4 harg4 arg5 harg5 arg6 harg6 arg7 harg7 arg8 harg8 arg9 harg9 arg10 harg10 arg11 harg11 x1 x2 x3 = (decay (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect) (newMax (diagScores1 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect))) := by
  unfold kernelRun0_A.sl.r_26
  rw [w_r_13]
  rw [w_r_17]
  rfl
/-- A word of the run in plain form. -/
theorem w_r_27 : kernelRun0_A.sl.r_27 (F := F) c i arg3 harg3 arg4 harg4 arg5 harg5 arg6 harg6 arg7 harg7 arg8 harg8 arg9 harg9 arg10 harg10 arg11 harg11 x1 x2 x3 = (decay (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect) (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect))) := by
  unfold kernelRun0_A.sl.r_27
  rw [w_r_14]
  rw [w_r_18]
  rfl
/-- A word of the run in plain form. -/
theorem w_r_28 : kernelRun0_A.sl.r_28 (F := F) c i arg3 harg3 arg4 harg4 arg5 harg5 arg6 harg6 arg7 harg7 arg8 harg8 arg9 harg9 arg10 harg10 arg11 harg11 x1 x2 x3 = (decay (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect) (newMax (diagScores3 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect))) := by
  unfold kernelRun0_A.sl.r_28
  rw [w_r_15]
  rw [w_r_19]
  rfl
/-- A word of the run in plain form. -/
theorem w_r_29 : kernelRun0_A.sl.r_29 (F := F) c i arg3 harg3 arg4 harg4 arg5 harg5 arg6 harg6 arg7 harg7 arg8 harg8 arg9 harg9 arg10 harg10 arg11 harg11 x1 x2 x3 = (newSum (decay (arg9.view.readCov (post9 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect) (newMax (diagScores0 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect))) (arg10.view.readCov (post10 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect) (weights (diagScores0 i arg4 harg4 arg5 harg5 x1 x2) (newMax (diagScores0 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect)))) := by
  unfold kernelRun0_A.sl.r_29
  rw [w_r_12]
  rw [w_r_16]
  rw [w_r_20]
  rw [w_v165]
  rfl
/-- A word of the run in plain form. -/
theorem w_r_30 : kernelRun0_A.sl.r_30 (F := F) c i arg3 harg3 arg4 harg4 arg5 harg5 arg6 harg6 arg7 harg7 arg8 harg8 arg9 harg9 arg10 harg10 arg11 harg11 x1 x2 x3 = (newSum (decay (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect) (newMax (diagScores1 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect))) (arg10.view.readCov (post10 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect) (weights (diagScores1 i arg4 harg4 arg5 harg5 x1 x2) (newMax (diagScores1 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect)))) := by
  unfold kernelRun0_A.sl.r_30
  rw [w_r_13]
  rw [w_r_17]
  rw [w_r_21]
  rw [w_v172]
  rfl
/-- A word of the run in plain form. -/
theorem w_r_31 : kernelRun0_A.sl.r_31 (F := F) c i arg3 harg3 arg4 harg4 arg5 harg5 arg6 harg6 arg7 harg7 arg8 harg8 arg9 harg9 arg10 harg10 arg11 harg11 x1 x2 x3 = (newSum (decay (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect) (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect))) (arg10.view.readCov (post10 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect) (weights (diagScores2 i arg4 harg4 arg5 harg5 x1 x2) (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect)))) := by
  unfold kernelRun0_A.sl.r_31
  rw [w_r_10]
  rw [w_r_14]
  rw [w_r_18]
  rw [w_r_22]
  rw [w_v179]
  rfl
/-- A word of the run in plain form. -/
theorem w_r_32 : kernelRun0_A.sl.r_32 (F := F) c i arg3 harg3 arg4 harg4 arg5 harg5 arg6 harg6 arg7 harg7 arg8 harg8 arg9 harg9 arg10 harg10 arg11 harg11 x1 x2 x3 = (newSum (decay (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect) (newMax (diagScores3 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect))) (arg10.view.readCov (post10 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect) (weights (diagScores3 i arg4 harg4 arg5 harg5 x1 x2) (newMax (diagScores3 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect)))) := by
  unfold kernelRun0_A.sl.r_32
  rw [w_r_11]
  rw [w_r_15]
  rw [w_r_19]
  rw [w_v186]
  rfl
/-- A word of the run in plain form. -/
theorem w_r_33 : kernelRun0_A.sl.r_33 (F := F) c i arg3 harg3 arg4 harg4 arg5 harg5 arg6 harg6 arg7 harg7 arg8 harg8 arg9 harg9 arg10 harg10 arg11 harg11 x1 x2 x3 = (matmul dot_S512x512_S512x256_S512x256_1_0_0_1_n_n none (truncf .bf16 (weights (diagScores1 i arg4 harg4 arg5 harg5 x1 x2) (newMax (diagScores1 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect))) bitsLt_bf16_f32) (shapeCast S512x256 (diagVals0 i arg6 harg6 x3) shapeCasts_S1x512x256_S512x256) (constant S512x256 .f32 0x00000000#32)) := by
  unfold kernelRun0_A.sl.r_33
  rw [w_r_21]
  rfl
/-- A word of the run in plain form. -/
theorem w_r_34 : kernelRun0_A.sl.r_34 (F := F) c i arg3 harg3 arg4 harg4 arg5 harg5 arg6 harg6 arg7 harg7 arg8 harg8 arg9 harg9 arg10 harg10 arg11 harg11 x1 x2 x3 = (matmul dot_S512x512_S512x256_S512x256_1_0_0_1_n_n none (truncf .bf16 (weights (diagScores2 i arg4 harg4 arg5 harg5 x1 x2) (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect))) bitsLt_bf16_f32) (shapeCast S512x256 (diagVals1 i arg6 harg6 x3) shapeCasts_S1x512x256_S512x256) (constant S512x256 .f32 0x00000000#32)) := by
  unfold kernelRun0_A.sl.r_34
  rw [w_r_23]
  rfl
/-- A word of the run in plain form. -/
theorem w_r_35 : kernelRun0_A.sl.r_35 (F := F) c i arg3 harg3 arg4 harg4 arg5 harg5 arg6 harg6 arg7 harg7 arg8 harg8 arg9 harg9 arg10 harg10 arg11 harg11 x1 x2 x3 = (matmul dot_S512x512_S512x256_S512x256_1_0_0_1_n_n none (truncf .bf16 (weights (diagScores3 i arg4 harg4 arg5 harg5 x1 x2) (newMax (diagScores3 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect))) bitsLt_bf16_f32) (shapeCast S512x256 (diagVals1 i arg6 harg6 x3) shapeCasts_S1x512x256_S512x256) (constant S512x256 .f32 0x00000000#32)) := by
  unfold kernelRun0_A.sl.r_35
  rw [w_r_24]
  rfl
/-- A word of the run in plain form. -/
theorem w_r_36 : kernelRun0_A.sl.r_36 (F := F) c i arg3 harg3 arg4 harg4 arg5 harg5 arg6 harg6 arg7 harg7 arg8 harg8 arg9 harg9 arg10 harg10 arg11 harg11 x1 x2 x3 = (concatenate S512x256 1 [⟨S512x128, (decay (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect) (newMax (diagScores1 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect)))⟩, ⟨S512x128, (decay (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect) (newMax (diagScores1 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect)))⟩] concatenates_S512x128_S512x128_S512x256_d1) := by
  unfold kernelRun0_A.sl.r_36
  rw [w_r_26]
  rfl
/-- A word of the run in plain form. -/
theorem w_r_37 : kernelRun0_A.sl.r_37 (F := F) c i arg3 harg3 arg4 harg4 arg5 harg5 arg6 harg6 arg7 harg7 arg8 harg8 arg9 harg9 arg10 harg10 arg11 harg11 x1 x2 x3 = (concatenate S512x256 1 [⟨S512x128, (decay (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect) (newMax (diagScores3 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect)))⟩, ⟨S512x128, (decay (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect) (newMax (diagScores3 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect)))⟩] concatenates_S512x128_S512x128_S512x256_d1) := by
  unfold kernelRun0_A.sl.r_37
  rw [w_r_28]
  rfl
/-- A word of the run in plain form. -/
theorem w_HS2_1_1 : kernelRun0_A.sl.HS2_1_1 (F := F) c i arg3 harg3 arg4 harg4 arg5 harg5 arg6 harg6 arg7 harg7 arg8 harg8 arg9 harg9 arg10 harg10 arg11 harg11 x1 x2 x3 = (diagAccs0 arg9 arg11 (diagScores0 i arg4 harg4 arg5 harg5 x1 x2) (diagVals0 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) := by
  unfold kernelRun0_A.sl.HS2_1_1
  rw [w_r_20]
  rw [w_r_25]
  rw [w_v214]
  rfl
/-- A word of the run in plain form. -/
theorem w_v228 : kernelRun0_A.sl.v228 (F := F) c i arg3 harg3 arg4 harg4 arg5 harg5 arg6 harg6 arg7 harg7 arg8 harg8 arg9 harg9 arg10 harg10 arg11 harg11 x1 x2 x3 = (arg11.view.readCov (diagAccs0 arg9 arg11 (diagScores0 i arg4 harg4 arg5 harg5 x1 x2) (diagVals0 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![1, 0, 0] S1x512x256.size inb_S4x512x256_S1x512x256_1_0_0).toLoadRect) := by
  unfold kernelRun0_A.sl.v228
  rw [w_HS2_1_1]
/-- A word of the run in plain form. -/
theorem w_HS2_2 : kernelRun0_A.sl.HS2_2 (F := F) c i arg3 harg3 arg4 harg4 arg5 harg5 arg6 harg6 arg7 harg7 arg8 harg8 arg9 harg9 arg10 harg10 arg11 harg11 x1 x2 x3 = (diagAccs1 arg9 arg11 (diagScores0 i arg4 harg4 arg5 harg5 x1 x2) (diagScores1 i arg4 harg4 arg5 harg5 x1 x2) (diagVals0 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) := by
  unfold kernelRun0_A.sl.HS2_2
  rw [w_r_33]
  rw [w_r_36]
  rw [w_v228]
  rw [w_HS2_1_1]
  rfl
/-- A word of the run in plain form. -/
theorem w_v242 : kernelRun0_A.sl.v242 (F := F) c i arg3 harg3 arg4 harg4 arg5 harg5 arg6 harg6 arg7 harg7 arg8 harg8 arg9 harg9 arg10 harg10 arg11 harg11 x1 x2 x3 = (arg11.view.readCov (diagAccs1 arg9 arg11 (diagScores0 i arg4 harg4 arg5 harg5 x1 x2) (diagScores1 i arg4 harg4 arg5 harg5 x1 x2) (diagVals0 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![2, 0, 0] S1x512x256.size inb_S4x512x256_S1x512x256_2_0_0).toLoadRect) := by
  unfold kernelRun0_A.sl.v242
  rw [w_HS2_2]
/-- A word of the run in plain form. -/
theorem w_HS2_3 : kernelRun0_A.sl.HS2_3 (F := F) c i arg3 harg3 arg4 harg4 arg5 harg5 arg6 harg6 arg7 harg7 arg8 harg8 arg9 harg9 arg10 harg10 arg11 harg11 x1 x2 x3 = (diagAccs2 arg9 arg11 (diagScores0 i arg4 harg4 arg5 harg5 x1 x2) (diagScores1 i arg4 harg4 arg5 harg5 x1 x2) (diagScores2 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) := by
  unfold kernelRun0_A.sl.HS2_3
  rw [w_r_27]
  rw [w_r_34]
  rw [w_v242]
  rw [w_HS2_2]
  rfl
/-- A word of the run in plain form. -/
theorem w_v256 : kernelRun0_A.sl.v256 (F := F) c i arg3 harg3 arg4 harg4 arg5 harg5 arg6 harg6 arg7 harg7 arg8 harg8 arg9 harg9 arg10 harg10 arg11 harg11 x1 x2 x3 = (arg11.view.readCov (diagAccs2 arg9 arg11 (diagScores0 i arg4 harg4 arg5 harg5 x1 x2) (diagScores1 i arg4 harg4 arg5 harg5 x1 x2) (diagScores2 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![3, 0, 0] S1x512x256.size inb_S4x512x256_S1x512x256_3_0_0).toLoadRect) := by
  unfold kernelRun0_A.sl.v256
  rw [w_HS2_3]
/-- A word of the run in plain form. -/
theorem w_HS2_4 : kernelRun0_A.sl.HS2_4 (F := F) c i arg3 harg3 arg4 harg4 arg5 harg5 arg6 harg6 arg7 harg7 arg8 harg8 arg9 harg9 arg10 harg10 arg11 harg11 x1 x2 x3 = (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) := by
  unfold kernelRun0_A.sl.HS2_4
  rw [w_r_35]
  rw [w_r_37]
  rw [w_v256]
  rw [w_HS2_3]
  rfl
/-- A word of the run in plain form. -/
theorem w_HS1_4 : kernelRun0_A.sl.HS1_4 (F := F) c i arg3 harg3 arg4 harg4 arg5 harg5 arg6 harg6 arg7 harg7 arg8 harg8 arg9 harg9 arg10 harg10 arg11 harg11 x1 x2 x3 = (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) := by
  unfold kernelRun0_A.sl.HS1_4
  rw [w_r_32]
  rw [w_r_31]
  rw [w_r_30]
  rw [w_r_29]
  rfl
/-- A word of the run in plain form. -/
theorem w_v270 : kernelRun0_A.sl.v270 (F := F) c i arg3 harg3 arg4 harg4 arg5 harg5 arg6 harg6 arg7 harg7 arg8 harg8 arg9 harg9 arg10 harg10 arg11 harg11 x1 x2 x3 = (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![0, 0, 0] S1x512x128.size inb_S4x512x128_S1x512x128_0_0_0).toLoadRect) := by
  unfold kernelRun0_A.sl.v270
  rw [w_HS1_4]
/-- A word of the run in plain form. -/
theorem w_v275 : kernelRun0_A.sl.v275 (F := F) c i arg3 harg3 arg4 harg4 arg5 harg5 arg6 harg6 arg7 harg7 arg8 harg8 arg9 harg9 arg10 harg10 arg11 harg11 x1 x2 x3 = (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![1, 0, 0] S1x512x128.size inb_S4x512x128_S1x512x128_1_0_0).toLoadRect) := by
  unfold kernelRun0_A.sl.v275
  rw [w_HS1_4]
/-- A word of the run in plain form. -/
theorem w_v309 : kernelRun0_A.sl.v309 (F := F) c i arg3 harg3 arg4 harg4 arg5 harg5 arg6 harg6 arg7 harg7 arg8 harg8 arg9 harg9 arg10 harg10 arg11 harg11 x1 x2 x3 = (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![2, 0, 0] S1x512x128.size inb_S4x512x128_S1x512x128_2_0_0).toLoadRect) := by
  unfold kernelRun0_A.sl.v309
  rw [w_HS1_4]
/-- A word of the run in plain form. -/
theorem w_v314 : kernelRun0_A.sl.v314 (F := F) c i arg3 harg3 arg4 harg4 arg5 harg5 arg6 harg6 arg7 harg7 arg8 harg8 arg9 harg9 arg10 harg10 arg11 harg11 x1 x2 x3 = (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![3, 0, 0] S1x512x128.size inb_S4x512x128_S1x512x128_3_0_0).toLoadRect) := by
  unfold kernelRun0_A.sl.v314
  rw [w_HS1_4]
/-- A word of the run in plain form. -/
theorem w_v280 : kernelRun0_A.sl.v280 (F := F) c i arg3 harg3 arg4 harg4 arg5 harg5 arg6 harg6 arg7 harg7 arg8 harg8 arg9 harg9 arg10 harg10 arg11 harg11 x1 x2 x3 = (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![0, 0, 0] S1x512x256.size inb_S4x512x256_S1x512x256_0_0_0).toLoadRect) := by
  unfold kernelRun0_A.sl.v280
  rw [w_HS2_4]
/-- A word of the run in plain form. -/
theorem w_v283 : kernelRun0_A.sl.v283 (F := F) c i arg3 harg3 arg4 harg4 arg5 harg5 arg6 harg6 arg7 harg7 arg8 harg8 arg9 harg9 arg10 harg10 arg11 harg11 x1 x2 x3 = (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![1, 0, 0] S1x512x256.size inb_S4x512x256_S1x512x256_1_0_0).toLoadRect) := by
  unfold kernelRun0_A.sl.v283
  rw [w_HS2_4]
/-- A word of the run in plain form. -/
theorem w_v319 : kernelRun0_A.sl.v319 (F := F) c i arg3 harg3 arg4 harg4 arg5 harg5 arg6 harg6 arg7 harg7 arg8 harg8 arg9 harg9 arg10 harg10 arg11 harg11 x1 x2 x3 = (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![2, 0, 0] S1x512x256.size inb_S4x512x256_S1x512x256_2_0_0).toLoadRect) := by
  unfold kernelRun0_A.sl.v319
  rw [w_HS2_4]
/-- A word of the run in plain form. -/
theorem w_v322 : kernelRun0_A.sl.v322 (F := F) c i arg3 harg3 arg4 harg4 arg5 harg5 arg6 harg6 arg7 harg7 arg8 harg8 arg9 harg9 arg10 harg10 arg11 harg11 x1 x2 x3 = (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![3, 0, 0] S1x512x256.size inb_S4x512x256_S1x512x256_3_0_0).toLoadRect) := by
  unfold kernelRun0_A.sl.v322
  rw [w_HS2_4]
/-- A word of the run in plain form. -/
theorem w_r_38 : kernelRun0_A.sl.r_38 (F := F) c arg3 harg3 x0 = (View.readAt (Elt F) arg3.view (Rect.unit (s := S1) ![0] S1.size inb_S1_S1_0).toLoadRect (harg3.unread x0) (Shape.Idx.first (by decide))) := by
  unfold kernelRun0_A.sl.r_38
  rfl
/-- A word of the run in plain form. -/
theorem w_r_39 : kernelRun0_A.sl.r_39 (F := F) c i arg3 harg3 arg4 harg4 arg5 harg5 arg6 harg6 arg7 harg7 arg8 harg8 arg9 harg9 arg10 harg10 arg11 harg11 x0 x1 x2 x3 = (mix (View.readAt (Elt F) arg3.view (Rect.unit (s := S1) ![0] S1.size inb_S1_S1_0).toLoadRect (harg3.unread x0) (Shape.Idx.first (by decide))) (quot (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![0, 0, 0] S1x512x128.size inb_S4x512x128_S1x512x128_0_0_0).toLoadRect) (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![0, 0, 0] S1x512x256.size inb_S4x512x256_S1x512x256_0_0_0).toLoadRect)) (quot (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![1, 0, 0] S1x512x128.size inb_S4x512x128_S1x512x128_1_0_0).toLoadRect) (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![1, 0, 0] S1x512x256.size inb_S4x512x256_S1x512x256_1_0_0).toLoadRect))) := by
  unfold kernelRun0_A.sl.r_39
  rw [w_r_38]
  rw [w_v270]
  rw [w_v275]
  rw [w_v280]
  rw [w_v283]
  rfl
/-- A word of the run in plain form. -/
theorem w_r_40 : kernelRun0_A.sl.r_40 (F := F) c i arg3 harg3 arg4 harg4 arg5 harg5 arg6 harg6 arg7 harg7 arg8 harg8 arg9 harg9 arg10 harg10 arg11 harg11 x1 x2 x3 = (quot (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![2, 0, 0] S1x512x128.size inb_S4x512x128_S1x512x128_2_0_0).toLoadRect) (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![2, 0, 0] S1x512x256.size inb_S4x512x256_S1x512x256_2_0_0).toLoadRect)) := by
  unfold kernelRun0_A.sl.r_40
  rw [w_v309]
  rw [w_v319]
  rfl
/-- A word of the run in plain form. -/
theorem w_r_41 : kernelRun0_A.sl.r_41 (F := F) c i arg3 harg3 arg4 harg4 arg5 harg5 arg6 harg6 arg7 harg7 arg8 harg8 arg9 harg9 arg10 harg10 arg11 harg11 x1 x2 x3 = (quot (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![3, 0, 0] S1x512x128.size inb_S4x512x128_S1x512x128_3_0_0).toLoadRect) (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![3, 0, 0] S1x512x256.size inb_S4x512x256_S1x512x256_3_0_0).toLoadRect)) := by
  unfold kernelRun0_A.sl.r_41
  rw [w_v314]
  rw [w_v322]
  rfl

/-- What the body stores to its output block. -/
theorem run_eq : (kernelRun0_A (F := F) c i arg3 harg3 arg4 harg4 arg5 harg5 arg6 harg6 arg7 harg7 arg8 harg8 arg9 harg9 arg10 harg10 arg11 harg11 x0 x1 x2 x3 x4).1 = outList arg9 arg10 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3)
      (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3) (View.readAt (Elt F) arg3.view (Rect.unit (s := S1) ![0] S1.size inb_S1_S1_0).toLoadRect (harg3.unread x0) (Shape.Idx.first (by decide)))
      (View.readAt (Elt F) arg7.view (Rect.unit (s := S1x256) ![0, 0] S1x256.size inb_S1x256_S1x256_0_0).toLoadRect (harg7.unread x4)) := by
  unfold kernelRun0_A
  dsimp only
  rw [w_r_40, w_r_41, w_r_39, w_r_38]
  rfl
end Words

end Cert.KernelIdeal.DA
-- ==== Proof.Chains.lean ====
module
public import proofs.«01_k».proof.Proof.Gen.KernelIdeal.Value
public import proofs.«01_k».proof.Proof.Run
public import Idealize.ShloMosaic.Lib.Pointwise
public import Idealize.ShloMosaic.PureOps.IdealRules
public import Idealize.ShloMosaic.Lib.WritesUnit
@[expose] public section
set_option maxRecDepth 16384
noncomputable section
namespace Cert.KernelIdeal.DA
open Cert.DiffAttn Cert.KernelIdeal Cert.KernelIdeal.Gen
open Idealize.ShloMosaic Idealize.ShloMosaic.TcCoe Idealize.SL.Sem Idealize.ShloMosaic.Tactic
open Idealize.ShloMosaic.Pipeline (Dat)

theorem chunk_col (r c : Fin 512) : k0_pay100 (ix2 r c) = BitVec.ofNat 32 (c.val / 64) := by
  have h : ∀ c : Fin 512, k0_pay100 (ix2 0 c) = BitVec.ofNat 32 (c.val / 64) := by decide +kernel
  exact h c

theorem chunk_row (r c : Fin 512) : k0_pay99 (iota .tc S512x512 32 [0] iota_S512x512_d0_w32) 64#32 k0_pay97 k0_pay98 (ix2 r c)
    = BitVec.ofNat 32 (r.val / 64) := by
  have h : ∀ r : Fin 512, k0_pay99 (iota .tc S512x512 32 [0] iota_S512x512_d0_w32) 64#32 k0_pay97 k0_pay98 (ix2 r 0)
    = BitVec.ofNat 32 (r.val / 64) := by decide +kernel
  exact h r

/-- A query sees the keys of its own chunk of 64 and of those before it. -/
theorem diagMask_apply (r c : Fin 512) : diagMask (ix2 r c) = if c.val / 64 ≤ r.val / 64 then 1#1 else 0#1 := by
  show IntOp.cmpi .sle (k0_pay100 (ix2 r c)) (k0_pay99 _ _ _ _ (ix2 r c)) = _
  rw [chunk_col, chunk_row]
  have h : ∀ a b : Fin 8, IntOp.cmpi .sle (BitVec.ofNat 32 a.val) (BitVec.ofNat 32 b.val) = if a.val ≤ b.val then 1#1 else 0#1 := by
    decide
  have hc := c.isLt
  have hr := r.isLt
  exact h ⟨c.val / 64, by omega⟩ ⟨r.val / 64, by omega⟩

theorem mask_bot : Named.named (F := Ideal) (φ := .f32) κ "mask" 0xF149F2CA#32 = (⊥ : EReal) :=
  IdealRules.named_const.ideal_named_scalar _ _ _ _ rfl

theorem masked_apply (s : FVec Ideal S512x512 .f32) (r c : Fin 512) :
    masked s (ix2 r c) = if c.val / 64 ≤ r.val / 64 then s (ix2 r c) else ⊥ := by
  show (if diagMask (ix2 r c) = 1#1 then s (ix2 r c) else Named.named (F := Ideal) (φ := .f32) κ "mask" 0xF149F2CA#32) = _
  rw [diagMask_apply, mask_bot]
  by_cases h : c.val / 64 ≤ r.val / 64
  · rw [if_pos h, if_pos h, if_pos rfl]
  · rw [if_neg h, if_neg h, if_neg (by decide)]

/-- The scores of a query of block `n` against block `k`, the unseen keys' replaced by `-∞`. -/
def seenScores (q : FVec Ideal S512x128 .bf16) (x : Vec Ideal S1x8192x512 .bf16) (o : ℕ) (ho : o + 128 ≤ 512) (n : ℕ) (r : Fin 512) (k : ℕ)
    (c : Fin 512) : EReal :=
  if (512 * k + c.val) / 64 ≤ (512 * n + r.val) / 64 then blockScores q x o ho r k c else ⊥

theorem seen_before (q : FVec Ideal S512x128 .bf16) (x : Vec Ideal S1x8192x512 .bf16) (o : ℕ) (ho : o + 128 ≤ 512) (n : ℕ) (r : Fin 512) (k : ℕ)
    (hk : k < n) : seenScores q x o ho n r k = blockScores q x o ho r k := by
  funext c
  have := c.isLt
  exact if_pos (by omega)

theorem rowAfter_congr (s s' : ℕ → Fin 512 → EReal) (v : ℕ → Fin 512 → Fin 256 → EReal) (n : ℕ) (h : ∀ k < n, s k = s' k) :
    rowAfter s v n = rowAfter s' v n := by
  induction n with
  | zero => rfl
  | succ n ih =>
    show rowStep _ _ _ = rowStep _ _ _
    rw [ih fun k hk => h k (by omega), h n (by omega)]

theorem zero_bits : Ideal.ofBits .f32 0x00000000#32 = (0 : EReal) := by
  simp [Ideal.ofBits, Ideal.ieee]

section Rows
variable (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (x1 : Vec Ideal S1x512x512 .bf16) (x2 : Vec Ideal S1x8192x512 .bf16) (x3 : Vec Ideal S1x8192x512 .bf16)

theorem loop2_nil : loop2 (F := Ideal) c i arg3 harg3 arg4 harg4 arg5 harg5 arg6 harg6 arg7 harg7 arg8 harg8 arg9 harg9 arg10 harg10 arg11 harg11 x1 x2 x3 = ([], [], []) := by
  unfold loop2
  rw [trips2]
  rfl

theorem fill_mask (v : View sig .tc .vmem S4x512x128 .f32) (o : ℕ) (ho : o < 4) (off : Fin 3 → ℕ) (h : off = ![o, 0, 0]) (inb : ∀ a, off a + S1x512x128.size a ≤ S4x512x128.size a) (r : Fin 512) (l : Fin 128) :
    View.readAt (Elt Ideal) v (Rect.unit (s := S4x512x128) off S1x512x128.size inb).toLoadRect (v.writes (Elt Ideal) v.junk fill9) (ix3 0 r l) = (⊥ : EReal) := by
  subst h
  rw [View.readAt_eq_ld]
  refine (View.read_writes_cons_unit_of_mem v _ _ _ _ _ (ix3 ⟨o, ho⟩ r l) rfl ?_).trans mask_bot
  intro a
  fin_cases a
  · show o + 1 * 0 = 0 + o; omega
  · show 0 + 1 * r.val = 0 + r.val; omega
  · show 0 + 1 * l.val = 0 + l.val; omega

theorem fill_zero (v : View sig .tc .vmem S4x512x128 .f32) (o : ℕ) (ho : o < 4) (off : Fin 3 → ℕ) (h : off = ![o, 0, 0]) (inb : ∀ a, off a + S1x512x128.size a ≤ S4x512x128.size a) (r : Fin 512) (l : Fin 128) :
    View.readAt (Elt Ideal) v (Rect.unit (s := S4x512x128) off S1x512x128.size inb).toLoadRect (v.writes (Elt Ideal) v.junk fill10) (ix3 0 r l) = (0 : EReal) := by
  subst h
  rw [View.readAt_eq_ld]
  refine (View.read_writes_cons_unit_of_mem v _ _ _ _ _ (ix3 ⟨o, ho⟩ r l) rfl ?_).trans zero_bits
  intro a
  fin_cases a
  · show o + 1 * 0 = 0 + o; omega
  · show 0 + 1 * r.val = 0 + r.val; omega
  · show 0 + 1 * l.val = 0 + l.val; omega

theorem fill_zeroA (v : View sig .tc .vmem S4x512x256 .f32) (o : ℕ) (ho : o < 4) (off : Fin 3 → ℕ) (h : off = ![o, 0, 0]) (inb : ∀ a, off a + S1x512x256.size a ≤ S4x512x256.size a) (r : Fin 512) (l : Fin 256) :
    View.readAt (Elt Ideal) v (Rect.unit (s := S4x512x256) off S1x512x256.size inb).toLoadRect (v.writes (Elt Ideal) v.junk fill11) (ix3 0 r l) = (0 : EReal) := by
  subst h
  rw [View.readAt_eq_ld]
  refine (View.read_writes_cons_unit_of_mem v _ _ _ _ _ (ix3 ⟨o, ho⟩ r l) rfl ?_).trans zero_bits
  intro a
  fin_cases a
  · show o + 1 * 0 = 0 + o; omega
  · show 0 + 1 * r.val = 0 + r.val; omega
  · show 0 + 1 * l.val = 0 + l.val; omega

/-- Chain 0's slabs before the diagonal block. -/
theorem post_rows0 : Rows (arg9.view.readCov (post9 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect) (arg10.view.readCov (post10 c i arg3 harg3 arg4 harg4 arg5 harg5 arg6 harg6 arg7 harg7 arg8 harg8 arg9 harg9 arg10 harg10 arg11 harg11 x1 x2 x3) (Rect.unit (s := S4x512x128) ![0, 0, 0] S1x512x128.size inb_S4x512x128_S1x512x128_0_0_0).toLoadRect) (arg11.view.readCov (post11 c i arg3 harg3 arg4 harg4 arg5 harg5 arg6 harg6 arg7 harg7 arg8 harg8 arg9 harg9 arg10 harg10 arg11 harg11 x1 x2 x3) (Rect.unit (s := S4x512x256) ![0, 0, 0] S1x512x256.size inb_S4x512x256_S1x512x256_0_0_0).toLoadRect)
    fun r => rowAfter (blockScores (q0 arg4 harg4 x1) x2 0 (by decide) r) (blockVals x3 0 (by decide)) (i 2).val := by
  unfold post9 post10 post11
  rw [loop2_nil]
  dsimp only [List.nil_append]
  unfold View.readCov
  rw [View.writes_append, View.writes_append, View.writes_append]
  unfold loop1
  have h := loop_rows0 Variants.none c none i arg3 harg3 arg4 harg4 arg5 harg5 arg6 harg6 arg7 harg7 arg8 harg8 arg9 harg9 arg10 harg10 arg11 harg11 (BitVec.ofNat 32 ↑(i 2)) (q0 arg4 harg4 x1) (q1 arg4 harg4 x1) (q2 arg4 harg4 x1) (q3 arg4 harg4 x1)
    k0_pay81 x2 x3 (arg9.view.writes (Elt Ideal) arg9.view.junk fill9) (arg10.view.writes (Elt Ideal) arg10.view.junk fill10)
    (arg11.view.writes (Elt Ideal) arg11.view.junk fill11)
    (fun r => ⟨fun l => fill_mask _ 0 (by decide) _ rfl _ r l, fun l => fill_zero _ 0 (by decide) _ rfl _ r l, fun l => fill_zeroA _ 0 (by decide) _ rfl _ r l⟩)
    (k0_t1_loop i).trips le_rfl
  exact Eq.subst (motive := fun n => Rows _ _ _ fun r => rowAfter (blockScores (q0 arg4 harg4 x1) x2 0 (by decide) r)
    (blockVals x3 0 (by decide)) n) (trips1 i) h

/-- Chain 0's sums and weighted sums after the diagonal block. -/
theorem final_rows0 (r : Fin 512) :
    (∀ l, (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![0, 0, 0] S1x512x128.size inb_S4x512x128_S1x512x128_0_0_0).toLoadRect) (ix3 0 r l)
      = (rowAfter (seenScores (q0 arg4 harg4 x1) x2 0 (by decide) (i 2).val r) (blockVals x3 0 (by decide)) ((i 2).val + 1)).2.1)
    ∧ ∀ d, (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![0, 0, 0] S1x512x256.size inb_S4x512x256_S1x512x256_0_0_0).toLoadRect) (ix3 0 r d)
      = (rowAfter (seenScores (q0 arg4 harg4 x1) x2 0 (by decide) (i 2).val r) (blockVals x3 0 (by decide)) ((i 2).val + 1)).2.2 d := by
  have hst := rows_step (post_rows0 c i arg3 harg3 arg4 harg4 arg5 harg5 arg6 harg6 arg7 harg7 arg8 harg8 arg9 harg9 arg10 harg10 arg11 harg11 x1 x2 x3) (diagScores0 i arg4 harg4 arg5 harg5 x1 x2) (diagVals0 i arg6 harg6 x3) r
  have hs : (fun col => (diagScores0 i arg4 harg4 arg5 harg5 x1 x2) (ix2 r col)) = seenScores (q0 arg4 harg4 x1) x2 0 (by decide) (i 2).val r (i 2).val := by
    funext col
    unfold diagScores0 seenScores
    rw [masked_apply, scores_apply, Finset.sum_congr rfl fun d _ => by rw [keys_apply arg5 harg5 x2 (i 2).val 0 (i 2).isLt (by decide) _ _ (off13_eq i)]]
    have e : (512 * (i 2).val + col.val) / 64 ≤ (512 * (i 2).val + r.val) / 64 ↔ col.val / 64 ≤ r.val / 64 := by omega
    simp only [e]
    rfl
  have hv : (fun col d => (diagVals0 i arg6 harg6 x3) (ix3 0 col d)) = blockVals x3 0 (by decide) (i 2).val := by
    funext col d
    exact vals_apply arg6 harg6 x3 (i 2).val 0 (i 2).isLt (by decide) _ _ (off17_eq i) col d
  dsimp only at hst
  rw [hs, hv, rowAfter_congr _ _ _ _ fun k hk => (seen_before (q0 arg4 harg4 x1) x2 0 (by decide) (i 2).val r k hk).symm] at hst
  refine ⟨fun l => (congrFun ?_ _).trans (hst.2.1 l), fun d => (congrFun ?_ _).trans (hst.2.2 d)⟩
  · unfold View.readCov diagSums
    rw [readAt_miss _ _ _ _ _ _ 0 (by decide)]; rw [readAt_miss _ _ _ _ _ _ 0 (by decide)]; rw [readAt_miss _ _ _ _ _ _ 0 (by decide)]; rw [readAt_hit]
    rfl
  · unfold View.readCov diagAccs3 diagAccs2 diagAccs1 diagAccs0
    rw [readAt_miss _ _ _ _ _ _ 0 (by decide)]; rw [readAt_miss _ _ _ _ _ _ 0 (by decide)]; rw [readAt_miss _ _ _ _ _ _ 0 (by decide)]; rw [readAt_hit]
    rfl

/-- Chain 1's slabs before the diagonal block. -/
theorem post_rows1 : Rows (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect) (arg10.view.readCov (post10 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect) (arg11.view.readCov (post11 c i arg3 harg3 arg4 harg4 arg5 harg5 arg6 harg6 arg7 harg7 arg8 harg8 arg9 harg9 arg10 harg10 arg11 harg11 x1 x2 x3) (Rect.unit (s := S4x512x256) ![1, 0, 0] S1x512x256.size inb_S4x512x256_S1x512x256_1_0_0).toLoadRect)
    fun r => rowAfter (blockScores (q1 arg4 harg4 x1) x2 128 (by decide) r) (blockVals x3 0 (by decide)) (i 2).val := by
  unfold post9 post10 post11
  rw [loop2_nil]
  dsimp only [List.nil_append]
  unfold View.readCov
  rw [View.writes_append, View.writes_append, View.writes_append]
  unfold loop1
  have h := loop_rows1 Variants.none c none i arg3 harg3 arg4 harg4 arg5 harg5 arg6 harg6 arg7 harg7 arg8 harg8 arg9 harg9 arg10 harg10 arg11 harg11 (BitVec.ofNat 32 ↑(i 2)) (q0 arg4 harg4 x1) (q1 arg4 harg4 x1) (q2 arg4 harg4 x1) (q3 arg4 harg4 x1)
    k0_pay81 x2 x3 (arg9.view.writes (Elt Ideal) arg9.view.junk fill9) (arg10.view.writes (Elt Ideal) arg10.view.junk fill10)
    (arg11.view.writes (Elt Ideal) arg11.view.junk fill11)
    (fun r => ⟨fun l => fill_mask _ 1 (by decide) _ rfl _ r l, fun l => fill_zero _ 1 (by decide) _ rfl _ r l, fun l => fill_zeroA _ 1 (by decide) _ rfl _ r l⟩)
    (k0_t1_loop i).trips le_rfl
  exact Eq.subst (motive := fun n => Rows _ _ _ fun r => rowAfter (blockScores (q1 arg4 harg4 x1) x2 128 (by decide) r)
    (blockVals x3 0 (by decide)) n) (trips1 i) h

/-- Chain 1's sums and weighted sums after the diagonal block. -/
theorem final_rows1 (r : Fin 512) :
    (∀ l, (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![1, 0, 0] S1x512x128.size inb_S4x512x128_S1x512x128_1_0_0).toLoadRect) (ix3 0 r l)
      = (rowAfter (seenScores (q1 arg4 harg4 x1) x2 128 (by decide) (i 2).val r) (blockVals x3 0 (by decide)) ((i 2).val + 1)).2.1)
    ∧ ∀ d, (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![1, 0, 0] S1x512x256.size inb_S4x512x256_S1x512x256_1_0_0).toLoadRect) (ix3 0 r d)
      = (rowAfter (seenScores (q1 arg4 harg4 x1) x2 128 (by decide) (i 2).val r) (blockVals x3 0 (by decide)) ((i 2).val + 1)).2.2 d := by
  have hst := rows_step (post_rows1 c i arg3 harg3 arg4 harg4 arg5 harg5 arg6 harg6 arg7 harg7 arg8 harg8 arg9 harg9 arg10 harg10 arg11 harg11 x1 x2 x3) (diagScores1 i arg4 harg4 arg5 harg5 x1 x2) (diagVals0 i arg6 harg6 x3) r
  have hs : (fun col => (diagScores1 i arg4 harg4 arg5 harg5 x1 x2) (ix2 r col)) = seenScores (q1 arg4 harg4 x1) x2 128 (by decide) (i 2).val r (i 2).val := by
    funext col
    unfold diagScores1 seenScores
    rw [masked_apply, scores_apply, Finset.sum_congr rfl fun d _ => by rw [keys_apply arg5 harg5 x2 (i 2).val 128 (i 2).isLt (by decide) _ _ (off14_eq i)]]
    have e : (512 * (i 2).val + col.val) / 64 ≤ (512 * (i 2).val + r.val) / 64 ↔ col.val / 64 ≤ r.val / 64 := by omega
    simp only [e]
    rfl
  have hv : (fun col d => (diagVals0 i arg6 harg6 x3) (ix3 0 col d)) = blockVals x3 0 (by decide) (i 2).val := by
    funext col d
    exact vals_apply arg6 harg6 x3 (i 2).val 0 (i 2).isLt (by decide) _ _ (off17_eq i) col d
  dsimp only at hst
  rw [hs, hv, rowAfter_congr _ _ _ _ fun k hk => (seen_before (q1 arg4 harg4 x1) x2 128 (by decide) (i 2).val r k hk).symm] at hst
  refine ⟨fun l => (congrFun ?_ _).trans (hst.2.1 l), fun d => (congrFun ?_ _).trans (hst.2.2 d)⟩
  · unfold View.readCov diagSums
    rw [readAt_miss _ _ _ _ _ _ 0 (by decide)]; rw [readAt_miss _ _ _ _ _ _ 0 (by decide)]; rw [readAt_hit]
    rfl
  · unfold View.readCov diagAccs3 diagAccs2 diagAccs1
    rw [readAt_miss _ _ _ _ _ _ 0 (by decide)]; rw [readAt_miss _ _ _ _ _ _ 0 (by decide)]; rw [readAt_hit]
    refine congrArg (fun a => upA (newAcc (decay (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect) (newMax (diagScores1 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect))) a (weights (diagScores1 i arg4 harg4 arg5 harg5 x1 x2) (newMax (diagScores1 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![1, 0, 0] S1x512x128.size inb_S4x512x128_S1x512x128_1_0_0).toLoadRect))) (diagVals0 i arg6 harg6 x3))) ?_
    unfold View.readCov diagAccs0
    rw [readAt_miss _ _ _ _ _ _ 0 (by decide)]

/-- Chain 2's slabs before the diagonal block. -/
theorem post_rows2 : Rows (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect) (arg10.view.readCov (post10 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect) (arg11.view.readCov (post11 c i arg3 harg3 arg4 harg4 arg5 harg5 arg6 harg6 arg7 harg7 arg8 harg8 arg9 harg9 arg10 harg10 arg11 harg11 x1 x2 x3) (Rect.unit (s := S4x512x256) ![2, 0, 0] S1x512x256.size inb_S4x512x256_S1x512x256_2_0_0).toLoadRect)
    fun r => rowAfter (blockScores (q2 arg4 harg4 x1) x2 256 (by decide) r) (blockVals x3 256 (by decide)) (i 2).val := by
  unfold post9 post10 post11
  rw [loop2_nil]
  dsimp only [List.nil_append]
  unfold View.readCov
  rw [View.writes_append, View.writes_append, View.writes_append]
  unfold loop1
  have h := loop_rows2 Variants.none c none i arg3 harg3 arg4 harg4 arg5 harg5 arg6 harg6 arg7 harg7 arg8 harg8 arg9 harg9 arg10 harg10 arg11 harg11 (BitVec.ofNat 32 ↑(i 2)) (q0 arg4 harg4 x1) (q1 arg4 harg4 x1) (q2 arg4 harg4 x1) (q3 arg4 harg4 x1)
    k0_pay81 x2 x3 (arg9.view.writes (Elt Ideal) arg9.view.junk fill9) (arg10.view.writes (Elt Ideal) arg10.view.junk fill10)
    (arg11.view.writes (Elt Ideal) arg11.view.junk fill11)
    (fun r => ⟨fun l => fill_mask _ 2 (by decide) _ rfl _ r l, fun l => fill_zero _ 2 (by decide) _ rfl _ r l, fun l => fill_zeroA _ 2 (by decide) _ rfl _ r l⟩)
    (k0_t1_loop i).trips le_rfl
  exact Eq.subst (motive := fun n => Rows _ _ _ fun r => rowAfter (blockScores (q2 arg4 harg4 x1) x2 256 (by decide) r)
    (blockVals x3 256 (by decide)) n) (trips1 i) h

/-- Chain 2's sums and weighted sums after the diagonal block. -/
theorem final_rows2 (r : Fin 512) :
    (∀ l, (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![2, 0, 0] S1x512x128.size inb_S4x512x128_S1x512x128_2_0_0).toLoadRect) (ix3 0 r l)
      = (rowAfter (seenScores (q2 arg4 harg4 x1) x2 256 (by decide) (i 2).val r) (blockVals x3 256 (by decide)) ((i 2).val + 1)).2.1)
    ∧ ∀ d, (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![2, 0, 0] S1x512x256.size inb_S4x512x256_S1x512x256_2_0_0).toLoadRect) (ix3 0 r d)
      = (rowAfter (seenScores (q2 arg4 harg4 x1) x2 256 (by decide) (i 2).val r) (blockVals x3 256 (by decide)) ((i 2).val + 1)).2.2 d := by
  have hst := rows_step (post_rows2 c i arg3 harg3 arg4 harg4 arg5 harg5 arg6 harg6 arg7 harg7 arg8 harg8 arg9 harg9 arg10 harg10 arg11 harg11 x1 x2 x3) (diagScores2 i arg4 harg4 arg5 harg5 x1 x2) (diagVals1 i arg6 harg6 x3) r
  have hs : (fun col => (diagScores2 i arg4 harg4 arg5 harg5 x1 x2) (ix2 r col)) = seenScores (q2 arg4 harg4 x1) x2 256 (by decide) (i 2).val r (i 2).val := by
    funext col
    unfold diagScores2 seenScores
    rw [masked_apply, scores_apply, Finset.sum_congr rfl fun d _ => by rw [keys_apply arg5 harg5 x2 (i 2).val 256 (i 2).isLt (by decide) _ _ (off15_eq i)]]
    have e : (512 * (i 2).val + col.val) / 64 ≤ (512 * (i 2).val + r.val) / 64 ↔ col.val / 64 ≤ r.val / 64 := by omega
    simp only [e]
    rfl
  have hv : (fun col d => (diagVals1 i arg6 harg6 x3) (ix3 0 col d)) = blockVals x3 256 (by decide) (i 2).val := by
    funext col d
    exact vals_apply arg6 harg6 x3 (i 2).val 256 (i 2).isLt (by decide) _ _ (off18_eq i) col d
  dsimp only at hst
  rw [hs, hv, rowAfter_congr _ _ _ _ fun k hk => (seen_before (q2 arg4 harg4 x1) x2 256 (by decide) (i 2).val r k hk).symm] at hst
  refine ⟨fun l => (congrFun ?_ _).trans (hst.2.1 l), fun d => (congrFun ?_ _).trans (hst.2.2 d)⟩
  · unfold View.readCov diagSums
    rw [readAt_miss _ _ _ _ _ _ 0 (by decide)]; rw [readAt_hit]
    rfl
  · unfold View.readCov diagAccs3 diagAccs2
    rw [readAt_miss _ _ _ _ _ _ 0 (by decide)]; rw [readAt_hit]
    refine congrArg (fun a => upA (newAcc (decay (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect) (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect))) a (weights (diagScores2 i arg4 harg4 arg5 harg5 x1 x2) (newMax (diagScores2 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![2, 0, 0] S1x512x128.size inb_S4x512x128_S1x512x128_2_0_0).toLoadRect))) (diagVals1 i arg6 harg6 x3))) ?_
    unfold View.readCov diagAccs1 diagAccs0
    rw [readAt_miss _ _ _ _ _ _ 0 (by decide)]; rw [readAt_miss _ _ _ _ _ _ 0 (by decide)]

/-- Chain 3's slabs before the diagonal block. -/
theorem post_rows3 : Rows (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect) (arg10.view.readCov (post10 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect) (arg11.view.readCov (post11 c i arg3 harg3 arg4 harg4 arg5 harg5 arg6 harg6 arg7 harg7 arg8 harg8 arg9 harg9 arg10 harg10 arg11 harg11 x1 x2 x3) (Rect.unit (s := S4x512x256) ![3, 0, 0] S1x512x256.size inb_S4x512x256_S1x512x256_3_0_0).toLoadRect)
    fun r => rowAfter (blockScores (q3 arg4 harg4 x1) x2 384 (by decide) r) (blockVals x3 256 (by decide)) (i 2).val := by
  unfold post9 post10 post11
  rw [loop2_nil]
  dsimp only [List.nil_append]
  unfold View.readCov
  rw [View.writes_append, View.writes_append, View.writes_append]
  unfold loop1
  have h := loop_rows3 Variants.none c none i arg3 harg3 arg4 harg4 arg5 harg5 arg6 harg6 arg7 harg7 arg8 harg8 arg9 harg9 arg10 harg10 arg11 harg11 (BitVec.ofNat 32 ↑(i 2)) (q0 arg4 harg4 x1) (q1 arg4 harg4 x1) (q2 arg4 harg4 x1) (q3 arg4 harg4 x1)
    k0_pay81 x2 x3 (arg9.view.writes (Elt Ideal) arg9.view.junk fill9) (arg10.view.writes (Elt Ideal) arg10.view.junk fill10)
    (arg11.view.writes (Elt Ideal) arg11.view.junk fill11)
    (fun r => ⟨fun l => fill_mask _ 3 (by decide) _ rfl _ r l, fun l => fill_zero _ 3 (by decide) _ rfl _ r l, fun l => fill_zeroA _ 3 (by decide) _ rfl _ r l⟩)
    (k0_t1_loop i).trips le_rfl
  exact Eq.subst (motive := fun n => Rows _ _ _ fun r => rowAfter (blockScores (q3 arg4 harg4 x1) x2 384 (by decide) r)
    (blockVals x3 256 (by decide)) n) (trips1 i) h

/-- Chain 3's sums and weighted sums after the diagonal block. -/
theorem final_rows3 (r : Fin 512) :
    (∀ l, (arg10.view.readCov (diagSums arg9 arg10 (diagScores0 i arg4 harg4 arg5 harg5 x1 x2) (diagScores1 i arg4 harg4 arg5 harg5 x1 x2) (diagScores2 i arg4 harg4 arg5 harg5 x1 x2) (diagScores3 i arg4 harg4 arg5 harg5 x1 x2) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3)) (Rect.unit (s := S4x512x128) ![3, 0, 0] S1x512x128.size inb_S4x512x128_S1x512x128_3_0_0).toLoadRect) (ix3 0 r l)
      = (rowAfter (seenScores (q3 arg4 harg4 x1) x2 384 (by decide) (i 2).val r) (blockVals x3 256 (by decide)) ((i 2).val + 1)).2.1)
    ∧ ∀ d, (arg11.view.readCov (diagAccs3 arg9 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3)) (Rect.unit (s := S4x512x256) ![3, 0, 0] S1x512x256.size inb_S4x512x256_S1x512x256_3_0_0).toLoadRect) (ix3 0 r d)
      = (rowAfter (seenScores (q3 arg4 harg4 x1) x2 384 (by decide) (i 2).val r) (blockVals x3 256 (by decide)) ((i 2).val + 1)).2.2 d := by
  have hst := rows_step (post_rows3 c i arg3 harg3 arg4 harg4 arg5 harg5 arg6 harg6 arg7 harg7 arg8 harg8 arg9 harg9 arg10 harg10 arg11 harg11 x1 x2 x3) (diagScores3 i arg4 harg4 arg5 harg5 x1 x2) (diagVals1 i arg6 harg6 x3) r
  have hs : (fun col => (diagScores3 i arg4 harg4 arg5 harg5 x1 x2) (ix2 r col)) = seenScores (q3 arg4 harg4 x1) x2 384 (by decide) (i 2).val r (i 2).val := by
    funext col
    unfold diagScores3 seenScores
    rw [masked_apply, scores_apply, Finset.sum_congr rfl fun d _ => by rw [keys_apply arg5 harg5 x2 (i 2).val 384 (i 2).isLt (by decide) _ _ (off16_eq i)]]
    have e : (512 * (i 2).val + col.val) / 64 ≤ (512 * (i 2).val + r.val) / 64 ↔ col.val / 64 ≤ r.val / 64 := by omega
    simp only [e]
    rfl
  have hv : (fun col d => (diagVals1 i arg6 harg6 x3) (ix3 0 col d)) = blockVals x3 256 (by decide) (i 2).val := by
    funext col d
    exact vals_apply arg6 harg6 x3 (i 2).val 256 (i 2).isLt (by decide) _ _ (off18_eq i) col d
  dsimp only at hst
  rw [hs, hv, rowAfter_congr _ _ _ _ fun k hk => (seen_before (q3 arg4 harg4 x1) x2 384 (by decide) (i 2).val r k hk).symm] at hst
  refine ⟨fun l => (congrFun ?_ _).trans (hst.2.1 l), fun d => (congrFun ?_ _).trans (hst.2.2 d)⟩
  · unfold View.readCov diagSums
    rw [readAt_hit]
    rfl
  · unfold View.readCov diagAccs3
    rw [readAt_hit]
    refine congrArg (fun a => upA (newAcc (decay (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect) (newMax (diagScores3 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect))) a (weights (diagScores3 i arg4 harg4 arg5 harg5 x1 x2) (newMax (diagScores3 i arg4 harg4 arg5 harg5 x1 x2) (arg9.view.readCov (post9 c i arg3 harg3 arg4 harg4 arg5 harg5 arg6 harg6 arg7 harg7 arg8 harg8 arg9 harg9 arg10 harg10 arg11 harg11 x1 x2 x3) (Rect.unit (s := S4x512x128) ![3, 0, 0] S1x512x128.size inb_S4x512x128_S1x512x128_3_0_0).toLoadRect))) (diagVals1 i arg6 harg6 x3))) ?_
    unfold View.readCov diagAccs2 diagAccs1 diagAccs0
    rw [readAt_miss _ _ _ _ _ _ 0 (by decide)]; rw [readAt_miss _ _ _ _ _ _ 0 (by decide)]; rw [readAt_miss _ _ _ _ _ _ 0 (by decide)]
end Rows

end Cert.KernelIdeal.DA
-- ==== Proof.Spec.lean ====
module
public import proofs.«01_k».proof.Proof.Online
public import Idealize.ShloMosaic.Lib.ValueIdx
@[expose] public section
noncomputable section
namespace Cert.DiffAttn
open Idealize.ShloMosaic

/-- A row over its root mean square, weighted and scaled. -/
def normed (o w : Fin 256 → EReal) (d : Fin 256) : EReal :=
  o d * Ideal.rsqrt (Ideal.div (∑ e, o e * o e) (Ideal.ofBits .f32 0x43800000#32) + Ideal.ofBits .f32 0x3727C5AC#32) * w d
    * Ideal.ofBits .f32 0x3F24FD5C#32

/-- The mixing factor: the exponentials of the two inner products, and its initial value. -/
def mixing (a b c d : Fin 128 → EReal) : EReal :=
  Ideal.exp (∑ j, a j * b j) - Ideal.exp (∑ j, c j * d j) + Ideal.ofBits .f32 0x3EB60549#32

/-- Query `q`'s score against key `κ`: the scaled inner product where the key's chunk of 64 is not after the query's, else `−∞`. -/
def score (Q K : Fin 8192 → Fin 128 → EReal) (q κ : Fin 8192) : EReal :=
  if κ.val / 64 ≤ q.val / 64 then (∑ d, Q q d * K κ d) * Ideal.ofBits .f32 0x3DB504F3#32 else ⊥

/-- Query `q`'s row of the difference of the two attention maps, applied to the values. -/
def attended (Q0 K0 Q1 K1 : Fin 8192 → Fin 128 → EReal) (V : Fin 8192 → Fin 256 → EReal) (lam : EReal) (q : Fin 8192) (d : Fin 256) : EReal :=
  ∑ κ, (softmaxAt (score Q0 K0 q) κ - lam * softmaxAt (score Q1 K1 q) κ) * V κ d

end Cert.DiffAttn
-- ==== Proof.Heads.lean ====
module
public import proofs.«01_k».proof.Proof.Gen.KernelIdeal.Value
public import proofs.«01_k».proof.Proof.Chains
public import proofs.«01_k».proof.Proof.Spec
public import Idealize.ShloMosaic.Lib.Pointwise
public import Idealize.ShloMosaic.PureOps.IdealRules
public import Idealize.ShloMosaic.Lib.WritesUnit
@[expose] public section
set_option maxRecDepth 16384
noncomputable section
namespace Cert.KernelIdeal.DA
open Cert.DiffAttn Cert.KernelIdeal Cert.KernelIdeal.Gen
open Idealize.ShloMosaic Idealize.ShloMosaic.TcCoe Idealize.SL.Sem Idealize.ShloMosaic.Tactic
open Idealize.ShloMosaic.Pipeline (Dat)

theorem tailOut_apply (o : FVec Ideal S512x256 .f32) (w : Vec Ideal S1x256 .f32) (r : Fin 512) (d : Fin 256) :
    tailOut o w (ix3 0 r d) = normed (fun e => o (ix2 r e)) (fun e => w (ix2 0 e)) d := by
  unfold normed
  pointwise [tailOut]

theorem mix_apply (lam : EReal) (o o' : FVec Ideal S512x256 .f32) (r : Fin 512) (d : Fin 256) :
    mix (F := Ideal) lam o o' (ix2 r d) = o (ix2 r d) - lam * o' (ix2 r d) := rfl

theorem one_bits : Ideal.ofBits .f32 0x3F800000#32 = (1 : EReal) := by
  simp [Ideal.ofBits, Ideal.ieee, -EReal.coe_mul]
  norm_num

theorem quot_apply (L : Vec Ideal S1x512x128 .f32) (A : Vec Ideal S1x512x256 .f32) (r : Fin 512) (d : Fin 256) (σ : EReal)
    (h : ∀ l, L (ix3 0 r l) = σ) : quot L A (ix2 r d) = A (ix3 0 r d) * Ideal.div 1 σ := by
  rw [← one_bits]
  pointwise [quot]
  split_ifs <;> rw [h]

/-- A head's row from its two chains' states. -/
theorem head_apply (c c' : Vec Ideal S1x512x128 .f32 × Vec Ideal S1x512x256 .f32) (lam : EReal) (w : Vec Ideal S1x256 .f32) (r : Fin 512)
    (S S' : RowState) (h : (∀ l, c.1 (ix3 0 r l) = S.2.1) ∧ ∀ d, c.2 (ix3 0 r d) = S.2.2 d)
    (h' : (∀ l, c'.1 (ix3 0 r l) = S'.2.1) ∧ ∀ d, c'.2 (ix3 0 r d) = S'.2.2 d) (d : Fin 256) :
    head (F := Ideal) c c' lam w (ix3 0 r d) = normed (rowOut lam S S') (fun e => w (ix2 0 e)) d := by
  unfold head
  rw [tailOut_apply]
  refine congrArg (fun o => normed o (fun e => w (ix2 0 e)) d) (funext fun e => ?_)
  rw [mix_apply, quot_apply _ _ r e _ h.1, quot_apply _ _ r e _ h'.1, h.2, h'.2]
  rfl

theorem q0_apply (arg4 : Memref sig .tc .vmem S1x512x512 .bf16) (harg4 : arg4.IsWhole) (x1 : Vec Ideal S1x512x512 .bf16) (r : Fin 512) (d : Fin 128) :
    q0 arg4 harg4 x1 (ix2 r d) = x1 (ix3 0 r (col512 0 (by decide) d)) * Ideal.ofBits .f32 0x3DB504F3#32 := by
  unfold q0
  rw [View.readAt_eq_ld, Memref.IsWhole.read_unread]
  pointwise [scaled]
  refine congrArg (fun y => x1 y * _) (funext fun b => Fin.ext ?_)
  fin_cases b
  · rfl
  · first
      | rfl
      | exact (show 0 + 1 * r.val = r.val by omega)
  · first
      | rfl
      | exact (show d.val = 0 + d.val by omega)
      | exact (show 0 + 1 * d.val = 0 + d.val by omega)

theorem q1_apply (arg4 : Memref sig .tc .vmem S1x512x512 .bf16) (harg4 : arg4.IsWhole) (x1 : Vec Ideal S1x512x512 .bf16) (r : Fin 512) (d : Fin 128) :
    q1 arg4 harg4 x1 (ix2 r d) = x1 (ix3 0 r (col512 128 (by decide) d)) * Ideal.ofBits .f32 0x3DB504F3#32 := by
  unfold q1
  rw [View.readAt_eq_ld, Memref.IsWhole.read_unread]
  pointwise [scaled]
  refine congrArg (fun y => x1 y * _) (funext fun b => Fin.ext ?_)
  fin_cases b
  · rfl
  · first
      | rfl
      | exact (show 0 + 1 * r.val = r.val by omega)
  · first
      | rfl
      | exact (show d.val = 128 + d.val by omega)
      | exact (show 128 + 1 * d.val = 128 + d.val by omega)

theorem q2_apply (arg4 : Memref sig .tc .vmem S1x512x512 .bf16) (harg4 : arg4.IsWhole) (x1 : Vec Ideal S1x512x512 .bf16) (r : Fin 512) (d : Fin 128) :
    q2 arg4 harg4 x1 (ix2 r d) = x1 (ix3 0 r (col512 256 (by decide) d)) * Ideal.ofBits .f32 0x3DB504F3#32 := by
  unfold q2
  rw [View.readAt_eq_ld, Memref.IsWhole.read_unread]
  pointwise [scaled]
  refine congrArg (fun y => x1 y * _) (funext fun b => Fin.ext ?_)
  fin_cases b
  · rfl
  · first
      | rfl
      | exact (show 0 + 1 * r.val = r.val by omega)
  · first
      | rfl
      | exact (show d.val = 256 + d.val by omega)
      | exact (show 256 + 1 * d.val = 256 + d.val by omega)

theorem q3_apply (arg4 : Memref sig .tc .vmem S1x512x512 .bf16) (harg4 : arg4.IsWhole) (x1 : Vec Ideal S1x512x512 .bf16) (r : Fin 512) (d : Fin 128) :
    q3 arg4 harg4 x1 (ix2 r d) = x1 (ix3 0 r (col512 384 (by decide) d)) * Ideal.ofBits .f32 0x3DB504F3#32 := by
  unfold q3
  rw [View.readAt_eq_ld, Memref.IsWhole.read_unread]
  pointwise [scaled]
  refine congrArg (fun y => x1 y * _) (funext fun b => Fin.ext ?_)
  fin_cases b
  · rfl
  · first
      | rfl
      | exact (show 0 + 1 * r.val = r.val by omega)
  · first
      | rfl
      | exact (show d.val = 384 + d.val by omega)
      | exact (show 384 + 1 * d.val = 384 + d.val by omega)

/-- The scores of a query of block `n`, whose chain's queries and keys begin at column `o`. -/
def rowScores (x1 : Vec Ideal S1x512x512 .bf16) (x2 : Vec Ideal S1x8192x512 .bf16) (o : ℕ) (ho : o + 128 ≤ 512) (n : ℕ) (r : Fin 512) (k : ℕ)
    (c : Fin 512) : EReal :=
  if (512 * k + c.val) / 64 ≤ (512 * n + r.val) / 64 then
    ∑ d : Fin 128, x1 (ix3 0 r (col512 o ho d)) * Ideal.ofBits .f32 0x3DB504F3#32 * x2 (ix3 0 (keyOf k c) (col512 o ho d)) else ⊥

/-- A chain's state after its last block. -/
def rowState (x1 : Vec Ideal S1x512x512 .bf16) (x2 x3 : Vec Ideal S1x8192x512 .bf16) (o h : ℕ) (ho : o + 128 ≤ 512) (hh : h + 256 ≤ 512)
    (n : ℕ) (r : Fin 512) : RowState :=
  rowAfter (rowScores x1 x2 o ho n r) (blockVals x3 h hh) (n + 1)

theorem seen_q0 (arg4 : Memref sig .tc .vmem S1x512x512 .bf16) (harg4 : arg4.IsWhole) (x1 : Vec Ideal S1x512x512 .bf16) (x2 : Vec Ideal S1x8192x512 .bf16) (n : ℕ) (r : Fin 512) :
    seenScores (q0 arg4 harg4 x1) x2 0 (by decide) n r = rowScores x1 x2 0 (by decide) n r := by
  funext k c
  unfold seenScores rowScores blockScores
  rw [Finset.sum_congr rfl fun d _ => by rw [q0_apply]]

theorem seen_q1 (arg4 : Memref sig .tc .vmem S1x512x512 .bf16) (harg4 : arg4.IsWhole) (x1 : Vec Ideal S1x512x512 .bf16) (x2 : Vec Ideal S1x8192x512 .bf16) (n : ℕ) (r : Fin 512) :
    seenScores (q1 arg4 harg4 x1) x2 128 (by decide) n r = rowScores x1 x2 128 (by decide) n r := by
  funext k c
  unfold seenScores rowScores blockScores
  rw [Finset.sum_congr rfl fun d _ => by rw [q1_apply]]

theorem seen_q2 (arg4 : Memref sig .tc .vmem S1x512x512 .bf16) (harg4 : arg4.IsWhole) (x1 : Vec Ideal S1x512x512 .bf16) (x2 : Vec Ideal S1x8192x512 .bf16) (n : ℕ) (r : Fin 512) :
    seenScores (q2 arg4 harg4 x1) x2 256 (by decide) n r = rowScores x1 x2 256 (by decide) n r := by
  funext k c
  unfold seenScores rowScores blockScores
  rw [Finset.sum_congr rfl fun d _ => by rw [q2_apply]]

theorem seen_q3 (arg4 : Memref sig .tc .vmem S1x512x512 .bf16) (harg4 : arg4.IsWhole) (x1 : Vec Ideal S1x512x512 .bf16) (x2 : Vec Ideal S1x8192x512 .bf16) (n : ℕ) (r : Fin 512) :
    seenScores (q3 arg4 harg4 x1) x2 384 (by decide) n r = rowScores x1 x2 384 (by decide) n r := by
  funext k c
  unfold seenScores rowScores blockScores
  rw [Finset.sum_congr rfl fun d _ => by rw [q3_apply]]

/-- Head 0 of the output block at a row and a column. -/
theorem out_head0 (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (x1 : Vec Ideal S1x512x512 .bf16) (x2 : Vec Ideal S1x8192x512 .bf16) (x3 : Vec Ideal S1x8192x512 .bf16) (lam : EReal) (w : Vec Ideal S1x256 .f32) (v : View sig .tc .vmem S1x512x512 .bf16)
    (f : v.ty.Contents (Elt Ideal)) (r : Fin 512) (d : Fin 256) :
    v.read (Elt Ideal) (v.writes (Elt Ideal) f (outList arg9 arg10 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3) lam w)) (ix3 0 r (col512 0 (by decide) d))
      = normed (rowOut lam (rowState x1 x2 x3 0 0 (by decide) (by decide) (i 2).val r) (rowState x1 x2 x3 128 0 (by decide) (by decide) (i 2).val r))
        (fun e => w (ix2 0 e)) d := by
  have ha := final_rows0 c i arg3 harg3 arg4 harg4 arg5 harg5 arg6 harg6 arg7 harg7 arg8 harg8 arg9 harg9 arg10 harg10 arg11 harg11 x1 x2 x3 r
  have hb := final_rows1 c i arg3 harg3 arg4 harg4 arg5 harg5 arg6 harg6 arg7 harg7 arg8 harg8 arg9 harg9 arg10 harg10 arg11 harg11 x1 x2 x3 r
  rw [seen_q0] at ha
  rw [seen_q1] at hb
  unfold outList
  rw [View.read_writes_cons_unit_of_not_mem v f _ _ _ _ rfl 2 (Or.inl (by show 0 + d.val < 256; omega))]
  refine (View.read_writes_cons_unit_of_mem v f _ _ _ _ (ix3 0 r d) rfl ?_).trans (head_apply _ _ lam w r _ _ ha hb d)
  intro b
  fin_cases b
  · rfl
  · show r.val = 0 + r.val; omega
  · rfl

/-- Head 1 of the output block at a row and a column. -/
theorem out_head1 (c : Dev nD) (i : grid0.Coords) (arg3 : Memref sig .tc .smem S1 .f32) (harg3 : arg3.IsWhole) (arg4 : Memref sig .tc .vmem S1x512x512 .bf16) (harg4 : arg4.IsWhole) (arg5 : Memref sig .tc .vmem S1x8192x512 .bf16) (harg5 : arg5.IsWhole) (arg6 : Memref sig .tc .vmem S1x8192x512 .bf16) (harg6 : arg6.IsWhole) (arg7 : Memref sig .tc .vmem S1x256 .f32) (harg7 : arg7.IsWhole) (arg8 : Memref sig .tc .vmem S1x512x512 .bf16) (harg8 : arg8.IsWhole) (arg9 : Memref sig .tc .vmem S4x512x128 .f32) (harg9 : arg9.IsWhole) (arg10 : Memref sig .tc .vmem S4x512x128 .f32) (harg10 : arg10.IsWhole) (arg11 : Memref sig .tc .vmem S4x512x256 .f32) (harg11 : arg11.IsWhole) (x1 : Vec Ideal S1x512x512 .bf16) (x2 : Vec Ideal S1x8192x512 .bf16) (x3 : Vec Ideal S1x8192x512 .bf16) (lam : EReal) (w : Vec Ideal S1x256 .f32) (v : View sig .tc .vmem S1x512x512 .bf16)
    (f : v.ty.Contents (Elt Ideal)) (r : Fin 512) (d : Fin 256) :
    v.read (Elt Ideal) (v.writes (Elt Ideal) f (outList arg9 arg10 arg11 (diagScores0 i arg4 harg4 arg5 harg5 x1 x2) (diagScores1 i arg4 harg4 arg5 harg5 x1 x2) (diagScores2 i arg4 harg4 arg5 harg5 x1 x2) (diagScores3 i arg4 harg4 arg5 harg5 x1 x2) (diagVals0 i arg6 harg6 x3) (diagVals1 i arg6 harg6 x3) (post9 c i arg3 harg3 arg4 harg4 arg5 harg5 arg6 harg6 arg7 harg7 arg8 harg8 arg9 harg9 arg10 harg10 arg11 harg11 x1 x2 x3) (post10 c i arg3 harg3 arg4 harg4 arg5 harg5 arg6 harg6 arg7 harg7 arg8 harg8 arg9 harg9 arg10 harg10 arg11 harg11 x1 x2 x3) (post11 c i arg3 harg3 arg4 harg4 arg5 harg5 arg6 harg6 arg7 harg7 arg8 harg8 arg9 harg9 arg10 harg10 arg11 harg11 x1 x2 x3) lam w)) (ix3 0 r (col512 256 (by decide) d))
      = normed (rowOut lam (rowState x1 x2 x3 256 256 (by decide) (by decide) (i 2).val r) (rowState x1 x2 x3 384 256 (by decide) (by decide) (i 2).val r))
        (fun e => w (ix2 0 e)) d := by
  have ha := final_rows2 c i arg3 harg3 arg4 harg4 arg5 harg5 arg6 harg6 arg7 harg7 arg8 harg8 arg9 harg9 arg10 harg10 arg11 harg11 x1 x2 x3 r
  have hb := final_rows3 c i arg3 harg3 arg4 harg4 arg5 harg5 arg6 harg6 arg7 harg7 arg8 harg8 arg9 harg9 arg10 harg10 arg11 harg11 x1 x2 x3 r
  rw [seen_q2] at ha
  rw [seen_q3] at hb
  unfold outList
  refine (View.read_writes_cons_unit_of_mem v f _ _ _ _ (ix3 0 r d) rfl ?_).trans (head_apply _ _ lam w r _ _ ha hb d)
  intro b
  fin_cases b
  · rfl
  · show r.val = 0 + r.val; omega
  · rfl

end Cert.KernelIdeal.DA
-- ==== Proof.Out.lean ====
module
public import proofs.«01_k».proof.Proof.Heads
public import proofs.«01_k».proof.Proof.Gen.KernelIdeal.Value
public import Idealize.ShloMosaic.Lib.StableHlo.Run
@[expose] public section
set_option maxRecDepth 16384
noncomputable section
namespace Cert.KernelIdeal.DA
open Cert.DiffAttn Cert.KernelIdeal Cert.KernelIdeal.Gen
open Idealize.ShloMosaic Idealize.ShloMosaic.TcCoe Idealize.SL.Sem Idealize.ShloMosaic.Tactic
open Idealize.ShloMosaic.Pipeline (Dat)

variable (m : (ℓ : Loc nD τ sig) → Buf (Elt Ideal) ℓ)

theorem coords_val : ∀ t : Fin grid0.N, (grid0.coords t 0).val = t.val / 64 ∧ (grid0.coords t 1).val = t.val / 16 % 4 ∧ (grid0.coords t 2).val = t.val % 16 := by
  decide +kernel

theorem index1 : ∀ t : Fin grid0.N, win0_1.index t 0 = t.val / 64 ∧ win0_1.index t 1 = t.val % 16 ∧ win0_1.index t 2 = t.val / 16 % 4 := by
  decide +kernel
theorem index2 : ∀ t : Fin grid0.N, win0_2.index t 0 = t.val / 64 ∧ win0_2.index t 1 = 0 ∧ win0_2.index t 2 = 4 + t.val / 16 % 4 := by
  decide +kernel
theorem index3 : ∀ t : Fin grid0.N, win0_3.index t 0 = t.val / 64 ∧ win0_3.index t 1 = 0 ∧ win0_3.index t 2 = 8 + t.val / 16 % 4 := by
  decide +kernel
theorem index5 : ∀ t : Fin grid0.N, win0_5.index t 0 = t.val / 64 ∧ win0_5.index t 1 = t.val % 16 ∧ win0_5.index t 2 = t.val / 16 % 4 := by
  decide +kernel

/-- The point of batch `b`, group `g` and query block `n`. -/
def pointOf (b : Fin 2) (g : Fin 4) (n : Fin 16) : Fin cfg0.N := ⟨64 * b.val + 16 * g.val + n.val, by rw [show cfg0.N = 128 from N_0]; omega⟩

/-- The query block at a point. -/
theorem queries_read (c : Dev nD) (b : Fin 2) (g : Fin 4) (n : Fin 16) (r j : Fin 512) :
    (iblk m c 1 (pointOf b g n) : Vec Ideal S1x512x512 .bf16) (ix3 0 r j)
      = (m ((c : Thread nD τ).loc main_arg0) : Vec Ideal S2x8192x6144 .bf16) (ix3 b ⟨512 * n.val + r.val, by show _ < 8192; omega⟩ ⟨512 * g.val + j.val, by show _ < 6144; omega⟩) := by
  obtain ⟨h0, h1, h2⟩ := index1 (pointOf b g n)
  unfold iblk
  rw [View.read_apply]
  show V m c main_arg0 _ = _
  rw [V_main_arg0]
  refine congrArg _ (funext fun a => Fin.ext ?_)
  have ht : (pointOf b g n).val = 64 * b.val + 16 * g.val + n.val := rfl
  match a with
  | ⟨0, _⟩ => show win0_1.index (pointOf b g n) 0 * 1 + 1 * 0 = b.val; rw [h0, ht]; omega
  | ⟨1, _⟩ => show win0_1.index (pointOf b g n) 1 * 512 + 1 * r.val = 512 * n.val + r.val; rw [h1, ht]; omega
  | ⟨2, _⟩ => show win0_1.index (pointOf b g n) 2 * 512 + 1 * j.val = 512 * g.val + j.val; rw [h2, ht]; omega

/-- The keys at a point. -/
theorem keys_read (c : Dev nD) (b : Fin 2) (g : Fin 4) (n : Fin 16) (κ : Fin 8192) (j : Fin 512) :
    (iblk m c 2 (pointOf b g n) : Vec Ideal S1x8192x512 .bf16) (ix3 0 κ j)
      = (m ((c : Thread nD τ).loc main_arg0) : Vec Ideal S2x8192x6144 .bf16) (ix3 b κ ⟨2048 + (512 * g.val + j.val), by show _ < 6144; omega⟩) := by
  obtain ⟨h0, h1, h2⟩ := index2 (pointOf b g n)
  unfold iblk
  rw [View.read_apply]
  show V m c main_arg0 _ = _
  rw [V_main_arg0]
  refine congrArg _ (funext fun a => Fin.ext ?_)
  have ht : (pointOf b g n).val = 64 * b.val + 16 * g.val + n.val := rfl
  match a with
  | ⟨0, _⟩ => show win0_2.index (pointOf b g n) 0 * 1 + 1 * 0 = b.val; rw [h0, ht]; omega
  | ⟨1, _⟩ => show win0_2.index (pointOf b g n) 1 * 8192 + 1 * κ.val = κ.val; rw [h1]; omega
  | ⟨2, _⟩ => show win0_2.index (pointOf b g n) 2 * 512 + 1 * j.val = 2048 + (512 * g.val + j.val); rw [h2, ht]; omega

/-- The values at a point. -/
theorem values_read (c : Dev nD) (b : Fin 2) (g : Fin 4) (n : Fin 16) (κ : Fin 8192) (j : Fin 512) :
    (iblk m c 3 (pointOf b g n) : Vec Ideal S1x8192x512 .bf16) (ix3 0 κ j)
      = (m ((c : Thread nD τ).loc main_arg0) : Vec Ideal S2x8192x6144 .bf16) (ix3 b κ ⟨4096 + (512 * g.val + j.val), by show _ < 6144; omega⟩) := by
  obtain ⟨h0, h1, h2⟩ := index3 (pointOf b g n)
  unfold iblk
  rw [View.read_apply]
  show V m c main_arg0 _ = _
  rw [V_main_arg0]
  refine congrArg _ (funext fun a => Fin.ext ?_)
  have ht : (pointOf b g n).val = 64 * b.val + 16 * g.val + n.val := rfl
  match a with
  | ⟨0, _⟩ => show win0_3.index (pointOf b g n) 0 * 1 + 1 * 0 = b.val; rw [h0, ht]; omega
  | ⟨1, _⟩ => show win0_3.index (pointOf b g n) 1 * 8192 + 1 * κ.val = κ.val; rw [h1]; omega
  | ⟨2, _⟩ => show win0_3.index (pointOf b g n) 2 * 512 + 1 * j.val = 4096 + (512 * g.val + j.val); rw [h2, ht]; omega

/-- A 128-vector's entries. -/
def entries (x : Vec Ideal S128 .f32) (j : Fin 128) : EReal := x (ix1 j)

/-- The host's mixing factor. -/
theorem lam_host (c : Dev nD) (i : S1.Idx) : (V m c main_v8 : Vec Ideal S1 .f32) i
    = mixing (entries (m ((c : Thread nD τ).loc main_arg1))) (entries (m ((c : Thread nD τ).loc main_arg2)))
        (entries (m ((c : Thread nD τ).loc main_arg3))) (entries (m ((c : Thread nD τ).loc main_arg4))) := by
  have h : (V m c main_v8 : Vec Ideal S1 .f32) = shapeCast S1 (addf (F := Ideal) (subf
        (Host.exp (Host.reduceAdd (mulf (m ((c : Thread nD τ).loc main_arg1) : Vec Ideal S128 .f32) (m ((c : Thread nD τ).loc main_arg2))) (constant S_ .f32 0x00000000#32) reducesTo_S128_S_d0 h_S_))
        (Host.exp (Host.reduceAdd (mulf (m ((c : Thread nD τ).loc main_arg3) : Vec Ideal S128 .f32) (m ((c : Thread nD τ).loc main_arg4))) (constant S_ .f32 0x00000000#32) reducesTo_S128_S_d0 h_S_)))
        (constant S_ .f32 0x3EB60549#32)) shapeCasts_S_S1 := by
    dsimp only [V, hostOps0]
    after_results
    rfl
  rw [h]
  unfold mixing entries
  generalize (m ((c : Thread nD τ).loc main_arg1) : Vec Ideal S128 .f32) = x1
  generalize (m ((c : Thread nD τ).loc main_arg2) : Vec Ideal S128 .f32) = x2
  generalize (m ((c : Thread nD τ).loc main_arg3) : Vec Ideal S128 .f32) = x3
  generalize (m ((c : Thread nD τ).loc main_arg4) : Vec Ideal S128 .f32) = x4
  pointwise

/-- The host's weights. -/
theorem weights_host (c : Dev nD) (e : Fin 256) : (V m c main_v9 : Vec Ideal S1x256 .f32) (ix2 0 e)
    = (m ((c : Thread nD τ).loc main_arg5) : Vec Ideal S256 .f32) (ix1 e) := by
  have h : (V m c main_v9 : Vec Ideal S1x256 .f32) = shapeCast S1x256 (m ((c : Thread nD τ).loc main_arg5) : Vec Ideal S256 .f32) shapeCasts_S256_S1x256 := by
    dsimp only [V, hostOps0]
    after_results
    rfl
  rw [h]
  pointwise

/-- The mixing factor at a point. -/
theorem lam_block (c : Dev nD) (t : Fin cfg0.N) (i : S1.Idx) : (iblk m c 0 t : Vec Ideal S1 .f32) i
    = mixing (entries (m ((c : Thread nD τ).loc main_arg1))) (entries (m ((c : Thread nD τ).loc main_arg2)))
        (entries (m ((c : Thread nD τ).loc main_arg3))) (entries (m ((c : Thread nD τ).loc main_arg4))) := by
  unfold iblk
  rw [View.read_apply]
  exact lam_host m c _

theorem index4 : ∀ t : Fin grid0.N, win0_4.index t 0 = 0 ∧ win0_4.index t 1 = 0 := by
  decide +kernel

/-- The weights at a point. -/
theorem weights_block (c : Dev nD) (t : Fin cfg0.N) (e : Fin 256) : (iblk m c 4 t : Vec Ideal S1x256 .f32) (ix2 0 e)
    = (m ((c : Thread nD τ).loc main_arg5) : Vec Ideal S256 .f32) (ix1 e) := by
  obtain ⟨h0, h1⟩ := index4 t
  unfold iblk
  rw [View.read_apply, ← weights_host m c e]
  show V m c main_v9 _ = V m c main_v9 _
  refine congrArg _ (funext fun a => Fin.ext ?_)
  match a with
  | ⟨0, _⟩ => show win0_4.index t 0 * 1 + 1 * 0 = 0; rw [h0]
  | ⟨1, _⟩ => show win0_4.index t 1 * 256 + 1 * e.val = e.val; rw [h1]; omega

/-- What the mixing factor's load reads. -/
theorem lam_load (a : Memref sig .tc .smem S1 .f32) (ha : a.IsWhole) (x : Vec Ideal S1 .f32) (lam : EReal) (h : ∀ i, x i = lam) :
    View.readAt (Elt Ideal) a.view (Rect.unit (s := S1) ![0] S1.size inb_S1_S1_0).toLoadRect (ha.unread x) (Shape.Idx.first (by decide)) = lam := by
  rw [View.readAt_eq_ld, Memref.IsWhole.read_unread]
  exact h _

/-- What the weights' load reads. -/
theorem weights_load (a : Memref sig .tc .vmem S1x256 .f32) (ha : a.IsWhole) (x : Vec Ideal S1x256 .f32) (e : Fin 256) :
    View.readAt (Elt Ideal) a.view (Rect.unit (s := S1x256) ![0, 0] S1x256.size inb_S1x256_S1x256_0_0).toLoadRect (ha.unread x) (ix2 0 e) = x (ix2 0 e) := by
  rw [View.readAt_eq_ld, Memref.IsWhole.read_unread]
  refine congrArg x (funext fun a => Fin.ext ?_)
  match a with
  | ⟨0, _⟩ => rfl
  | ⟨1, _⟩ => show 0 + 1 * e.val = e.val; omega

theorem point_block (b : Fin 2) (g : Fin 4) (n : Fin 16) : (grid0.coords (pointOf b g n) 2).val = n.val := by
  rw [(coords_val (pointOf b g n)).2.2]
  show (64 * b.val + 16 * g.val + n.val) % 16 = _
  omega

/-- Head 0 of what a point writes. -/
theorem wrote_head0 (c : Dev nD) (b : Fin 2) (g : Fin 4) (n : Fin 16) (r : Fin 512) (d : Fin 256) :
    outsAt0 m c (pointOf b g n) (ix3 0 r (col512 0 (by decide) d))
      = normed (rowOut (mixing (entries (m ((c : Thread nD τ).loc main_arg1))) (entries (m ((c : Thread nD τ).loc main_arg2)))
          (entries (m ((c : Thread nD τ).loc main_arg3))) (entries (m ((c : Thread nD τ).loc main_arg4))))
          (rowState (iblk m c 1 (pointOf b g n)) (iblk m c 2 (pointOf b g n)) (iblk m c 3 (pointOf b g n)) 0 0 (by decide) (by decide) n.val r)
          (rowState (iblk m c 1 (pointOf b g n)) (iblk m c 2 (pointOf b g n)) (iblk m c 3 (pointOf b g n)) 128 0 (by decide) (by decide) n.val r))
        (fun e => (m ((c : Thread nD τ).loc main_arg5) : Vec Ideal S256 .f32) (ix1 e)) d := by
  unfold outsAt0 out0_A_5
  rw [run_eq, lam_load _ _ _ _ (lam_block m c (pointOf b g n)), out_head0, point_block]
  rw [show (fun e => View.readAt (Elt Ideal) (ms0_4 (pointOf b g n)).view (Rect.unit (s := S1x256) ![0, 0] S1x256.size inb_S1x256_S1x256_0_0).toLoadRect ((hs0_4 (pointOf b g n)).unread (iblk m c 4 (pointOf b g n))) (ix2 0 e))
      = fun e => (m ((c : Thread nD τ).loc main_arg5) : Vec Ideal S256 .f32) (ix1 e) from
    funext fun e => (weights_load _ _ _ e).trans (weights_block m c _ e)]

/-- Head 1 of what a point writes. -/
theorem wrote_head1 (c : Dev nD) (b : Fin 2) (g : Fin 4) (n : Fin 16) (r : Fin 512) (d : Fin 256) :
    outsAt0 m c (pointOf b g n) (ix3 0 r (col512 256 (by decide) d))
      = normed (rowOut (mixing (entries (m ((c : Thread nD τ).loc main_arg1))) (entries (m ((c : Thread nD τ).loc main_arg2)))
          (entries (m ((c : Thread nD τ).loc main_arg3))) (entries (m ((c : Thread nD τ).loc main_arg4))))
          (rowState (iblk m c 1 (pointOf b g n)) (iblk m c 2 (pointOf b g n)) (iblk m c 3 (pointOf b g n)) 256 256 (by decide) (by decide) n.val r)
          (rowState (iblk m c 1 (pointOf b g n)) (iblk m c 2 (pointOf b g n)) (iblk m c 3 (pointOf b g n)) 384 256 (by decide) (by decide) n.val r))
        (fun e => (m ((c : Thread nD τ).loc main_arg5) : Vec Ideal S256 .f32) (ix1 e)) d := by
  unfold outsAt0 out0_A_5
  rw [run_eq, lam_load _ _ _ _ (lam_block m c (pointOf b g n)), out_head1, point_block]
  rw [show (fun e => View.readAt (Elt Ideal) (ms0_4 (pointOf b g n)).view (Rect.unit (s := S1x256) ![0, 0] S1x256.size inb_S1x256_S1x256_0_0).toLoadRect ((hs0_4 (pointOf b g n)).unread (iblk m c 4 (pointOf b g n))) (ix2 0 e))
      = fun e => (m ((c : Thread nD τ).loc main_arg5) : Vec Ideal S256 .f32) (ix1 e) from
    funext fun e => (weights_load _ _ _ e).trans (weights_block m c _ e)]

end Cert.KernelIdeal.DA
-- ==== Proof.Ref.lean ====
module
public import proofs.«01_k».proof.Proof.Gen.ReferenceIdeal.Read
public import proofs.«01_k».proof.Proof.Spec
public import Idealize.ShloMosaic.Lib.Pointwise
@[expose] public section
set_option maxRecDepth 16384
noncomputable section
namespace Cert.ReferenceIdeal.DA
open Cert.DiffAttn Cert.ReferenceIdeal Cert.ReferenceIdeal.Gen Cert.ReferenceIdeal.Read
open Idealize.ShloMosaic

variable (x0 : (⟨S2x8192x6144, .bf16⟩ : BufTy).Contents (Elt Ideal))

/-- Head `H`'s queries of branch `β` in the projections. -/
def qAt (b : Fin 2) (H : Fin 8) (β : Fin 2) (s : Fin 8192) (d : Fin 128) : EReal :=
  x0 (ix3 b s ⟨256 * H.val + 128 * β.val + d.val, by show _ < 6144; omega⟩)
/-- Head `H`'s keys of branch `β` in the projections. -/
def kAt (b : Fin 2) (H : Fin 8) (β : Fin 2) (s : Fin 8192) (d : Fin 128) : EReal :=
  x0 (ix3 b s ⟨2048 + (256 * H.val + 128 * β.val + d.val), by show _ < 6144; omega⟩)
/-- Head `H`'s values in the projections. -/
def vAt (b : Fin 2) (H : Fin 8) (s : Fin 8192) (d : Fin 256) : EReal :=
  x0 (ix3 b s ⟨4096 + (256 * H.val + d.val), by show _ < 6144; omega⟩)

theorem q_read (b : Fin 2) (H : Fin 8) (β : Fin 2) (s : Fin 8192) (d : Fin 128) :
    val_main_v17 (F := Ideal) x0 (ix5 b H β s d) = qAt x0 b H β s d := by
  rw [val_main_v17_apply]
  show val_main_v4 (F := Ideal) x0 (ix5 b H β s d) = _
  rw [val_main_v4_apply, val_main_v3_apply, val_main_v0_apply]
  unfold qAt
  refine congrArg x0 (funext fun a => Fin.ext ?_)
  match a with
  | ⟨0, _⟩ => show ((((b.val * 8192 + s.val) * 8 + H.val) * 2 + β.val) * 128 + d.val) / 16777216 = b.val; omega
  | ⟨1, _⟩ => show ((((b.val * 8192 + s.val) * 8 + H.val) * 2 + β.val) * 128 + d.val) / 2048 % 8192 = s.val; omega
  | ⟨2, _⟩ => show ((((b.val * 8192 + s.val) * 8 + H.val) * 2 + β.val) * 128 + d.val) % 2048 = _; show _ = 256 * H.val + 128 * β.val + d.val; omega

theorem k_read (b : Fin 2) (H : Fin 8) (β : Fin 2) (s : Fin 8192) (d : Fin 128) :
    val_main_v18 (F := Ideal) x0 (ix5 b H β s d) = kAt x0 b H β s d := by
  rw [val_main_v18_apply]
  show val_main_v6 (F := Ideal) x0 (ix5 b H β s d) = _
  rw [val_main_v6_apply, val_main_v5_apply, val_main_v1_apply]
  unfold kAt
  refine congrArg x0 (funext fun a => Fin.ext ?_)
  match a with
  | ⟨0, _⟩ => show ((((b.val * 8192 + s.val) * 8 + H.val) * 2 + β.val) * 128 + d.val) / 16777216 = b.val; omega
  | ⟨1, _⟩ => show ((((b.val * 8192 + s.val) * 8 + H.val) * 2 + β.val) * 128 + d.val) / 2048 % 8192 = s.val; omega
  | ⟨2, _⟩ =>
    show 2048 + ((((b.val * 8192 + s.val) * 8 + H.val) * 2 + β.val) * 128 + d.val) % 2048 = 2048 + (256 * H.val + 128 * β.val + d.val)
    omega

theorem v_read (b : Fin 2) (H : Fin 8) (s : Fin 8192) (d : Fin 256) :
    val_main_v19 (F := Ideal) x0 (ix4 b H s d) = vAt x0 b H s d := by
  rw [val_main_v19_apply]
  show val_main_v8 (F := Ideal) x0 (ix4 b H s d) = _
  rw [val_main_v8_apply, val_main_v7_apply, val_main_v2_apply]
  unfold vAt
  refine congrArg x0 (funext fun a => Fin.ext ?_)
  match a with
  | ⟨0, _⟩ => show (((b.val * 8192 + s.val) * 8 + H.val) * 256 + d.val) / 16777216 = b.val; omega
  | ⟨1, _⟩ => show (((b.val * 8192 + s.val) * 8 + H.val) * 256 + d.val) / 2048 % 8192 = s.val; omega
  | ⟨2, _⟩ =>
    show 4096 + (((b.val * 8192 + s.val) * 8 + H.val) * 256 + d.val) % 2048 = 4096 + (256 * H.val + d.val)
    omega

/-- The sign of a word, as a word. -/
def signWord (w : BitVec 32) : BitVec 32 := if w = 0 then 0 else if w.msb then -1 else 1

theorem chunk_word : ∀ n : Fin 8192, Scalar.select
    (IntOp.andi (IntOp.cmpi .ne (signWord (BitVec.ofNat 32 n.val)) (signWord (64#32))) (IntOp.cmpi .ne (IntOp.remsi .host (BitVec.ofNat 32 n.val) 64#32) 0#32))
    (IntOp.subi (IntOp.divsi .host (BitVec.ofNat 32 n.val) 64#32) 1#32) (IntOp.divsi .host (BitVec.ofNat 32 n.val) 64#32) = BitVec.ofNat 32 (n.val / 64) := by
  decide +kernel

theorem chunk_read (n : Fin 8192) : val_main_v21 (F := Ideal) (ix1 n) = BitVec.ofNat 32 (n.val / 64) := chunk_word n

theorem sle_word (a b : ℕ) (ha : a < 128) (hb : b < 128) : IntOp.cmpi .sle (BitVec.ofNat 32 a) (BitVec.ofNat 32 b) = if a ≤ b then 1#1 else 0#1 := by
  have : ∀ a b : Fin 128, IntOp.cmpi .sle (BitVec.ofNat 32 a.val) (BitVec.ofNat 32 b.val) = if a.val ≤ b.val then 1#1 else 0#1 := by decide +kernel
  exact this ⟨a, ha⟩ ⟨b, hb⟩

theorem mask_read (q κ : Fin 8192) : val_main_v29 (F := Ideal) (ix2 q κ) = if κ.val / 64 ≤ q.val / 64 then 1#1 else 0#1 := by
  rw [val_main_v29_apply, val_main_v27_apply, val_main_v25_apply, val_main_v28_apply, val_main_v26_apply, ← sle_word _ _ (by omega) (by omega),
    ← chunk_read, ← chunk_read]
  rfl

theorem neg_inf_bits : Ideal.ofBits .f32 0xFF800000#32 = (⊥ : EReal) := by
  simp [Ideal.ofBits, Ideal.ieee, -EReal.coe_mul]

theorem score_read (b : Fin 2) (H : Fin 8) (β : Fin 2) (q κ : Fin 8192) :
    val_main_v30 (F := Ideal) x0 (ix5 b H β q κ) = score (qAt x0 b H β) (kAt x0 b H β) q κ := by
  rw [val_main_v30_apply, val_main_call1_v1_apply, val_main_v24_apply, val_main_v22_apply, val_main_call1_v2_apply]
  have hm : val_main_v29 (F := Ideal) (idx_main_call1_v1 (ix5 b H β q κ)) = _ := mask_read q κ
  rw [hm]
  have hd : ∀ d : Fin 128, val_main_v17 (F := Ideal) x0 (lidx_main_v22 (ix5 b H β q κ) d) * val_main_v18 (F := Ideal) x0 (ridx_main_v22 (ix5 b H β q κ) d)
      = qAt x0 b H β q d * kAt x0 b H β κ d := fun d => by
    rw [← q_read, ← k_read]; rfl
  rw [Finset.sum_congr rfl fun d _ => hd d]
  unfold score
  split_ifs with h
  · rfl
  · exact neg_inf_bits

theorem top_read (b : Fin 2) (H : Fin 8) (β : Fin 2) (q : Fin 8192) :
    val_main_v31 (F := Ideal) x0 (ix4 b H β q) = Finset.univ.fold max ⊥ (score (qAt x0 b H β) (kAt x0 b H β) q) := by
  have : Finset.univ.fold max ⊥ (score (qAt x0 b H β) (kAt x0 b H β) q) = Finset.univ.fold max ⊥ fun κ => val_main_v30 (F := Ideal) x0 (ix5 b H β q κ) := by
    congr 1; funext κ; rw [score_read]
  rw [this]
  unfold val_main_v31
  generalize val_main_v30 (F := Ideal) x0 = y
  pointwise [val_main_cst_4]
  simp [neg_inf_bits]

theorem zero_bits : Ideal.ofBits .f32 0x00000000#32 = (0 : EReal) := by
  simp [Ideal.ofBits, Ideal.ieee]

/-- The exponential of a score less its row's greatest. -/
theorem exp_read (b : Fin 2) (H : Fin 8) (β : Fin 2) (q κ : Fin 8192) :
    val_main_v37 (F := Ideal) x0 (ix5 b H β q κ)
      = Ideal.exp (score (qAt x0 b H β) (kAt x0 b H β) q κ - Finset.univ.fold max ⊥ (score (qAt x0 b H β) (kAt x0 b H β) q)) := by
  rw [val_main_v37_apply, val_main_v36_apply, score_read, val_main_v35_apply, val_main_v34_apply, val_main_v33_apply]
  have hi : idx_main_v34 (idx_main_v35 (ix5 b H β q κ)) = ix4 b H β q :=
    funext fun a => match a with | ⟨0, _⟩ => rfl | ⟨1, _⟩ => rfl | ⟨2, _⟩ => rfl | ⟨3, _⟩ => rfl
  rw [hi, top_read]
  show Ideal.exp (_ - max (Ideal.ofBits .f32 0xFF800000#32) _) = _
  rw [neg_inf_bits, max_eq_right bot_le]

/-- The attention map of a head's branch. -/
theorem softmax_read (b : Fin 2) (H : Fin 8) (β : Fin 2) (q κ : Fin 8192) :
    val_main_v41 (F := Ideal) x0 (ix5 b H β q κ) = softmaxAt (score (qAt x0 b H β) (kAt x0 b H β) q) κ := by
  rw [val_main_v41_apply, exp_read, val_main_v40_apply, val_main_v39_apply, val_main_v38_apply]
  have hi : ∀ κ' : Fin 8192, idx_main_v38 (idx_main_v39 (idx_main_v40 (ix5 b H β q κ))) κ' = ix5 b H β q κ' := fun κ' =>
    funext fun a => match a with | ⟨0, _⟩ => rfl | ⟨1, _⟩ => rfl | ⟨2, _⟩ => rfl | ⟨3, _⟩ => rfl | ⟨4, _⟩ => rfl
  rw [Finset.sum_congr rfl fun κ' _ => by rw [hi κ', exp_read]]
  show Ideal.div _ (Ideal.ofBits .f32 0x00000000#32 + _) = _
  rw [zero_bits, zero_add]
  rfl

theorem branch0_read (b : Fin 2) (H : Fin 8) (q κ : Fin 8192) :
    val_main_v43 (F := Ideal) x0 (ix4 b H q κ) = softmaxAt (score (qAt x0 b H 0) (kAt x0 b H 0) q) κ := by
  rw [val_main_v43_apply, val_main_v42_apply, ← softmax_read]
  refine congrArg _ (funext fun a => Fin.ext ?_)
  match a with
  | ⟨0, _⟩ => show (((b.val * 8 + H.val) * 8192 + q.val) * 8192 + κ.val) / 536870912 = b.val; omega
  | ⟨1, _⟩ => show (((b.val * 8 + H.val) * 8192 + q.val) * 8192 + κ.val) / 67108864 % 8 = H.val; omega
  | ⟨2, _⟩ => rfl
  | ⟨3, _⟩ => show (((b.val * 8 + H.val) * 8192 + q.val) * 8192 + κ.val) / 8192 % 8192 = q.val; omega
  | ⟨4, _⟩ => show (((b.val * 8 + H.val) * 8192 + q.val) * 8192 + κ.val) % 8192 = κ.val; omega

theorem branch1_read (b : Fin 2) (H : Fin 8) (q κ : Fin 8192) :
    val_main_v45 (F := Ideal) x0 (ix4 b H q κ) = softmaxAt (score (qAt x0 b H 1) (kAt x0 b H 1) q) κ := by
  rw [val_main_v45_apply, val_main_v44_apply, ← softmax_read]
  refine congrArg _ (funext fun a => Fin.ext ?_)
  match a with
  | ⟨0, _⟩ => show (((b.val * 8 + H.val) * 8192 + q.val) * 8192 + κ.val) / 536870912 = b.val; omega
  | ⟨1, _⟩ => show (((b.val * 8 + H.val) * 8192 + q.val) * 8192 + κ.val) / 67108864 % 8 = H.val; omega
  | ⟨2, _⟩ => rfl
  | ⟨3, _⟩ => show (((b.val * 8 + H.val) * 8192 + q.val) * 8192 + κ.val) / 8192 % 8192 = q.val; omega
  | ⟨4, _⟩ => show (((b.val * 8 + H.val) * 8192 + q.val) * 8192 + κ.val) % 8192 = κ.val; omega

variable (x1 x2 x3 x4 : (⟨S128, .f32⟩ : BufTy).Contents (Elt Ideal)) (x5 : (⟨S256, .f32⟩ : BufTy).Contents (Elt Ideal))

/-- A 128-vector's entries. -/
def entries (x : (⟨S128, .f32⟩ : BufTy).Contents (Elt Ideal)) (j : Fin 128) : EReal := x (ix1 j)

theorem lam_read (i : S_.Idx) : val_main_v16 (F := Ideal) x1 x2 x3 x4 i = mixing (entries x1) (entries x2) (entries x3) (entries x4) := by
  unfold mixing entries
  pointwise [val_main_v16, val_main_v15, val_main_v14, val_main_v13, val_main_v12, val_main_v11, val_main_v10, val_main_v9, val_main_cst, val_main_cst_0, val_main_cst_1]

/-- Head `H`'s attention output. -/
theorem attended_read (b : Fin 2) (H : Fin 8) (q : Fin 8192) (d : Fin 256) :
    val_main_v49 (F := Ideal) x0 x1 x2 x3 x4 (ix4 b H q d)
      = attended (qAt x0 b H 0) (kAt x0 b H 0) (qAt x0 b H 1) (kAt x0 b H 1) (vAt x0 b H) (mixing (entries x1) (entries x2) (entries x3) (entries x4)) q d := by
  rw [val_main_v49_apply]
  unfold attended
  refine Finset.sum_congr rfl fun κ _ => ?_
  have h19 : val_main_v19 (F := Ideal) x0 (ridx_main_v49 (ix4 b H q d) κ) = _ := v_read x0 b H κ d
  have h43 : val_main_v43 (F := Ideal) x0 (lidx_main_v49 (ix4 b H q d) κ) = _ := branch0_read x0 b H q κ
  have h45 : val_main_v45 (F := Ideal) x0 (lidx_main_v49 (ix4 b H q d) κ) = _ := branch1_read x0 b H q κ
  rw [val_main_v48_apply, val_main_v47_apply, val_main_v46_apply, h19, h43, h45, lam_read]
  rfl

theorem heads_read (b : Fin 2) (s : Fin 8192) (H : Fin 8) (d : Fin 256) :
    val_main_v50 (F := Ideal) x0 x1 x2 x3 x4 (ix4 b s H d)
      = attended (qAt x0 b H 0) (kAt x0 b H 0) (qAt x0 b H 1) (kAt x0 b H 1) (vAt x0 b H) (mixing (entries x1) (entries x2) (entries x3) (entries x4)) s d := by
  rw [val_main_v50_apply]
  exact attended_read x0 x1 x2 x3 x4 b H s d

/-- The result at a position, a head and a column. -/
theorem result_read (b : Fin 2) (s : Fin 8192) (H : Fin 8) (d : Fin 256) :
    val_main_v67 (F := Ideal) x0 x1 x2 x3 x4 x5 (ix3 b s ⟨256 * H.val + d.val, by show _ < 2048; omega⟩)
      = normed (attended (qAt x0 b H 0) (kAt x0 b H 0) (qAt x0 b H 1) (kAt x0 b H 1) (vAt x0 b H) (mixing (entries x1) (entries x2) (entries x3) (entries x4)) s)
          (fun e => x5 (ix1 e)) d := by
  rw [val_main_v67_apply]
  show val_main_v66 (F := Ideal) x0 x1 x2 x3 x4 x5 _ = _
  rw [val_main_v66_apply]
  have hi : idx_main_v66 (ix3 b s ⟨256 * H.val + d.val, by show _ < 2048; omega⟩) = ix4 b s H d := funext fun a => Fin.ext (by
    match a with
    | ⟨0, _⟩ => show ((b.val * 8192 + s.val) * 2048 + (256 * H.val + d.val)) / 16777216 = b.val; omega
    | ⟨1, _⟩ => show ((b.val * 8192 + s.val) * 2048 + (256 * H.val + d.val)) / 2048 % 8192 = s.val; omega
    | ⟨2, _⟩ => show ((b.val * 8192 + s.val) * 2048 + (256 * H.val + d.val)) / 256 % 8 = H.val; omega
    | ⟨3, _⟩ => show ((b.val * 8192 + s.val) * 2048 + (256 * H.val + d.val)) % 256 = d.val; omega)
  rw [hi, val_main_v65_apply, val_main_v63_apply, val_main_v60_apply, heads_read, val_main_v59_apply, val_main_v58_apply, val_main_v57_apply,
    val_main_v55_apply, val_main_v53_apply, val_main_v52_apply]
  have hs : ∀ e : Fin 256, val_main_v51 (F := Ideal) x0 x1 x2 x3 x4 (idx_main_v52 (idx_main_v53 (idx_main_v59 (ix4 b s H d))) e)
      = attended (qAt x0 b H 0) (kAt x0 b H 0) (qAt x0 b H 1) (kAt x0 b H 1) (vAt x0 b H) (mixing (entries x1) (entries x2) (entries x3) (entries x4)) s e
        * attended (qAt x0 b H 0) (kAt x0 b H 0) (qAt x0 b H 1) (kAt x0 b H 1) (vAt x0 b H) (mixing (entries x1) (entries x2) (entries x3) (entries x4)) s e := fun e => by
    rw [val_main_v51_apply, ← heads_read]; rfl
  rw [Finset.sum_congr rfl fun e _ => hs e]
  show _ * Ideal.rsqrt (Ideal.div (Ideal.ofBits .f32 0x00000000#32 + _) _ + _) * _ * _ = _
  rw [zero_bits, zero_add, val_main_v62_apply, val_main_v61_apply]
  have hw : idx_main_v61 (idx_main_v62 (ix4 b s H d)) = ix1 d := funext fun a => match a with | ⟨0, _⟩ => rfl
  rw [hw]
  rfl

end Cert.ReferenceIdeal.DA
-- ==== Proof.Equal.lean ====
module
public import proofs.«01_k».proof.Proof.Out
public import proofs.«01_k».proof.Proof.Ref
@[expose] public section
set_option maxRecDepth 16384
noncomputable section
namespace Cert.KernelIdeal.DA
open Cert.DiffAttn Cert.KernelIdeal Cert.KernelIdeal.Gen
open Cert.ReferenceIdeal.DA (qAt kAt vAt)
open Idealize.ShloMosaic Idealize.ShloMosaic.TcCoe Idealize.SL.Sem Idealize.ShloMosaic.Tactic

/-- The scores' scale is a real number. -/
theorem scale_real : ∃ s : ℝ, Ideal.ofBits .f32 0x3DB504F3#32 = (s : EReal) := by
  refine ⟨11863283 / 2 ^ 27, ?_⟩
  simp [Ideal.ofBits, Ideal.ieee, -EReal.coe_mul]
  norm_num

theorem init_real : ∃ s : ℝ, Ideal.ofBits .f32 0x3EB60549#32 = (s : EReal) := by
  refine ⟨11928905 / 2 ^ 25, ?_⟩
  simp [Ideal.ofBits, Ideal.ieee, -EReal.coe_mul]
  norm_num

/-- Real numbers' finite sums, as extended reals. -/
theorem coe_sum {ι : Type} (S : Finset ι) (f : ι → ℝ) : ∑ i ∈ S, (f i : EReal) = ((∑ i ∈ S, f i : ℝ) : EReal) := by
  induction S using Finset.cons_induction with
  | empty => rfl
  | cons a S ha ih => rw [Finset.sum_cons, Finset.sum_cons, ih, EReal.coe_add]

/-- The scale moves out of the inner product of real vectors, and the product is real. -/
theorem scaled_sum (q k : Fin 128 → EReal) (hq : ∀ d, ∃ x : ℝ, q d = x) (hk : ∀ d, ∃ x : ℝ, k d = x) :
    ∑ d, q d * Ideal.ofBits .f32 0x3DB504F3#32 * k d = (∑ d, q d * k d) * Ideal.ofBits .f32 0x3DB504F3#32
      ∧ ∃ x : ℝ, (∑ d, q d * k d) * Ideal.ofBits .f32 0x3DB504F3#32 = x := by
  obtain ⟨s, hs⟩ := scale_real
  choose qr hq using hq
  choose kr hk using hk
  rw [hs]
  have h1 : ∑ d, q d * (s : EReal) * k d = ((∑ d, qr d * s * kr d : ℝ) : EReal) := by
    rw [← coe_sum]
    exact Finset.sum_congr rfl fun d _ => by rw [hq, hk, EReal.coe_mul, EReal.coe_mul]
  have h2 : ∑ d, q d * k d = ((∑ d, qr d * kr d : ℝ) : EReal) := by
    rw [← coe_sum]
    exact Finset.sum_congr rfl fun d _ => by rw [hq, hk, EReal.coe_mul]
  rw [h1, h2, ← EReal.coe_mul]
  refine ⟨congrArg _ ?_, _, rfl⟩
  rw [Finset.sum_mul]
  exact Finset.sum_congr rfl fun d _ => by ring

/-- The mixing factor of real vectors is real. -/
theorem mixing_real (a b c d : Fin 128 → EReal) (ha : ∀ i, ∃ x : ℝ, a i = x) (hb : ∀ i, ∃ x : ℝ, b i = x) (hc : ∀ i, ∃ x : ℝ, c i = x)
    (hd : ∀ i, ∃ x : ℝ, d i = x) : ∃ x : ℝ, mixing a b c d = x := by
  obtain ⟨s, hs⟩ := init_real
  choose ar ha using ha
  choose br hb using hb
  choose cr hc using hc
  choose dr hd using hd
  have h1 : ∑ j, a j * b j = ((∑ j, ar j * br j : ℝ) : EReal) := by
    rw [← coe_sum]
    exact Finset.sum_congr rfl fun j _ => by rw [ha, hb, EReal.coe_mul]
  have h2 : ∑ j, c j * d j = ((∑ j, cr j * dr j : ℝ) : EReal) := by
    rw [← coe_sum]
    exact Finset.sum_congr rfl fun j _ => by rw [hc, hd, EReal.coe_mul]
  unfold mixing
  rw [h1, h2, hs]
  exact ⟨Real.exp (∑ j, ar j * br j) - Real.exp (∑ j, cr j * dr j) + s, by rw [EReal.coe_add, EReal.coe_sub]; rfl⟩

/-- One branch's scores, block by block, are its scores key by key. -/
theorem scores_eq (x1 : Vec Ideal S1x512x512 .bf16) (x2 : Vec Ideal S1x8192x512 .bf16) (o : ℕ) (ho : o + 128 ≤ 512) (n : Fin 16) (r : Fin 512) (s : Fin 8192)
    (hs : s.val = 512 * n.val + r.val) (Q K : Fin 8192 → Fin 128 → EReal) (hQ : ∀ d, x1 (ix3 0 r (col512 o ho d)) = Q s d)
    (hK : ∀ κ d, x2 (ix3 0 κ (col512 o ho d)) = K κ d) (rQ : ∀ s d, ∃ x : ℝ, Q s d = x) (rK : ∀ s d, ∃ x : ℝ, K s d = x) (k : ℕ) (hk : k < n.val + 1) :
    rowScores x1 x2 o ho n.val r k = fun c => score Q K s (keyOf k c) := by
  funext c
  unfold rowScores score
  have hc : (keyOf k c).val = 512 * k + c.val := by show (512 * k + c.val) % 8192 = _; omega
  rw [hc, hs]
  refine if_congr Iff.rfl ?_ rfl
  rw [← (scaled_sum (Q s) (K (keyOf k c)) (rQ s) (rK _)).1]
  exact Finset.sum_congr rfl fun d _ => by rw [hQ, hK]

/-- The combination of the two branches' states is the row of the difference of the attention maps. -/
theorem rows_eq (x1 : Vec Ideal S1x512x512 .bf16) (x2 x3 : Vec Ideal S1x8192x512 .bf16) (o0 o1 h : ℕ) (ho0 : o0 + 128 ≤ 512) (ho1 : o1 + 128 ≤ 512) (hh : h + 256 ≤ 512)
    (n : Fin 16) (r : Fin 512) (s : Fin 8192) (hs : s.val = 512 * n.val + r.val) (Q0 K0 Q1 K1 : Fin 8192 → Fin 128 → EReal) (V : Fin 8192 → Fin 256 → EReal)
    (hQ0 : ∀ d, x1 (ix3 0 r (col512 o0 ho0 d)) = Q0 s d) (hK0 : ∀ κ d, x2 (ix3 0 κ (col512 o0 ho0 d)) = K0 κ d)
    (hQ1 : ∀ d, x1 (ix3 0 r (col512 o1 ho1 d)) = Q1 s d) (hK1 : ∀ κ d, x2 (ix3 0 κ (col512 o1 ho1 d)) = K1 κ d)
    (hV : ∀ κ d, x3 (ix3 0 κ (col512 h hh d)) = V κ d)
    (rQ0 : ∀ s d, ∃ x : ℝ, Q0 s d = x) (rK0 : ∀ s d, ∃ x : ℝ, K0 s d = x) (rQ1 : ∀ s d, ∃ x : ℝ, Q1 s d = x) (rK1 : ∀ s d, ∃ x : ℝ, K1 s d = x)
    (rV : ∀ s d, ∃ x : ℝ, V s d = x) (lam : EReal) (rl : ∃ x : ℝ, lam = x) :
    rowOut lam (rowState x1 x2 x3 o0 h ho0 hh n.val r) (rowState x1 x2 x3 o1 h ho1 hh n.val r) = attended Q0 K0 Q1 K1 V lam s := by
  obtain ⟨lr, hl⟩ := rl
  choose vr hv using rV
  have hb : blockVals x3 h hh = fun k c => V (keyOf k c) := by
    funext k c d
    exact hV _ _
  have top : ∀ (Q K : Fin 8192 → Fin 128 → EReal), (∀ s d, ∃ x : ℝ, Q s d = x) → (∀ s d, ∃ x : ℝ, K s d = x) → ∀ κ, score Q K s κ ≠ ⊤ := by
    intro Q K rQ rK κ
    obtain ⟨x, hx⟩ := (scaled_sum (Q s) (K κ) (rQ s) (rK κ)).2
    unfold score
    split
    · rw [hx]; exact EReal.coe_ne_top x
    · exact bot_ne_top
  have bot : ∀ (Q K : Fin 8192 → Fin 128 → EReal), (∀ s d, ∃ x : ℝ, Q s d = x) → (∀ s d, ∃ x : ℝ, K s d = x) → ∀ k ≤ n.val, ∃ c, score Q K s (keyOf k c) ≠ ⊥ := by
    intro Q K rQ rK k hk
    refine ⟨0, ?_⟩
    obtain ⟨x, hx⟩ := (scaled_sum (Q s) (K (keyOf k 0)) (rQ s) (rK _)).2
    have hc : (keyOf k 0).val = 512 * k := by show (512 * k + 0) % 8192 = _; omega
    unfold score
    rw [if_pos (by rw [hc, hs]; omega), hx]
    exact EReal.coe_ne_bot x
  have masked : ∀ (Q K : Fin 8192 → Fin 128 → EReal) (k : ℕ), n.val < k → k < 16 → ∀ c, score Q K s (keyOf k c) = ⊥ := by
    intro Q K k hk hk' c
    have hc : (keyOf k c).val = 512 * k + c.val := by show (512 * k + c.val) % 8192 = _; omega
    unfold score
    exact if_neg (by rw [hc, hs]; omega)
  funext d
  unfold rowState attended
  rw [rowAfter_congr _ _ _ _ (scores_eq x1 x2 o0 ho0 n r s hs Q0 K0 hQ0 hK0 rQ0 rK0), rowAfter_congr _ _ _ _ (scores_eq x1 x2 o1 ho1 n r s hs Q1 K1 hQ1 hK1 rQ1 rK1), hb]
  exact online_eq (score Q0 K0 s) (score Q1 K1 s) V vr lam lr hl hv n.val n.isLt (top Q0 K0 rQ0 rK0) (top Q1 K1 rQ1 rK1) (bot Q0 K0 rQ0 rK0) (bot Q1 K1 rQ1 rK1)
    (masked Q0 K0) (masked Q1 K1) d

variable (m : (ℓ : Loc nD τ sig) → Buf (Elt Ideal) ℓ)

/-- The projections a device is given. -/
abbrev proj (c : Dev nD) : Vec Ideal S2x8192x6144 .bf16 := m ((c : Thread nD τ).loc main_arg0)
/-- The mixing factor of the vectors a device is given. -/
abbrev mixOf (c : Dev nD) : EReal := mixing (entries (m ((c : Thread nD τ).loc main_arg1))) (entries (m ((c : Thread nD τ).loc main_arg2)))
  (entries (m ((c : Thread nD τ).loc main_arg3))) (entries (m ((c : Thread nD τ).loc main_arg4)))

/-- Head `2g + h` of what a point writes. -/
theorem wrote (c : Dev nD) (hx : ∀ i, ∃ x : ℝ, proj m c i = x) (hl : ∃ x : ℝ, mixOf m c = x) (b : Fin 2) (g : Fin 4) (n : Fin 16) (r : Fin 512) (h : Fin 2) (d : Fin 256)
    (H : Fin 8) (hH : H.val = 2 * g.val + h.val) (s : Fin 8192) (hs : s.val = 512 * n.val + r.val) :
    outsAt0 m c (pointOf b g n) (ix3 0 r (col512 (256 * h.val) (by omega) d))
      = normed (attended (qAt (proj m c) b H 0) (kAt (proj m c) b H 0) (qAt (proj m c) b H 1) (kAt (proj m c) b H 1) (vAt (proj m c) b H) (mixOf m c) s)
        (fun e => (m ((c : Thread nD τ).loc main_arg5) : Vec Ideal S256 .f32) (ix1 e)) d := by
  have col : ∀ (o : ℕ) (p p' : Fin 6144), p.val = p'.val → ∀ s, proj m c (ix3 b s p) = proj m c (ix3 b s p') := by
    intro o p p' e s
    rw [Fin.ext e]
  obtain ⟨s, hs'⟩ := s
  dsimp only at hs
  subst hs
  match h, hH with
  | ⟨0, _⟩, hH =>
    refine (wrote_head0 m c b g n r d).trans ?_
    rw [rows_eq _ _ _ 0 128 0 _ _ _ n r ⟨512 * n.val + r.val, hs'⟩ rfl (qAt (proj m c) b H 0) (kAt (proj m c) b H 0) (qAt (proj m c) b H 1) (kAt (proj m c) b H 1) (vAt (proj m c) b H)
      (fun d => (queries_read m c b g n r _).trans (col 0 _ _ (by show 512 * g.val + (0 + d.val) = 256 * H.val + 128 * 0 + d.val; dsimp only at hH; omega) _))
      (fun κ d => (keys_read m c b g n κ _).trans (col 0 _ _ (by show 2048 + (512 * g.val + (0 + d.val)) = 2048 + (256 * H.val + 128 * 0 + d.val); dsimp only at hH; omega) _))
      (fun d => (queries_read m c b g n r _).trans (col 0 _ _ (by show 512 * g.val + (128 + d.val) = 256 * H.val + 128 * 1 + d.val; dsimp only at hH; omega) _))
      (fun κ d => (keys_read m c b g n κ _).trans (col 0 _ _ (by show 2048 + (512 * g.val + (128 + d.val)) = 2048 + (256 * H.val + 128 * 1 + d.val); dsimp only at hH; omega) _))
      (fun κ d => (values_read m c b g n κ _).trans (col 0 _ _ (by show 4096 + (512 * g.val + (0 + d.val)) = 4096 + (256 * H.val + d.val); dsimp only at hH; omega) _))
      (fun _ _ => hx _) (fun _ _ => hx _) (fun _ _ => hx _) (fun _ _ => hx _) (fun _ _ => hx _) (mixOf m c) hl]
  | ⟨1, _⟩, hH =>
    refine (wrote_head1 m c b g n r d).trans ?_
    rw [rows_eq _ _ _ 256 384 256 _ _ _ n r ⟨512 * n.val + r.val, hs'⟩ rfl (qAt (proj m c) b H 0) (kAt (proj m c) b H 0) (qAt (proj m c) b H 1) (kAt (proj m c) b H 1) (vAt (proj m c) b H)
      (fun d => (queries_read m c b g n r _).trans (col 0 _ _ (by show 512 * g.val + (256 + d.val) = 256 * H.val + 128 * 0 + d.val; dsimp only at hH; omega) _))
      (fun κ d => (keys_read m c b g n κ _).trans (col 0 _ _ (by show 2048 + (512 * g.val + (256 + d.val)) = 2048 + (256 * H.val + 128 * 0 + d.val); dsimp only at hH; omega) _))
      (fun d => (queries_read m c b g n r _).trans (col 0 _ _ (by show 512 * g.val + (384 + d.val) = 256 * H.val + 128 * 1 + d.val; dsimp only at hH; omega) _))
      (fun κ d => (keys_read m c b g n κ _).trans (col 0 _ _ (by show 2048 + (512 * g.val + (384 + d.val)) = 2048 + (256 * H.val + 128 * 1 + d.val); dsimp only at hH; omega) _))
      (fun κ d => (values_read m c b g n κ _).trans (col 0 _ _ (by show 4096 + (512 * g.val + (256 + d.val)) = 4096 + (256 * H.val + d.val); dsimp only at hH; omega) _))
      (fun _ _ => hx _) (fun _ _ => hx _) (fun _ _ => hx _) (fun _ _ => hx _) (fun _ _ => hx _) (mixOf m c) hl]

/-- The output array's entries. -/
theorem array_read (c : Dev nD) (hx : ∀ i, ∃ x : ℝ, proj m c i = x) (hl : ∃ x : ℝ, mixOf m c = x) (b : Fin 2) (s : Fin 8192) (H : Fin 8) (d : Fin 256) :
    ((dats m 0 c).arrAt 5 cfg0.N : Vec Ideal S2x8192x2048 .bf16) (ix3 b s ⟨256 * H.val + d.val, by show _ < 2048; omega⟩)
      = normed (attended (qAt (proj m c) b H 0) (kAt (proj m c) b H 0) (qAt (proj m c) b H 1) (kAt (proj m c) b H 1) (vAt (proj m c) b H) (mixOf m c) s)
        (fun e => (m ((c : Thread nD τ).loc main_arg5) : Vec Ideal S256 .f32) (ix1 e)) d := by
  let g : Fin 4 := ⟨H.val / 2, by omega⟩
  let h : Fin 2 := ⟨H.val % 2, by omega⟩
  let n : Fin 16 := ⟨s.val / 512, by omega⟩
  let r : Fin 512 := ⟨s.val % 512, by omega⟩
  have hw := wrote m c hx hl b g n r h d H (by show H.val = 2 * (H.val / 2) + H.val % 2; omega) s (by show s.val = 512 * (s.val / 512) + s.val % 512; omega)
  have hb := congrFun (Value.blocks5 m c (pointOf b g n) (flush0_5 _)) (ix3 0 r (col512 (256 * h.val) (by omega) d))
  rw [View.read_apply, Value.flushed5] at hb
  have hc : ∀ (o : Vec Ideal S1x512x512 .bf16) (t : Fin grid0.N) (j : S1x512x512.Idx), ((cfg0.win 5).cut (grid0.coords t) o : Vec Ideal S1x512x512 .bf16) j = o j := fun o t j => rfl
  refine Eq.trans ?_ (hb.trans ((hc _ _ _).trans hw))
  · obtain ⟨h0, h1, h2⟩ := index5 (pointOf b g n)
    have ht : (pointOf b g n).val = 64 * b.val + 16 * (H.val / 2) + s.val / 512 := rfl
    refine congrArg _ (funext fun a => Fin.ext ?_)
    match a with
    | ⟨0, _⟩ => show b.val = win0_5.index (pointOf b g n) 0 * 1 + 1 * 0; rw [h0, ht]; omega
    | ⟨1, _⟩ => show s.val = win0_5.index (pointOf b g n) 1 * 512 + 1 * (s.val % 512); rw [h1, ht]; omega
    | ⟨2, _⟩ => show 256 * H.val + d.val = win0_5.index (pointOf b g n) 2 * 512 + 1 * (256 * (H.val % 2) + d.val); rw [h2, ht]; omega

end Cert.KernelIdeal.DA
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Qkv1
public import proofs.«01_k».proof.Proof.Gen.Qkv1Ideal
public import proofs.«01_k».proof.Proof.Gen.Qkv1.Skeleton
public import proofs.«01_k».proof.Proof.Gen.Qkv1Ideal.Skeleton
public import proofs.«01_k».proof.Proof.Gen.Qkv1.Launch
public import proofs.«01_k».proof.Proof.Gen.Qkv1Ideal.Launch
public import proofs.«01_k».proof.Proof.Gen.Qkv1.Points
public import proofs.«01_k».proof.Proof.Gen.Qkv1Ideal.Points
public import proofs.«01_k».proof.Proof.Gen.Qkv1.Frame
public import proofs.«01_k».proof.Proof.Gen.Qkv1Ideal.Frame
public import proofs.«01_k».proof.Proof.Gen.Qkv1Ideal.Value
public import proofs.«01_k».proof.Proof.Gen.Qkv1RefIdeal
public import proofs.«01_k».proof.Proof.Gen.Qkv1RefIdeal.Run
public import proofs.«01_k».proof.Proof.Gen.Qkv1RefIdeal.Read
public import proofs.«01_k».proof.Proof.Gen.OutProj
public import proofs.«01_k».proof.Proof.Gen.OutProjIdeal
public import proofs.«01_k».proof.Proof.Gen.OutProj.Skeleton
public import proofs.«01_k».proof.Proof.Gen.OutProjIdeal.Skeleton
public import proofs.«01_k».proof.Proof.Gen.OutProj.Launch
public import proofs.«01_k».proof.Proof.Gen.OutProjIdeal.Launch
public import proofs.«01_k».proof.Proof.Gen.OutProj.Points
public import proofs.«01_k».proof.Proof.Gen.OutProjIdeal.Points
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Qkv0
public import proofs.«01_k».proof.Proof.Gen.Qkv0.Skeleton
public import proofs.«01_k».proof.Proof.Gen.Qkv0.Launch
public import proofs.«01_k».proof.Proof.Gen.Qkv0.Points
public import proofs.«01_k».proof.Proof.Gen.Qkv0.Frame
public import proofs.«01_k».proof.Proof.Gen.Qkv0Ideal
public import proofs.«01_k».proof.Proof.Gen.Qkv0Ideal.Skeleton
public import proofs.«01_k».proof.Proof.Gen.Qkv0Ideal.Launch
public import proofs.«01_k».proof.Proof.Gen.Qkv0Ideal.Points
public import proofs.«01_k».proof.Proof.Gen.Qkv0Ideal.Frame
public import proofs.«01_k».proof.Proof.Gen.Qkv0Ideal.Value
public import proofs.«01_k».proof.Proof.Gen.Qkv0RefIdeal
public import proofs.«01_k».proof.Proof.Gen.Qkv0RefIdeal.Run
public import proofs.«01_k».proof.Proof.Gen.Qkv0RefIdeal.Read
public import proofs.«01_k».proof.Proof.Gen.Feat
public import proofs.«01_k».proof.Proof.Gen.Feat.Skeleton
public import proofs.«01_k».proof.Proof.Gen.Feat.Launch
public import proofs.«01_k».proof.Proof.Gen.Feat.Points
public import proofs.«01_k».proof.Proof.Gen.Feat.Frame
public import proofs.«01_k».proof.Proof.Gen.FeatIdeal
public import proofs.«01_k».proof.Proof.Gen.FeatIdeal.Skeleton
public import proofs.«01_k».proof.Proof.Gen.FeatIdeal.Launch
public import proofs.«01_k».proof.Proof.Gen.FeatIdeal.Points
public import proofs.«01_k».proof.Proof.Gen.FeatIdeal.Frame
public import proofs.«01_k».proof.Proof.Gen.FeatIdeal.Value
public import proofs.«01_k».proof.Proof.Gen.FeatRefIdeal
public import proofs.«01_k».proof.Proof.Gen.FeatRefIdeal.Run
public import proofs.«01_k».proof.Proof.Gen.FeatRefIdeal.Read
public import proofs.«01_k».proof.Proof.Gen.GProj
public import proofs.«01_k».proof.Proof.Gen.GProj.Skeleton
public import proofs.«01_k».proof.Proof.Gen.GProj.Launch
public import proofs.«01_k».proof.Proof.Gen.GProj.Points
public import proofs.«01_k».proof.Proof.Gen.GProj.Frame
public import proofs.«01_k».proof.Proof.Gen.GProjIdeal
public import proofs.«01_k».proof.Proof.Gen.GProjIdeal.Skeleton
public import proofs.«01_k».proof.Proof.Gen.GProjIdeal.Launch
public import proofs.«01_k».proof.Proof.Gen.GProjIdeal.Points
public import proofs.«01_k».proof.Proof.Gen.GProjIdeal.Frame
public import proofs.«01_k».proof.Proof.Gen.GProjIdeal.Value
public import proofs.«01_k».proof.Proof.Gen.GProjRefIdeal
public import proofs.«01_k».proof.Proof.Gen.GProjRefIdeal.Run
public import proofs.«01_k».proof.Proof.Gen.GProjRefIdeal.Read
public import proofs.«01_k».proof.Proof.Gen.OGate
public import proofs.«01_k».proof.Proof.Gen.OGate.Skeleton
public import proofs.«01_k».proof.Proof.Gen.OGate.Launch
public import proofs.«01_k».proof.Proof.Gen.OGate.Points
public import proofs.«01_k».proof.Proof.Gen.OGate.Frame
public import proofs.«01_k».proof.Proof.Gen.OGateIdeal
public import proofs.«01_k».proof.Proof.Gen.OGateIdeal.Skeleton
public import proofs.«01_k».proof.Proof.Gen.OGateIdeal.Launch
public import proofs.«01_k».proof.Proof.Gen.OGateIdeal.Points
public import proofs.«01_k».proof.Proof.Gen.OGateIdeal.Frame
public import proofs.«01_k».proof.Proof.Gen.OGateIdeal.Value
public import proofs.«01_k».proof.Proof.Gen.OGateRefIdeal
public import proofs.«01_k».proof.Proof.Gen.OGateRefIdeal.Run
public import proofs.«01_k».proof.Proof.Gen.OGateRefIdeal.Read
public import proofs.«01_k».proof.Proof.Gen.Lora
public import proofs.«01_k».proof.Proof.Gen.Lora.Skeleton
public import proofs.«01_k».proof.Proof.Gen.Lora.Launch
public import proofs.«01_k».proof.Proof.Gen.Lora.Points
public import proofs.«01_k».proof.Proof.Gen.Lora.Frame
public import proofs.«01_k».proof.Proof.Gen.LoraIdeal
public import proofs.«01_k».proof.Proof.Gen.LoraIdeal.Skeleton
public import proofs.«01_k».proof.Proof.Gen.LoraIdeal.Launch
public import proofs.«01_k».proof.Proof.Gen.LoraIdeal.Points
public import proofs.«01_k».proof.Proof.Gen.LoraIdeal.Frame
public import proofs.«01_k».proof.Proof.Gen.LoraIdeal.Value
public import proofs.«01_k».proof.Proof.Gen.LoraRefIdeal
public import proofs.«01_k».proof.Proof.Gen.LoraRefIdeal.Run
public import proofs.«01_k».proof.Proof.Gen.LoraRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Router
public import proofs.«01_k».proof.Proof.Gen.Router.Skeleton
public import proofs.«01_k».proof.Proof.Gen.Router.Launch
public import proofs.«01_k».proof.Proof.Gen.Router.Points
public import proofs.«01_k».proof.Proof.Gen.Router.Frame
public import proofs.«01_k».proof.Proof.Gen.RouterIdeal
public import proofs.«01_k».proof.Proof.Gen.RouterIdeal.Skeleton
public import proofs.«01_k».proof.Proof.Gen.RouterIdeal.Launch
public import proofs.«01_k».proof.Proof.Gen.RouterIdeal.Points
public import proofs.«01_k».proof.Proof.Gen.RouterIdeal.Frame
public import proofs.«01_k».proof.Proof.Gen.RouterIdeal.Value
public import proofs.«01_k».proof.Proof.Gen.RouterRefIdeal
public import proofs.«01_k».proof.Proof.Gen.RouterRefIdeal.Run
public import proofs.«01_k».proof.Proof.Gen.RouterRefIdeal.Read
public import proofs.«01_k».proof.Proof.Gen.Pre_finite_gate
public import proofs.«01_k».proof.Proof.Gen.Pre_finite_router
public import proofs.«01_k».proof.Proof.QkvCall
public import proofs.«01_k».proof.Proof.OutCall
public import proofs.«01_k».proof.Proof.Qkv0Call
public import proofs.«01_k».proof.Proof.FeatCall
public import proofs.«01_k».proof.Proof.GProjCall
public import proofs.«01_k».proof.Proof.OGateCall
public import proofs.«01_k».proof.Proof.LoraCall
public import proofs.«01_k».proof.Proof.GateCall
public import proofs.«01_k».proof.Proof.RouterCall
public import proofs.«01_k».proof.Proof.Equal
public import proofs.«01_k».proof.Proof.Ref
public import proofs.«01_k».proof.Proof.Finite
public import Idealize.ShloMosaic.Adequacy
public import Idealize.ShloMosaic.Init

@[expose] public section

noncomputable section

namespace Cert.Proof

open Idealize.ShloMosaic Idealize.ShloMosaic.TcCoe Idealize.SL.Sem Idealize.ShloMosaic.Tactic
open Cert.DiffAttn

/-- The reference runs to the end and leaves its arguments as they were; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Every index of the result is a batch, a position, a head and a column of that head. -/
theorem split_idx (i : Cert.ReferenceIdeal.S2x8192x2048.Idx) :
    ∃ (b : Fin 2) (s : Fin 8192) (H : Fin 8) (d : Fin 256), i = ix3 b s ⟨256 * H.val + d.val, by show _ < 2048; omega⟩ := by
  have h0 : (i 0).val < 2 := (i 0).isLt
  have h1 : (i 1).val < 8192 := (i 1).isLt
  have h2 : (i 2).val < 2048 := (i 2).isLt
  refine ⟨⟨(i 0).val, h0⟩, ⟨(i 1).val, h1⟩, ⟨(i 2).val / 256, by omega⟩, ⟨(i 2).val % 256, by omega⟩, funext fun a => Fin.ext ?_⟩
  match a with
  | ⟨0, _⟩ => rfl
  | ⟨1, _⟩ => rfl
  | ⟨2, _⟩ => show (i 2).val = 256 * ((i 2).val / 256) + (i 2).val % 256; omega

/-- The kernel's output array is the reference's result of the same arguments, where they hold real numbers. -/
theorem results_eq (m : (ℓ : Loc Cert.KernelIdeal.nD Cert.KernelIdeal.τ Cert.KernelIdeal.sig) → Buf (Elt Ideal) ℓ) (h : Cert.Pre_KernelIdeal_finite m)
    (c : Dev Cert.KernelIdeal.nD) :
    Cert.ReferenceIdeal.Read.val_main_v67 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = (Cert.KernelIdeal.Gen.dats m 0 c).arrAt 5 Cert.KernelIdeal.cfg0.N := by
  obtain ⟨h0, h1, h2, h3, h4⟩ := Cert.Pre_finite.DA.reals _ _ _ _ _ _ (Shape.Idx.first (by decide)) (congrFun (h c) _)
  have hl : ∃ x : ℝ, Cert.KernelIdeal.DA.mixOf m c = x :=
    Cert.KernelIdeal.DA.mixing_real _ _ _ _ (fun i => h1 (ix1 i)) (fun i => h2 (ix1 i)) (fun i => h3 (ix1 i)) (fun i => h4 (ix1 i))
  funext i
  obtain ⟨b, s, H, d, rfl⟩ := split_idx i
  rw [Cert.ReferenceIdeal.DA.result_read]
  exact (Cert.KernelIdeal.DA.array_read m c h0 hl b s H d).symm

/-- Over the reals, the kernel computes what its reference computes. -/
theorem algebraic : Cert.algebraic_KernelIdeal_ReferenceIdeal_pre_finite := by
  intro m ρ m' ρ' hpre hagree
  refine ⟨fun c => (Cert.KernelIdeal.Gen.dats m 0 c).arrAt 5 Cert.KernelIdeal.cfg0.N, Cert.KernelIdeal.Value.run_blocks (F := Ideal) m ρ, ?_⟩
  refine (θ_run _ _ _).mono (fun _ h c => ⟨(h c).1.trans ?_, (h c).2⟩) (Cert.ReferenceIdeal.Value.run (F := Ideal) m' ρ')
  obtain ⟨e0, e1, e2, e3, e4, e5⟩ := hagree c
  rw [Cert.ReferenceIdeal.Read.val_main_v67_eq, e0, e1, e2, e3, e4, e5]
  exact results_eq m hpre c

theorem claim : Cert.Claim := ⟨Cert.Kernel.Gen.facts, Cert.KernelIdeal.Gen.facts, Cert.ReferenceIdeal.Gen.facts,
  Cert.Qkv1.Gen.facts, Cert.Qkv1Ideal.Gen.facts, Cert.Qkv1RefIdeal.Gen.facts,
  Cert.OutProj.Gen.facts, Cert.OutProjIdeal.Gen.facts, Cert.OutProjRefIdeal.Gen.facts,
  Cert.Qkv0.Gen.facts, Cert.Qkv0Ideal.Gen.facts, Cert.Qkv0RefIdeal.Gen.facts,
  Cert.Feat.Gen.facts, Cert.FeatIdeal.Gen.facts, Cert.FeatRefIdeal.Gen.facts,
  Cert.GProj.Gen.facts, Cert.GProjIdeal.Gen.facts, Cert.GProjRefIdeal.Gen.facts,
  Cert.OGate.Gen.facts, Cert.OGateIdeal.Gen.facts, Cert.OGateRefIdeal.Gen.facts,
  Cert.Lora.Gen.facts, Cert.LoraIdeal.Gen.facts, Cert.LoraRefIdeal.Gen.facts,
  Cert.Gate.Gen.facts, Cert.GateIdeal.Gen.facts, Cert.GateRefIdeal.Gen.facts,
  Cert.Router.Gen.facts, Cert.RouterIdeal.Gen.facts, Cert.RouterRefIdeal.Gen.facts,
  Cert.Pre_finite.Gen.facts, Cert.Pre_finite_gate.Gen.facts, Cert.Pre_finite_router.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Qkv1.Gen.frame m ρ, fun m ρ _ => Cert.Qkv1Ideal.Gen.frame m ρ, Cert.Qkv1Ideal.DA.frame_reference,
  fun m ρ _ => Cert.OutProj.Gen.frame m ρ, fun m ρ _ => Cert.OutProjIdeal.Gen.frame m ρ, Cert.OutProjIdeal.DA.frame_reference,
  fun m ρ _ => Cert.Qkv0.Gen.frame m ρ, fun m ρ _ => Cert.Qkv0Ideal.Gen.frame m ρ, Cert.Qkv0Ideal.DA.frame_reference,
  fun m ρ _ => Cert.Feat.Gen.frame m ρ, fun m ρ _ => Cert.FeatIdeal.Gen.frame m ρ, Cert.FeatIdeal.DA.frame_reference,
  fun m ρ _ => Cert.GProj.Gen.frame m ρ, fun m ρ _ => Cert.GProjIdeal.Gen.frame m ρ, Cert.GProjIdeal.DA.frame_reference,
  fun m ρ _ => Cert.OGate.Gen.frame m ρ, fun m ρ _ => Cert.OGateIdeal.Gen.frame m ρ, Cert.OGateIdeal.DA.frame_reference,
  fun m ρ _ => Cert.Lora.Gen.frame m ρ, fun m ρ _ => Cert.LoraIdeal.Gen.frame m ρ, Cert.LoraIdeal.DA.frame_reference,
  fun m ρ _ => Cert.Gate.Gen.frame m ρ, fun m ρ _ => Cert.GateIdeal.Gen.frame m ρ, fun m ρ _ => Cert.GateIdeal.Gen.frame m ρ,
  Cert.GateIdeal.DA.frame_reference, fun m ρ _ => Cert.GateIdeal.DA.frame_reference m ρ trivial,
  fun m ρ _ => Cert.Router.Gen.frame m ρ, fun m ρ _ => Cert.RouterIdeal.Gen.frame m ρ, fun m ρ _ => Cert.RouterIdeal.Gen.frame m ρ,
  Cert.RouterIdeal.DA.frame_reference, fun m ρ _ => Cert.RouterIdeal.DA.frame_reference m ρ trivial,
  IdealRules.named_const.statement Cert.KernelIdeal.κ "mask" .f32 0xF149F2CA#32 ⊥ rfl, algebraic,
  trivial, Cert.Qkv1Ideal.DA.algebraic,
  trivial, Cert.OutProjIdeal.DA.algebraic,
  trivial, Cert.Qkv0Ideal.DA.algebraic,
  trivial, Cert.FeatIdeal.DA.algebraic,
  trivial, Cert.GProjIdeal.DA.algebraic,
  trivial, Cert.OGateIdeal.DA.algebraic,
  trivial, Cert.LoraIdeal.DA.algebraic,
  trivial, Cert.GateIdeal.DA.algebraic,
  trivial, Cert.RouterIdeal.DA.algebraic⟩

end Cert.Proof

end
